-- ==== Defs.lean ====
def Pre_Kernel2 [hPre_names_experts : Cert.Pre_names_experts.Facts] (m : (ℓ : Loc Cert.Kernel2.nD Cert.Kernel2.τ Cert.Kernel2.sig) → Buf (Elt Bits) ℓ) : Prop :=
  ∀ c : Dev Cert.Kernel2.nD,
    (Cert.Pre_names_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_names_experts : Cert.Pre_names_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_names_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal [hPre_names_experts : Cert.Pre_names_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_names_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_table_of_blocks : Cert.Pre_table_of_blocks.Facts] (m : (ℓ : Loc Cert.Kernel7.nD Cert.Kernel7.τ Cert.Kernel7.sig) → Buf (Elt Bits) ℓ) : Prop :=
  ∀ c : Dev Cert.Kernel7.nD,
    (Cert.Pre_table_of_blocks.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6)) (m ((c.tc : Thread Cert.Kernel7.nD Cert.Kernel7.τ).loc Cert.Kernel7.main_arg7)) (m ((c.tc : Thread Cert.Kernel7.nD Cert.Kernel7.τ).loc Cert.Kernel7.main_arg8)) (m ((c.tc : Thread Cert.Kernel7.nD Cert.Kernel7.τ).loc Cert.Kernel7.main_arg9)) (m ((c.tc : Thread Cert.Kernel7.nD Cert.Kernel7.τ).loc Cert.Kernel7.main_arg10)) (m ((c.tc : Thread Cert.Kernel7.nD Cert.Kernel7.τ).loc Cert.Kernel7.main_arg11))) = (fun _ => 1#1)

def Pre_Kernel7Ideal [hPre_table_of_blocks : Cert.Pre_table_of_blocks.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_table_of_blocks.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))) = (fun _ => 1#1)

def Pre_Reference7Ideal [hPre_table_of_blocks : Cert.Pre_table_of_blocks.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_table_of_blocks.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel2 [hKernel2 : Cert.Kernel2.Facts] [hPre_names_experts : Cert.Pre_names_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_names_experts : Cert.Pre_names_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_names_experts : Cert.Pre_names_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] [hPre_table_of_blocks : Cert.Pre_table_of_blocks.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] [hPre_table_of_blocks : Cert.Pre_table_of_blocks.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] [hPre_table_of_blocks : Cert.Pre_table_of_blocks.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] [hPre_names_experts : Cert.Pre_names_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v46_0)) (v1 : (c : Dev Cert.Kernel3Ideal.nD) → Buf (Elt Ideal) ((c.tc : Thread Cert.Kernel3Ideal.nD Cert.Kernel3Ideal.τ).loc Cert.Kernel3Ideal.main_v46_1)) (v2 : (c : Dev Cert.Kernel3Ideal.nD) → Buf (Elt Ideal) ((c.tc : Thread Cert.Kernel3Ideal.nD Cert.Kernel3Ideal.τ).loc Cert.Kernel3Ideal.main_v46_2)) (v3 : (c : Dev Cert.Kernel3Ideal.nD) → Buf (Elt Ideal) ((c.tc : Thread Cert.Kernel3Ideal.nD Cert.Kernel3Ideal.τ).loc Cert.Kernel3Ideal.main_v46_3)) (v4 : (c : Dev Cert.Kernel3Ideal.nD) → Buf (Elt Ideal) ((c.tc : Thread Cert.Kernel3Ideal.nD Cert.Kernel3Ideal.τ).loc Cert.Kernel3Ideal.main_v46_4)) (v5 : (c : Dev Cert.Kernel3Ideal.nD) → Buf (Elt Ideal) ((c.tc : Thread Cert.Kernel3Ideal.nD Cert.Kernel3Ideal.τ).loc Cert.Kernel3Ideal.main_v46_5)) (v6 : (c : Dev Cert.Kernel3Ideal.nD) → Buf (Elt Ideal) ((c.tc : Thread Cert.Kernel3Ideal.nD Cert.Kernel3Ideal.τ).loc Cert.Kernel3Ideal.main_v46_6)) (v7 : (c : Dev Cert.Kernel3Ideal.nD) → Buf (Elt Ideal) ((c.tc : Thread Cert.Kernel3Ideal.nD Cert.Kernel3Ideal.τ).loc Cert.Kernel3Ideal.main_v46_7)) (v8 : (c : Dev Cert.Kernel3Ideal.nD) → Buf (Elt Ideal) ((c.tc : Thread Cert.Kernel3Ideal.nD Cert.Kernel3Ideal.τ).loc Cert.Kernel3Ideal.main_v46_8)) (v9 : (c : Dev Cert.Kernel3Ideal.nD) → Buf (Elt Ideal) ((c.tc : Thread Cert.Kernel3Ideal.nD Cert.Kernel3Ideal.τ).loc Cert.Kernel3Ideal.main_v46_9)) (v10 : (c : Dev Cert.Kernel3Ideal.nD) → Buf (Elt Ideal) ((c.tc : Thread Cert.Kernel3Ideal.nD Cert.Kernel3Ideal.τ).loc Cert.Kernel3Ideal.main_v46_10)) (v11 : (c : Dev Cert.Kernel3Ideal.nD) → Buf (Elt Ideal) ((c.tc : Thread Cert.Kernel3Ideal.nD Cert.Kernel3Ideal.τ).loc Cert.Kernel3Ideal.main_v46_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46_0) = v0 c
          ∧ r.2.mem ((c.tc : Thread Cert.Kernel3Ideal.nD Cert.Kernel3Ideal.τ).loc Cert.Kernel3Ideal.main_v46_1) = v1 c
          ∧ r.2.mem ((c.tc : Thread Cert.Kernel3Ideal.nD Cert.Kernel3Ideal.τ).loc Cert.Kernel3Ideal.main_v46_2) = v2 c
          ∧ r.2.mem ((c.tc : Thread Cert.Kernel3Ideal.nD Cert.Kernel3Ideal.τ).loc Cert.Kernel3Ideal.main_v46_3) = v3 c
          ∧ r.2.mem ((c.tc : Thread Cert.Kernel3Ideal.nD Cert.Kernel3Ideal.τ).loc Cert.Kernel3Ideal.main_v46_4) = v4 c
          ∧ r.2.mem ((c.tc : Thread Cert.Kernel3Ideal.nD Cert.Kernel3Ideal.τ).loc Cert.Kernel3Ideal.main_v46_5) = v5 c
          ∧ r.2.mem ((c.tc : Thread Cert.Kernel3Ideal.nD Cert.Kernel3Ideal.τ).loc Cert.Kernel3Ideal.main_v46_6) = v6 c
          ∧ r.2.mem ((c.tc : Thread Cert.Kernel3Ideal.nD Cert.Kernel3Ideal.τ).loc Cert.Kernel3Ideal.main_v46_7) = v7 c
          ∧ r.2.mem ((c.tc : Thread Cert.Kernel3Ideal.nD Cert.Kernel3Ideal.τ).loc Cert.Kernel3Ideal.main_v46_8) = v8 c
          ∧ r.2.mem ((c.tc : Thread Cert.Kernel3Ideal.nD Cert.Kernel3Ideal.τ).loc Cert.Kernel3Ideal.main_v46_9) = v9 c
          ∧ r.2.mem ((c.tc : Thread Cert.Kernel3Ideal.nD Cert.Kernel3Ideal.τ).loc Cert.Kernel3Ideal.main_v46_10) = v10 c
          ∧ r.2.mem ((c.tc : Thread Cert.Kernel3Ideal.nD Cert.Kernel3Ideal.τ).loc Cert.Kernel3Ideal.main_v46_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_v103) = v1 c
          ∧ r.2.mem ((c.tc : Thread Cert.Reference3Ideal.nD Cert.Reference3Ideal.τ).loc Cert.Reference3Ideal.main_v104) = v2 c
          ∧ r.2.mem ((c.tc : Thread Cert.Reference3Ideal.nD Cert.Reference3Ideal.τ).loc Cert.Reference3Ideal.main_v106) = v3 c
          ∧ r.2.mem ((c.tc : Thread Cert.Reference3Ideal.nD Cert.Reference3Ideal.τ).loc Cert.Reference3Ideal.main_v4) = v4 c
          ∧ r.2.mem ((c.tc : Thread Cert.Reference3Ideal.nD Cert.Reference3Ideal.τ).loc Cert.Reference3Ideal.main_v108) = v5 c
          ∧ r.2.mem ((c.tc : Thread Cert.Reference3Ideal.nD Cert.Reference3Ideal.τ).loc Cert.Reference3Ideal.main_v117) = v6 c
          ∧ r.2.mem ((c.tc : Thread Cert.Reference3Ideal.nD Cert.Reference3Ideal.τ).loc Cert.Reference3Ideal.main_v119) = v7 c
          ∧ r.2.mem ((c.tc : Thread Cert.Reference3Ideal.nD Cert.Reference3Ideal.τ).loc Cert.Reference3Ideal.main_v120) = v8 c
          ∧ r.2.mem ((c.tc : Thread Cert.Reference3Ideal.nD Cert.Reference3Ideal.τ).loc Cert.Reference3Ideal.main_v121) = v9 c
          ∧ r.2.mem ((c.tc : Thread Cert.Reference3Ideal.nD Cert.Reference3Ideal.τ).loc Cert.Reference3Ideal.main_v122) = v10 c
          ∧ r.2.mem ((c.tc : Thread Cert.Reference3Ideal.nD Cert.Reference3Ideal.τ).loc Cert.Reference3Ideal.main_v124) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v49_0)) (v1 : (c : Dev Cert.Kernel4Ideal.nD) → Buf (Elt Ideal) ((c.tc : Thread Cert.Kernel4Ideal.nD Cert.Kernel4Ideal.τ).loc Cert.Kernel4Ideal.main_v49_1)) (v2 : (c : Dev Cert.Kernel4Ideal.nD) → Buf (Elt Ideal) ((c.tc : Thread Cert.Kernel4Ideal.nD Cert.Kernel4Ideal.τ).loc Cert.Kernel4Ideal.main_v49_2)) (v3 : (c : Dev Cert.Kernel4Ideal.nD) → Buf (Elt Ideal) ((c.tc : Thread Cert.Kernel4Ideal.nD Cert.Kernel4Ideal.τ).loc Cert.Kernel4Ideal.main_v49_3)) (v4 : (c : Dev Cert.Kernel4Ideal.nD) → Buf (Elt Ideal) ((c.tc : Thread Cert.Kernel4Ideal.nD Cert.Kernel4Ideal.τ).loc Cert.Kernel4Ideal.main_v49_4)) (v5 : (c : Dev Cert.Kernel4Ideal.nD) → Buf (Elt Ideal) ((c.tc : Thread Cert.Kernel4Ideal.nD Cert.Kernel4Ideal.τ).loc Cert.Kernel4Ideal.main_v49_5)) (v6 : (c : Dev Cert.Kernel4Ideal.nD) → Buf (Elt Ideal) ((c.tc : Thread Cert.Kernel4Ideal.nD Cert.Kernel4Ideal.τ).loc Cert.Kernel4Ideal.main_v49_6)) (v7 : (c : Dev Cert.Kernel4Ideal.nD) → Buf (Elt Ideal) ((c.tc : Thread Cert.Kernel4Ideal.nD Cert.Kernel4Ideal.τ).loc Cert.Kernel4Ideal.main_v49_7)) (v8 : (c : Dev Cert.Kernel4Ideal.nD) → Buf (Elt Ideal) ((c.tc : Thread Cert.Kernel4Ideal.nD Cert.Kernel4Ideal.τ).loc Cert.Kernel4Ideal.main_v49_8)) (v9 : (c : Dev Cert.Kernel4Ideal.nD) → Buf (Elt Ideal) ((c.tc : Thread Cert.Kernel4Ideal.nD Cert.Kernel4Ideal.τ).loc Cert.Kernel4Ideal.main_v49_9)) (v10 : (c : Dev Cert.Kernel4Ideal.nD) → Buf (Elt Ideal) ((c.tc : Thread Cert.Kernel4Ideal.nD Cert.Kernel4Ideal.τ).loc Cert.Kernel4Ideal.main_v49_10)) (v11 : (c : Dev Cert.Kernel4Ideal.nD) → Buf (Elt Ideal) ((c.tc : Thread Cert.Kernel4Ideal.nD Cert.Kernel4Ideal.τ).loc Cert.Kernel4Ideal.main_v49_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v49_0) = v0 c
          ∧ r.2.mem ((c.tc : Thread Cert.Kernel4Ideal.nD Cert.Kernel4Ideal.τ).loc Cert.Kernel4Ideal.main_v49_1) = v1 c
          ∧ r.2.mem ((c.tc : Thread Cert.Kernel4Ideal.nD Cert.Kernel4Ideal.τ).loc Cert.Kernel4Ideal.main_v49_2) = v2 c
          ∧ r.2.mem ((c.tc : Thread Cert.Kernel4Ideal.nD Cert.Kernel4Ideal.τ).loc Cert.Kernel4Ideal.main_v49_3) = v3 c
          ∧ r.2.mem ((c.tc : Thread Cert.Kernel4Ideal.nD Cert.Kernel4Ideal.τ).loc Cert.Kernel4Ideal.main_v49_4) = v4 c
          ∧ r.2.mem ((c.tc : Thread Cert.Kernel4Ideal.nD Cert.Kernel4Ideal.τ).loc Cert.Kernel4Ideal.main_v49_5) = v5 c
          ∧ r.2.mem ((c.tc : Thread Cert.Kernel4Ideal.nD Cert.Kernel4Ideal.τ).loc Cert.Kernel4Ideal.main_v49_6) = v6 c
          ∧ r.2.mem ((c.tc : Thread Cert.Kernel4Ideal.nD Cert.Kernel4Ideal.τ).loc Cert.Kernel4Ideal.main_v49_7) = v7 c
          ∧ r.2.mem ((c.tc : Thread Cert.Kernel4Ideal.nD Cert.Kernel4Ideal.τ).loc Cert.Kernel4Ideal.main_v49_8) = v8 c
          ∧ r.2.mem ((c.tc : Thread Cert.Kernel4Ideal.nD Cert.Kernel4Ideal.τ).loc Cert.Kernel4Ideal.main_v49_9) = v9 c
          ∧ r.2.mem ((c.tc : Thread Cert.Kernel4Ideal.nD Cert.Kernel4Ideal.τ).loc Cert.Kernel4Ideal.main_v49_10) = v10 c
          ∧ r.2.mem ((c.tc : Thread Cert.Kernel4Ideal.nD Cert.Kernel4Ideal.τ).loc Cert.Kernel4Ideal.main_v49_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v103) = v0 c
          ∧ r.2.mem ((c.tc : Thread Cert.Reference4Ideal.nD Cert.Reference4Ideal.τ).loc Cert.Reference4Ideal.main_v105) = v1 c
          ∧ r.2.mem ((c.tc : Thread Cert.Reference4Ideal.nD Cert.Reference4Ideal.τ).loc Cert.Reference4Ideal.main_v106) = v2 c
          ∧ r.2.mem ((c.tc : Thread Cert.Reference4Ideal.nD Cert.Reference4Ideal.τ).loc Cert.Reference4Ideal.main_v108) = v3 c
          ∧ r.2.mem ((c.tc : Thread Cert.Reference4Ideal.nD Cert.Reference4Ideal.τ).loc Cert.Reference4Ideal.main_v109) = v4 c
          ∧ r.2.mem ((c.tc : Thread Cert.Reference4Ideal.nD Cert.Reference4Ideal.τ).loc Cert.Reference4Ideal.main_v112) = v5 c
          ∧ r.2.mem ((c.tc : Thread Cert.Reference4Ideal.nD Cert.Reference4Ideal.τ).loc Cert.Reference4Ideal.main_v121) = v6 c
          ∧ r.2.mem ((c.tc : Thread Cert.Reference4Ideal.nD Cert.Reference4Ideal.τ).loc Cert.Reference4Ideal.main_v123) = v7 c
          ∧ r.2.mem ((c.tc : Thread Cert.Reference4Ideal.nD Cert.Reference4Ideal.τ).loc Cert.Reference4Ideal.main_v125) = v8 c
          ∧ r.2.mem ((c.tc : Thread Cert.Reference4Ideal.nD Cert.Reference4Ideal.τ).loc Cert.Reference4Ideal.main_v127) = v9 c
          ∧ r.2.mem ((c.tc : Thread Cert.Reference4Ideal.nD Cert.Reference4Ideal.τ).loc Cert.Reference4Ideal.main_v129) = v10 c
          ∧ r.2.mem ((c.tc : Thread Cert.Reference4Ideal.nD Cert.Reference4Ideal.τ).loc Cert.Reference4Ideal.main_v132) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v111) = v0 c
          ∧ r.2.mem ((c.tc : Thread Cert.Reference6Ideal.nD Cert.Reference6Ideal.τ).loc Cert.Reference6Ideal.main_v112) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  IdealRules.named_const.Statement Cert.Kernel7Ideal.κ "mask" .f32 0xF149F2CA#32 ⊥
  ∧ IdealRules.named_const.Statement Cert.Kernel7Ideal.κ "floor" .f32 0xC2D00000#32 ⊥

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v111) = v0 c
          ∧ r.2.mem ((c.tc : Thread Cert.Reference8Ideal.nD Cert.Reference8Ideal.τ).loc Cert.Reference8Ideal.main_v112) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)) (v3 : (c : Dev Cert.Kernel9Ideal.nD) → Buf (Elt Ideal) ((c.tc : Thread Cert.Kernel9Ideal.nD Cert.Kernel9Ideal.τ).loc Cert.Kernel9Ideal.main_v2_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_v2_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v135) = v0 c
          ∧ r.2.mem ((c.tc : Thread Cert.Reference9Ideal.nD Cert.Reference9Ideal.τ).loc Cert.Reference9Ideal.main_v144) = v1 c
          ∧ r.2.mem ((c.tc : Thread Cert.Reference9Ideal.nD Cert.Reference9Ideal.τ).loc Cert.Reference9Ideal.main_v149) = v2 c
          ∧ r.2.mem ((c.tc : Thread Cert.Reference9Ideal.nD Cert.Reference9Ideal.τ).loc Cert.Reference9Ideal.main_v151) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_names_experts : Cert.Pre_names_experts.Facts) (hPre_table_of_blocks : Cert.Pre_table_of_blocks.Facts),
    quiescent_Kernel2 (hKernel2 := hKernel2) (hPre_names_experts := hPre_names_experts)
    ∧ quiescent_Kernel2Ideal (hKernel2Ideal := hKernel2Ideal) (hPre_names_experts := hPre_names_experts)
    ∧ quiescent_Reference2Ideal (hReference2Ideal := hReference2Ideal) (hPre_names_experts := hPre_names_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_table_of_blocks := hPre_table_of_blocks)
    ∧ quiescent_Kernel7Ideal (hKernel7Ideal := hKernel7Ideal) (hPre_table_of_blocks := hPre_table_of_blocks)
    ∧ quiescent_Reference7Ideal (hReference7Ideal := hReference7Ideal) (hPre_table_of_blocks := hPre_table_of_blocks)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel2_Kernel2Ideal
    ∧ algebraic_Kernel2Ideal_Reference2Ideal (hKernel2Ideal := hKernel2Ideal) (hReference2Ideal := hReference2Ideal) (hPre_names_experts := hPre_names_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_names_experts.lean ====
abbrev S75776x1024 : Shape := ⟨2, ![75776, 1024]⟩
abbrev S296 : Shape := ⟨1, ![296]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S296 : S_.BroadcastsInDim S296 (![] : Fin 0 → Fin S296.rank)

variable [Facts]

def fn {F : FTy → Type} [FloatOps F] (main_arg0 : FVec F S75776x1024 .f32) (main_arg1 : IVec S296 32) (main_arg2 : FVec F S32x1024x1024 .bf16) (main_arg3 : FVec F S32x1x1024 .f32) (main_arg4 : FVec F S32x1024x1024 .bf16) (main_arg5 : FVec F S32x1x1024 .f32) (main_arg6 : FVec F S32x1024x1024 .bf16) (main_arg7 : FVec F S32x1x1024 .f32) : IVec S296 1 :=
  let main_c : IVec S_ 32 := constantI S_ 32 0#32
  let main_v0 : IVec S296 32 := broadcastInDim S296 ![] bcast_S_S296 main_c
  let main_v1 : IVec S296 1 := cmpi .sge main_arg1 main_v0
  let main_c_0 : IVec S_ 32 := constantI S_ 32 32#32
  let main_v2 : IVec S296 32 := broadcastInDim S296 ![] bcast_S_S296 main_c_0
  let main_v3 : IVec S296 1 := cmpi .slt main_arg1 main_v2
  let main_v4 : IVec S296 1 := andi main_v1 main_v3
  main_v4
-- ==== Pre_table_of_blocks.lean ====
abbrev S136 : Shape := ⟨1, ![136]⟩
abbrev S4x4096x1024 : Shape := ⟨3, ![4, 4096, 1024]⟩
abbrev S4x4096x512 : Shape := ⟨3, ![4, 4096, 512]⟩
abbrev S4x512x4096 : Shape := ⟨3, ![4, 512, 4096]⟩
abbrev S1x64 : Shape := ⟨2, ![1, 64]⟩
abbrev S272 : Shape := ⟨1, ![272]⟩

class Facts : Prop where
  concatenates_S136_S136_S272_d0 : Shape.Concatenates [S136, S136] S272 0

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 1#32 | 2 => 0#32 | 3 => 2#32 | 4 => 1#32 | 5 => 0#32 | 6 => 3#32 | 7 => 2#32
  | 8 => 1#32 | 9 => 0#32 | 10 => 4#32 | 11 => 3#32 | 12 => 2#32 | 13 => 1#32 | 14 => 0#32 | 15 => 5#32
  | 16 => 4#32 | 17 => 3#32 | 18 => 2#32 | 19 => 1#32 | 20 => 0#32 | 21 => 6#32 | 22 => 5#32 | 23 => 4#32
  | 24 => 3#32 | 25 => 2#32 | 26 => 1#32 | 27 => 0#32 | 28 => 7#32 | 29 => 6#32 | 30 => 5#32 | 31 => 4#32
  | 32 => 3#32 | 33 => 2#32 | 34 => 1#32 | 35 => 0#32 | 36 => 8#32 | 37 => 7#32 | 38 => 6#32 | 39 => 5#32
  | 40 => 4#32 | 41 => 3#32 | 42 => 2#32 | 43 => 1#32 | 44 => 0#32 | 45 => 9#32 | 46 => 8#32 | 47 => 7#32
  | 48 => 6#32 | 49 => 5#32 | 50 => 4#32 | 51 => 3#32 | 52 => 2#32 | 53 => 1#32 | 54 => 0#32 | 55 => 10#32
  | 56 => 9#32 | 57 => 8#32 | 58 => 7#32 | 59 => 6#32 | 60 => 5#32 | 61 => 4#32 | 62 => 3#32 | 63 => 2#32
  | 64 => 1#32 | 65 => 0#32 | 66 => 11#32 | 67 => 10#32 | 68 => 9#32 | 69 => 8#32 | 70 => 7#32 | 71 => 6#32
  | 72 => 5#32 | 73 => 4#32 | 74 => 3#32 | 75 => 2#32 | 76 => 1#32 | 77 => 0#32 | 78 => 12#32 | 79 => 11#32
  | 80 => 10#32 | 81 => 9#32 | 82 => 8#32 | 83 => 7#32 | 84 => 6#32 | 85 => 5#32 | 86 => 4#32 | 87 => 3#32
  | 88 => 2#32 | 89 => 1#32 | 90 => 0#32 | 91 => 13#32 | 92 => 12#32 | 93 => 11#32 | 94 => 10#32 | 95 => 9#32
  | 96 => 8#32 | 97 => 7#32 | 98 => 6#32 | 99 => 5#32 | 100 => 4#32 | 101 => 3#32 | 102 => 2#32 | 103 => 1#32
  | 104 => 0#32 | 105 => 14#32 | 106 => 13#32 | 107 => 12#32 | 108 => 11#32 | 109 => 10#32 | 110 => 9#32 | 111 => 8#32
  | 112 => 7#32 | 113 => 6#32 | 114 => 5#32 | 115 => 4#32 | 116 => 3#32 | 117 => 2#32 | 118 => 1#32 | 119 => 0#32
  | 120 => 15#32 | 121 => 14#32 | 122 => 13#32 | 123 => 12#32 | 124 => 11#32 | 125 => 10#32 | 126 => 9#32 | 127 => 8#32
  | 128 => 7#32 | 129 => 6#32 | 130 => 5#32 | 131 => 4#32 | 132 => 3#32 | 133 => 2#32 | 134 => 1#32 | 135 => 0#32
  | _ => 0#32

def fn {F : FTy → Type} [FloatOps F] (main_arg0 : IVec S136 32) (main_arg1 : IVec S136 32) (main_arg2 : FVec F S4x4096x1024 .bf16) (main_arg3 : FVec F S4x4096x512 .bf16) (main_arg4 : FVec F S4x512x4096 .bf16) (main_arg5 : FVec F S4x4096x1024 .bf16) (main_arg6 : FVec F S4x4096x512 .bf16) (main_arg7 : FVec F S4x512x4096 .bf16) (main_arg8 : FVec F S1x64 .f32) (main_arg9 : FVec F S1x64 .f32) (main_arg10 : FVec F S1x64 .f32) (main_arg11 : FVec F S1x64 .f32) : IVec S272 1 :=
  let main_c : IVec S136 32 := fun i => lit0 (S136.rowMajor i)
  let main_c_0 : IVec S136 32 := fun i => lit1 (S136.rowMajor i)
  let main_v0 : IVec S136 1 := cmpi .eq main_arg0 main_c
  let main_v1 : IVec S136 1 := cmpi .eq main_arg1 main_c_0
  let main_v2 : IVec S272 1 := (fun a b => concatenate S272 0 [⟨S136, a⟩, ⟨S136, b⟩] concatenates_S136_S136_S272_d0) main_v0 main_v1
  main_v2
-- ==== Kernel2.lean ====
abbrev S75776x1024 : Shape := ⟨2, ![75776, 1024]⟩
abbrev S296 : Shape := ⟨1, ![296]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1 : Shape := ⟨1, ![1]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 16
  | .smem => 1
  | _ => 0

abbrev bufTy : (tb : Table) → Fin (tcTables nBuf tb) → BufTy
  | .hbm, ⟨0, _⟩ => ⟨S75776x1024, .f32⟩
  | .hbm, ⟨1, _⟩ => ⟨S32x1024x1024, .bf16⟩
  | .hbm, ⟨2, _⟩ => ⟨S32x1x1024, .f32⟩
  | .hbm, ⟨3, _⟩ => ⟨S32x1024x1024, .bf16⟩
  | .hbm, ⟨4, _⟩ => ⟨S32x1x1024, .f32⟩
  | .hbm, ⟨5, _⟩ => ⟨S32x1024x1024, .bf16⟩
  | .hbm, ⟨6, _⟩ => ⟨S32x1x1024, .f32⟩
  | .hbm, ⟨7, _⟩ => ⟨S75776x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S296, .i32⟩
  | _, _ => ⟨S75776x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![296], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S75776x1024 : Shape := ⟨2, ![75776, 1024]⟩
abbrev S296 : Shape := ⟨1, ![296]⟩
abbrev S32x1024x1024 : Shape := ⟨3, ![32, 1024, 1024]⟩
abbrev S32x1x1024 : Shape := ⟨3, ![32, 1, 1024]⟩
abbrev S296x256x1024 : Shape := ⟨3, ![296, 256, 1024]⟩
abbrev S_ : Shape := ⟨0, ![]⟩
abbrev S296x1 : Shape := ⟨2, ![296, 1]⟩
abbrev S296x1024x1024 : Shape := ⟨3, ![296, 1024, 1024]⟩
abbrev S296x1x1024 : Shape := ⟨3, ![296, 1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S75776x1024, .f32⟩
  | .hbm, ⟨1, _⟩ => ⟨S296, .i32⟩
  | .hbm, ⟨2, _⟩ => ⟨S32x1024x1024, .bf16⟩
  | .hbm, ⟨3, _⟩ => ⟨S32x1x1024, .f32⟩
  | .hbm, ⟨4, _⟩ => ⟨S32x1024x1024, .bf16⟩
  | .hbm, ⟨5, _⟩ => ⟨S32x1x1024, .f32⟩
  | .hbm, ⟨6, _⟩ => ⟨S32x1024x1024, .bf16⟩
  | .hbm, ⟨7, _⟩ => ⟨S32x1x1024, .f32⟩
  | .hbm, ⟨8, _⟩ => ⟨S296x256x1024, .f32⟩
  | .hbm, ⟨9, _⟩ => ⟨S32x1024x1024, .f32⟩
  | .hbm, ⟨10, _⟩ => ⟨S_, .i32⟩
  | .hbm, ⟨11, _⟩ => ⟨S296, .i32⟩
  | .hbm, ⟨12, _⟩ => ⟨S296, .i1⟩
  | .hbm, ⟨13, _⟩ => ⟨S_, .i32⟩
  | .hbm, ⟨14, _⟩ => ⟨S296, .i32⟩
  | .hbm, ⟨15, _⟩ => ⟨S296, .i32⟩
  | .hbm, ⟨16, _⟩ => ⟨S296, .i32⟩
  | .hbm, ⟨17, _⟩ => ⟨S296x1, .i32⟩
  | .hbm, ⟨18, _⟩ => ⟨S296x1024x1024, .f32⟩
  | .hbm, ⟨19, _⟩ => ⟨S32x1024x1024, .f32⟩
  | .hbm, ⟨20, _⟩ => ⟨S_, .i32⟩
  | .hbm, ⟨21, _⟩ => ⟨S296, .i32⟩
  | .hbm, ⟨22, _⟩ => ⟨S296, .i1⟩
  | .hbm, ⟨23, _⟩ => ⟨S_, .i32⟩
  | .hbm, ⟨24, _⟩ => ⟨S296, .i32⟩
  | .hbm, ⟨25, _⟩ => ⟨S296, .i32⟩
  | .hbm, ⟨26, _⟩ => ⟨S296, .i32⟩
  | .hbm, ⟨27, _⟩ => ⟨S296x1, .i32⟩
  | .hbm, ⟨28, _⟩ => ⟨S296x1024x1024, .f32⟩
  | .hbm, ⟨29, _⟩ => ⟨S32x1024x1024, .f32⟩
  | .hbm, ⟨30, _⟩ => ⟨S_, .i32⟩
  | .hbm, ⟨31, _⟩ => ⟨S296, .i32⟩
  | .hbm, ⟨32, _⟩ => ⟨S296, .i1⟩
  | .hbm, ⟨33, _⟩ => ⟨S_, .i32⟩
  | .hbm, ⟨34, _⟩ => ⟨S296, .i32⟩
  | .hbm, ⟨35, _⟩ => ⟨S296, .i32⟩
  | .hbm, ⟨36, _⟩ => ⟨S296, .i32⟩
  | .hbm, ⟨37, _⟩ => ⟨S296x1, .i32⟩
  | .hbm, ⟨38, _⟩ => ⟨S296x1024x1024, .f32⟩
  | .hbm, ⟨39, _⟩ => ⟨S296x256x1024, .f32⟩
  | .hbm, ⟨40, _⟩ => ⟨S_, .i32⟩
  | .hbm, ⟨41, _⟩ => ⟨S296, .i32⟩
  | .hbm, ⟨42, _⟩ => ⟨S296, .i1⟩
  | .hbm, ⟨43, _⟩ => ⟨S_, .i32⟩
  | .hbm, ⟨44, _⟩ => ⟨S296, .i32⟩
  | .hbm, ⟨45, _⟩ => ⟨S296, .i32⟩
  | .hbm, ⟨46, _⟩ => ⟨S296, .i32⟩
  | .hbm, ⟨47, _⟩ => ⟨S296x1, .i32⟩
  | .hbm, ⟨48, _⟩ => ⟨S296x1x1024, .f32⟩
  | .hbm, ⟨49, _⟩ => ⟨S296x256x1024, .f32⟩
  | .hbm, ⟨50, _⟩ => ⟨S296x256x1024, .f32⟩
  | .hbm, ⟨51, _⟩ => ⟨S_, .f32⟩
  | .hbm, ⟨52, _⟩ => ⟨S296x256x1024, .f32⟩
  | .hbm, ⟨53, _⟩ => ⟨S296x256x1024, .f32⟩
  | .hbm, ⟨54, _⟩ => ⟨S296x256x1024, .f32⟩
  | .hbm, ⟨55, _⟩ => ⟨S_, .i32⟩
  | .hbm, ⟨56, _⟩ => ⟨S296, .i32⟩
  | .hbm, ⟨57, _⟩ => ⟨S296, .i1⟩
  | .hbm, ⟨58, _⟩ => ⟨S_, .i32⟩
  | .hbm, ⟨59, _⟩ => ⟨S296, .i32⟩
  | .hbm, ⟨60, _⟩ => ⟨S296, .i32⟩
  | .hbm, ⟨61, _⟩ => ⟨S296, .i32⟩
  | .hbm, ⟨62, _⟩ => ⟨S296x1, .i32⟩
  | .hbm, ⟨63, _⟩ => ⟨S296x1x1024, .f32⟩
  | .hbm, ⟨64, _⟩ => ⟨S296x256x1024, .f32⟩
  | .hbm, ⟨65, _⟩ => ⟨S296x256x1024, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S296x256x1024, .f32⟩
  | .hbm, ⟨70, _⟩ => ⟨S296x256x1024, .f32⟩
  | .hbm, ⟨71, _⟩ => ⟨S_, .f32⟩
  | .hbm, ⟨72, _⟩ => ⟨S296x256x1024, .f32⟩
  | .hbm, ⟨73, _⟩ => ⟨S296x256x1024, .f32⟩
  | .hbm, ⟨74, _⟩ => ⟨S_, .f32⟩
  | .hbm, ⟨75, _⟩ => ⟨S296x256x1024, .f32⟩
  | .hbm, ⟨76, _⟩ => ⟨S296x256x1024, .f32⟩
  | .hbm, ⟨77, _⟩ => ⟨S296x256x1024, .f32⟩
  | .hbm, ⟨78, _⟩ => ⟨S_, .f32⟩
  | .hbm, ⟨79, _⟩ => ⟨S296x256x1024, .f32⟩
  | .hbm, ⟨80, _⟩ => ⟨S296x256x1024, .f32⟩
  | .hbm, ⟨81, _⟩ => ⟨S296x256x1024, .f32⟩
  | .hbm, ⟨82, _⟩ => ⟨S296x256x1024, .f32⟩
  | .hbm, ⟨83, _⟩ => ⟨S_, .f32⟩
  | .hbm, ⟨84, _⟩ => ⟨S296x256x1024, .f32⟩
  | .hbm, ⟨85, _⟩ => ⟨S296x256x1024, .f32⟩
  | .hbm, ⟨86, _⟩ => ⟨S_, .f32⟩
  | .hbm, ⟨87, _⟩ => ⟨S296x256x1024, .f32⟩
  | .hbm, ⟨88, _⟩ => ⟨S296x256x1024, .f32⟩
  | .hbm, ⟨89, _⟩ => ⟨S296x256x1024, .f32⟩
  | .hbm, ⟨90, _⟩ => ⟨S296x256x1024, .f32⟩
  | .hbm, ⟨91, _⟩ => ⟨S_, .i32⟩
  | .hbm, ⟨92, _⟩ => ⟨S296, .i32⟩
  | .hbm, ⟨93, _⟩ => ⟨S296, .i1⟩
  | .hbm, ⟨94, _⟩ => ⟨S_, .i32⟩
  | .hbm, ⟨95, _⟩ => ⟨S296, .i32⟩
  | .hbm, ⟨96, _⟩ => ⟨S296, .i32⟩
  | .hbm, ⟨97, _⟩ => ⟨S296, .i32⟩
  | .hbm, ⟨98, _⟩ => ⟨S296x1, .i32⟩
  | .hbm, ⟨99, _⟩ => ⟨S296x1x1024, .f32⟩
  | .hbm, ⟨100, _⟩ => ⟨S296x256x1024, .f32⟩
  | .hbm, ⟨101, _⟩ => ⟨S296x256x1024, .f32⟩
  | .hbm, ⟨102, _⟩ => ⟨S75776x1024, .f32⟩
  | _, _ => ⟨S75776x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_c_16 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x3072 : Shape := ⟨2, ![1024, 3072]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S1024x2560 : Shape := ⟨2, ![1024, 2560]⟩
abbrev S1024x512 : Shape := ⟨2, ![1024, 512]⟩
abbrev S1024x1024 : Shape := ⟨2, ![1024, 1024]⟩
abbrev S1024x1536 : Shape := ⟨2, ![1024, 1536]⟩
abbrev S1536x1024 : Shape := ⟨2, ![1536, 1024]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S16384x56 : Shape := ⟨2, ![16384, 56]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S4x4096x512 : Shape := ⟨3, ![4, 4096, 512]⟩
abbrev S4x512x4096 : Shape := ⟨3, ![4, 512, 4096]⟩
abbrev S1x512x1024 : Shape := ⟨3, ![1, 512, 1024]⟩
abbrev S512x128 : Shape := ⟨2, ![512, 128]⟩
abbrev S1x512x512 : Shape := ⟨3, ![1, 512, 512]⟩
abbrev S512x1024 : Shape := ⟨2, ![512, 1024]⟩
abbrev S512x512 : Shape := ⟨2, ![512, 512]⟩
abbrev S1536x512 : Shape := ⟨2, ![1536, 512]⟩

abbrev nBuf : Space → Nat
  | .hbm => 68
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S4096, .i32⟩
  | .hbm, ⟨3, _⟩ => ⟨S1x4096, .i32⟩
  | .hbm, ⟨4, _⟩ => ⟨S4x4096, .i32⟩
  | .hbm, ⟨5, _⟩ => ⟨S16384, .i32⟩
  | .hbm, ⟨6, _⟩ => ⟨S1024x2560, .f32⟩
  | .hbm, ⟨7, _⟩ => ⟨S1024x2560, .bf16⟩
  | .hbm, ⟨8, _⟩ => ⟨S1024x512, .f32⟩
  | .hbm, ⟨9, _⟩ => ⟨S1024x1024, .f32⟩
  | .hbm, ⟨10, _⟩ => ⟨S1024x1536, .f32⟩
  | .hbm, ⟨11, _⟩ => ⟨S1536x1024, .f32⟩
  | .hbm, ⟨12, _⟩ => ⟨S1536x1024, .bf16⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S16384, .f32⟩
  | .hbm, ⟨28, _⟩ => ⟨S16384x1, .f32⟩
  | .hbm, ⟨29, _⟩ => ⟨S1x8, .f32⟩
  | .hbm, ⟨30, _⟩ => ⟨S16384x8, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S_, .f32⟩
  | .hbm, ⟨36, _⟩ => ⟨S16384x48, .f32⟩
  | .hbm, ⟨37, _⟩ => ⟨S16384x64, .f32⟩
  | .hbm, ⟨38, _⟩ => ⟨S16384x8, .f32⟩
  | .hbm, ⟨39, _⟩ => ⟨S_, .f32⟩
  | .hbm, ⟨40, _⟩ => ⟨S16384x56, .f32⟩
  | .hbm, ⟨41, _⟩ => ⟨S16384x64, .f32⟩
  | .hbm, ⟨42, _⟩ => ⟨S_, .f32⟩
  | .hbm, ⟨43, _⟩ => ⟨S16384x8, .f32⟩
  | .hbm, ⟨44, _⟩ => ⟨S_, .f32⟩
  | .hbm, ⟨45, _⟩ => ⟨S16384x48, .f32⟩
  | .hbm, ⟨46, _⟩ => ⟨S16384x64, .f32⟩
  | .hbm, ⟨47, _⟩ => ⟨S1x16384x1x64, .f32⟩
  | .hbm, ⟨48, _⟩ => ⟨S1x16384x2x64, .f32⟩
  | .hbm, ⟨49, _⟩ => ⟨S16384x128, .f32⟩
  | .hbm, ⟨50, _⟩ => ⟨S1x16384x1x64, .f32⟩
  | .hbm, ⟨51, _⟩ => ⟨S1x16384x2x64, .f32⟩
  | .hbm, ⟨52, _⟩ => ⟨S16384x128, .f32⟩
  | .hbm, ⟨53, _⟩ => ⟨S1x16384x1x64, .f32⟩
  | .hbm, ⟨54, _⟩ => ⟨S1x16384x2x64, .f32⟩
  | .hbm, ⟨55, _⟩ => ⟨S16384x128, .f32⟩
  | .hbm, ⟨56, _⟩ => ⟨S4x4096x1024, .bf16⟩
  | .hbm, ⟨57, _⟩ => ⟨S4x4096x512, .bf16⟩
  | .hbm, ⟨58, _⟩ => ⟨S4x4096x512, .f32⟩
  | .hbm, ⟨59, _⟩ => ⟨S4x4096x512, .bf16⟩
  | .hbm, ⟨60, _⟩ => ⟨S4x4096x512, .f32⟩
  | .hbm, ⟨61, _⟩ => ⟨S4x512x4096, .bf16⟩
  | .hbm, ⟨62, _⟩ => ⟨S4x4096x1024, .bf16⟩
  | .hbm, ⟨63, _⟩ => ⟨S4x4096x512, .bf16⟩
  | .hbm, ⟨64, _⟩ => ⟨S4x4096x512, .bf16⟩
  | .hbm, ⟨65, _⟩ => ⟨S4x512x4096, .f32⟩
  | .hbm, ⟨66, _⟩ => ⟨S4x512x4096, .f32⟩
  | .hbm, ⟨67, _⟩ => ⟨S4x512x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S1536x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .f32⟩
  | .local _ .vmem, ⟨19, _⟩ => ⟨S1x512x512, .f32⟩
  | .local _ .vmem, ⟨20, _⟩ => ⟨S1x512x512, .bf16⟩
  | .local _ .vmem, ⟨21, _⟩ => ⟨S1x512x512, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | .local _ .vmem, ⟨32, _⟩ => ⟨S1x512x512, .bf16⟩
  | .local _ .vmem, ⟨33, _⟩ => ⟨S1x512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev main_v46_3 : Ref sig .tc := ⟨.hbm, 59, rfl⟩
abbrev main_v46_4 : Ref sig .tc := ⟨.hbm, 60, rfl⟩
abbrev main_v46_5 : Ref sig .tc := ⟨.hbm, 61, rfl⟩
abbrev main_v46_6 : Ref sig .tc := ⟨.hbm, 62, rfl⟩
abbrev main_v46_7 : Ref sig .tc := ⟨.hbm, 63, rfl⟩
abbrev main_v46_8 : Ref sig .tc := ⟨.hbm, 64, rfl⟩
abbrev main_v46_9 : Ref sig .tc := ⟨.hbm, 65, rfl⟩
abbrev main_v46_10 : Ref sig .tc := ⟨.hbm, 66, rfl⟩
abbrev main_v46_11 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S4x4096x1024 : Shape := ⟨3, ![4, 4096, 1024]⟩
abbrev S1024x3072 : Shape := ⟨2, ![1024, 3072]⟩
abbrev S4096 : Shape := ⟨1, ![4096]⟩
abbrev S4x4096x3072 : Shape := ⟨3, ![4, 4096, 3072]⟩
abbrev S4x4096x512 : Shape := ⟨3, ![4, 4096, 512]⟩
abbrev S4x4096x8x64 : Shape := ⟨4, ![4, 4096, 8, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x8x8 : Shape := ⟨4, ![4, 4096, 8, 8]⟩
abbrev S1x4096x1x8 : Shape := ⟨4, ![1, 4096, 1, 8]⟩
abbrev S4x4096x8x16 : Shape := ⟨4, ![4, 4096, 8, 16]⟩
abbrev S4x4096x8x48 : Shape := ⟨4, ![4, 4096, 8, 48]⟩
abbrev S4x4096x4x2x64 : Shape := ⟨5, ![4, 4096, 4, 2, 64]⟩
abbrev S4x4096x4x64 : Shape := ⟨4, ![4, 4096, 4, 64]⟩
abbrev S4x4096x4x1x64 : Shape := ⟨5, ![4, 4096, 4, 1, 64]⟩
abbrev S4x4096x4x256 : Shape := ⟨4, ![4, 4096, 4, 256]⟩
abbrev S4x512x4096 : Shape := ⟨3, ![4, 512, 4096]⟩

abbrev nBuf : Space → Nat
  | .hbm => 139
  | .vmem => 0
  | .smem => 0
  | _ => 0

abbrev hbmTy0_0 (i : Nat) : BufTy := match i % 128 with
  | 0 => ⟨S4x4096x1024, .f32⟩
  | 1 => ⟨S1024x3072, .f32⟩
  | 2 => ⟨S4096, .i32⟩
  | 3 => ⟨S4x4096x3072, .f32⟩
  | 4 => ⟨S4x4096x512, .f32⟩
  | 5 => ⟨S4x4096x512, .f32⟩
  | 6 => ⟨S4x4096x512, .f32⟩
  | 7 => ⟨S4x4096x512, .f32⟩
  | 8 => ⟨S4x4096x512, .f32⟩
  | 9 => ⟨S4x4096x512, .f32⟩
  | 10 => ⟨S4x4096x8x64, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S4096, .f32⟩
  | 26 => ⟨S4096x1, .f32⟩
  | 27 => ⟨S1x8, .f32⟩
  | 28 => ⟨S4096x8, .f32⟩
  | 29 => ⟨S4096x8, .f32⟩
  | 30 => ⟨S4096x8, .f32⟩
  | 31 => ⟨S4096x8, .f32⟩
  | 32 => ⟨S4096x1x8, .f32⟩
  | 33 => ⟨S4096x8, .f32⟩
  | 34 => ⟨S4096x1x8, .f32⟩
  | 35 => ⟨S4x4096x8x8, .f32⟩
  | 36 => ⟨S4x4096x8x8, .f32⟩
  | 37 => ⟨S1x4096x1x8, .f32⟩
  | 38 => ⟨S4x4096x8x8, .f32⟩
  | 39 => ⟨S4x4096x8x8, .f32⟩
  | 40 => ⟨S1x4096x1x8, .f32⟩
  | 41 => ⟨S4x4096x8x8, .f32⟩
  | 42 => ⟨S4x4096x8x8, .f32⟩
  | 43 => ⟨S4x4096x8x8, .f32⟩
  | 44 => ⟨S1x4096x1x8, .f32⟩
  | 45 => ⟨S4x4096x8x8, .f32⟩
  | 46 => ⟨S4x4096x8x8, .f32⟩
  | 47 => ⟨S1x4096x1x8, .f32⟩
  | 48 => ⟨S4x4096x8x8, .f32⟩
  | 49 => ⟨S4x4096x8x8, .f32⟩
  | 50 => ⟨S4x4096x8x8, .f32⟩
  | 51 => ⟨S4x4096x8x16, .f32⟩
  | 52 => ⟨S4x4096x8x48, .f32⟩
  | 53 => ⟨S4x4096x8x64, .f32⟩
  | 54 => ⟨S4x4096x8x64, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S4096, .f32⟩
  | 70 => ⟨S4096x1, .f32⟩
  | 71 => ⟨S1x8, .f32⟩
  | 72 => ⟨S4096x8, .f32⟩
  | 73 => ⟨S4096x8, .f32⟩
  | 74 => ⟨S4096x8, .f32⟩
  | 75 => ⟨S4096x8, .f32⟩
  | 76 => ⟨S4096x1x8, .f32⟩
  | 77 => ⟨S4096x8, .f32⟩
  | 78 => ⟨S4096x1x8, .f32⟩
  | 79 => ⟨S4x4096x8x8, .f32⟩
  | 80 => ⟨S4x4096x8x8, .f32⟩
  | 81 => ⟨S1x4096x1x8, .f32⟩
  | 82 => ⟨S4x4096x8x8, .f32⟩
  | 83 => ⟨S4x4096x8x8, .f32⟩
  | 84 => ⟨S1x4096x1x8, .f32⟩
  | 85 => ⟨S4x4096x8x8, .f32⟩
  | 86 => ⟨S4x4096x8x8, .f32⟩
  | 87 => ⟨S4x4096x8x8, .f32⟩
  | 88 => ⟨S1x4096x1x8, .f32⟩
  | 89 => ⟨S4x4096x8x8, .f32⟩
  | 90 => ⟨S4x4096x8x8, .f32⟩
  | 91 => ⟨S1x4096x1x8, .f32⟩
  | 92 => ⟨S4x4096x8x8, .f32⟩
  | 93 => ⟨S4x4096x8x8, .f32⟩
  | 94 => ⟨S4x4096x8x8, .f32⟩
  | 95 => ⟨S4x4096x8x16, .f32⟩
  | 96 => ⟨S4x4096x8x48, .f32⟩
  | 97 => ⟨S4x4096x8x64, .f32⟩
  | 98 => ⟨S4x4096x8x64, .f32⟩
  | 99 => ⟨S_, .f32⟩
  | 100 => ⟨S4x4096x8x64, .f32⟩
  | 101 => ⟨S4x4096x8x64, .f32⟩
  | 102 => ⟨S_, .f32⟩
  | 103 => ⟨S4x4096x8x64, .f32⟩
  | 104 => ⟨S4x4096x8x64, .f32⟩
  | 105 => ⟨S4x4096x4x2x64, .f32⟩
  | 106 => ⟨S_, .f32⟩
  | 107 => ⟨S4x4096x4x64, .f32⟩
  | 108 => ⟨S4x4096x4x1x64, .f32⟩
  | 109 => ⟨S4x4096x4x64, .f32⟩
  | 110 => ⟨S4x4096x4x1x64, .f32⟩
  | 111 => ⟨S4x4096x4x64, .f32⟩
  | 112 => ⟨S4x4096x4x256, .f32⟩
  | 113 => ⟨S4x4096x1024, .f32⟩
  | 114 => ⟨S4x4096x1024, .bf16⟩
  | 115 => ⟨S4x4096x512, .f32⟩
  | 116 => ⟨S4x4096x512, .bf16⟩
  | 117 => ⟨S4x4096x512, .f32⟩
  | 118 => ⟨S4x4096x512, .f32⟩
  | 119 => ⟨S4x4096x512, .bf16⟩
  | 120 => ⟨S4x512x4096, .f32⟩
  | 121 => ⟨S4x512x4096, .bf16⟩
  | 122 => ⟨S4x4096x4x2x64, .f32⟩
  | 123 => ⟨S_, .f32⟩
  | 124 => ⟨S4x4096x4x64, .f32⟩
  | 125 => ⟨S4x4096x4x1x64, .f32⟩
  | 126 => ⟨S4x4096x4x64, .f32⟩
  | 127 => ⟨S4x4096x4x1x64, .f32⟩
  | _ => ⟨S4x4096x1024, .f32⟩

abbrev hbmTy0_1 (i : Nat) : BufTy := match i % 128 with
  | 0 => ⟨S4x4096x4x64, .f32⟩
  | 1 => ⟨S4x4096x4x256, .f32⟩
  | 2 => ⟨S4x4096x1024, .f32⟩
  | 3 => ⟨S4x4096x1024, .bf16⟩
  | 4 => ⟨S4x4096x512, .f32⟩
  | 5 => ⟨S4x4096x512, .bf16⟩
  | 6 => ⟨S4x4096x512, .bf16⟩
  | 7 => ⟨S4x512x4096, .f32⟩
  | 8 => ⟨S4x512x4096, .f32⟩
  | 9 => ⟨S4x512x4096, .f32⟩
  | 10 => ⟨S4x512x4096, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_5 : Ref sig .tc := ⟨.hbm, 63, rfl⟩
abbrev main_v55 : Ref sig .tc := ⟨.hbm, 64, rfl⟩
abbrev main_v56 : Ref sig .tc := ⟨.hbm, 65, rfl⟩
abbrev main_cst_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_7 : Ref sig .tc := ⟨.hbm, 99, rfl⟩
abbrev main_v89 : Ref sig .tc := ⟨.hbm, 100, rfl⟩
abbrev main_v90 : Ref sig .tc := ⟨.hbm, 101, rfl⟩
abbrev main_cst_8 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_9 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_cst_10 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩

abbrev nD : Nat := 1
abbrev τ : Topo := Topo.v7x

variable {F : FTy → Type} [FloatOps F]
-- ==== Kernel4.lean ====
abbrev S128x4x1024 : Shape := ⟨3, ![128, 4, 1024]⟩
abbrev S1024x3072 : Shape := ⟨2, ![1024, 3072]⟩
abbrev S1x512x1024 : Shape := ⟨3, ![1, 512, 1024]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S1024x2560 : Shape := ⟨2, ![1024, 2560]⟩
abbrev S1024x512 : Shape := ⟨2, ![1024, 512]⟩
abbrev S1024x1024 : Shape := ⟨2, ![1024, 1024]⟩
abbrev S1024x1536 : Shape := ⟨2, ![1024, 1536]⟩
abbrev S1536x1024 : Shape := ⟨2, ![1536, 1024]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S512x56 : Shape := ⟨2, ![512, 56]⟩
abbrev S1x512x1x64 : Shape := ⟨4, ![1, 512, 1, 64]⟩
abbrev S1x512x2x64 : Shape := ⟨4, ![1, 512, 2, 64]⟩
abbrev S512x128 : Shape := ⟨2, ![512, 128]⟩
abbrev S1x512x512 : Shape := ⟨3, ![1, 512, 512]⟩
abbrev S512x1024 : Shape := ⟨2, ![512, 1024]⟩
abbrev S512x512 : Shape := ⟨2, ![512, 512]⟩
abbrev S1536x512 : Shape := ⟨2, ![1536, 512]⟩

abbrev nBuf : Space → Nat
  | .hbm => 72
  | .vmem => 18
  | .smem => 0
  | _ => 0

abbrev bufTy : (tb : Table) → Fin (tcTables nBuf tb) → BufTy
  | .hbm, ⟨0, _⟩ => ⟨S128x4x1024, .f32⟩
  | .hbm, ⟨1, _⟩ => ⟨S1024x3072, .f32⟩
  | .hbm, ⟨2, _⟩ => ⟨S1x512x1024, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4, .i32⟩
  | .hbm, ⟨8, _⟩ => ⟨S128x4, .i32⟩
  | .hbm, ⟨9, _⟩ => ⟨S512, .i32⟩
  | .hbm, ⟨10, _⟩ => ⟨S1024x2560, .f32⟩
  | .hbm, ⟨11, _⟩ => ⟨S1024x2560, .bf16⟩
  | .hbm, ⟨12, _⟩ => ⟨S1024x512, .f32⟩
  | .hbm, ⟨13, _⟩ => ⟨S1024x1024, .f32⟩
  | .hbm, ⟨14, _⟩ => ⟨S1024x1536, .f32⟩
  | .hbm, ⟨15, _⟩ => ⟨S1536x1024, .f32⟩
  | .hbm, ⟨16, _⟩ => ⟨S1536x1024, .bf16⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S512, .f32⟩
  | .hbm, ⟨32, _⟩ => ⟨S512x1, .f32⟩
  | .hbm, ⟨33, _⟩ => ⟨S1x8, .f32⟩
  | .hbm, ⟨34, _⟩ => ⟨S512x8, .f32⟩
  | .hbm, ⟨35, _⟩ => ⟨S512x8, .f32⟩
  | .hbm, ⟨36, _⟩ => ⟨S512x8, .f32⟩
  | .hbm, ⟨37, _⟩ => ⟨S512x8, .f32⟩
  | .hbm, ⟨38, _⟩ => ⟨S512x8, .f32⟩
  | .hbm, ⟨39, _⟩ => ⟨S_, .f32⟩
  | .hbm, ⟨40, _⟩ => ⟨S512x48, .f32⟩
  | .hbm, ⟨41, _⟩ => ⟨S512x64, .f32⟩
  | .hbm, ⟨42, _⟩ => ⟨S512x8, .f32⟩
  | .hbm, ⟨43, _⟩ => ⟨S_, .f32⟩
  | .hbm, ⟨44, _⟩ => ⟨S512x56, .f32⟩
  | .hbm, ⟨45, _⟩ => ⟨S512x64, .f32⟩
  | .hbm, ⟨46, _⟩ => ⟨S_, .f32⟩
  | .hbm, ⟨47, _⟩ => ⟨S512x8, .f32⟩
  | .hbm, ⟨48, _⟩ => ⟨S_, .f32⟩
  | .hbm, ⟨49, _⟩ => ⟨S512x48, .f32⟩
  | .hbm, ⟨50, _⟩ => ⟨S512x64, .f32⟩
  | .hbm, ⟨51, _⟩ => ⟨S1x512x1x64, .f32⟩
  | .hbm, ⟨52, _⟩ => ⟨S1x512x2x64, .f32⟩
  | .hbm, ⟨53, _⟩ => ⟨S512x128, .f32⟩
  | .hbm, ⟨54, _⟩ => ⟨S1x512x1x64, .f32⟩
  | .hbm, ⟨55, _⟩ => ⟨S1x512x2x64, .f32⟩
  | .hbm, ⟨56, _⟩ => ⟨S512x128, .f32⟩
  | .hbm, ⟨57, _⟩ => ⟨S1x512x1x64, .f32⟩
  | .hbm, ⟨58, _⟩ => ⟨S1x512x2x64, .f32⟩
  | .hbm, ⟨59, _⟩ => ⟨S512x128, .f32⟩
  | .hbm, ⟨60, _⟩ => ⟨S1x512x1024, .bf16⟩
  | .hbm, ⟨61, _⟩ => ⟨S1x512x512, .bf16⟩
  | .hbm, ⟨62, _⟩ => ⟨S1x512x512, .f32⟩
  | .hbm, ⟨63, _⟩ => ⟨S1x512x512, .bf16⟩
  | .hbm, ⟨64, _⟩ => ⟨S1x512x512, .f32⟩
  | .hbm, ⟨65, _⟩ => ⟨S1x512x512, .bf16⟩
  | .hbm, ⟨66, _⟩ => ⟨S1x512x1024, .bf16⟩
  | .hbm, ⟨67, _⟩ => ⟨S1x512x512, .bf16⟩
  | .hbm, ⟨68, _⟩ => ⟨S1x512x512, .bf16⟩
  | .hbm, ⟨69, _⟩ => ⟨S1x512x512, .f32⟩
  | .hbm, ⟨70, _⟩ => ⟨S1x512x512, .f32⟩
  | .hbm, ⟨71, _⟩ => ⟨S1x512x512, .bf16⟩
  | .local _ .vmem, ⟨0, _⟩ => ⟨S1x512x1024, .f32⟩
  | .local _ .vmem, ⟨1, _⟩ => ⟨S1024x2560, .bf16⟩
  | .local _ .vmem, ⟨2, _⟩ => ⟨S1536x1024, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x512x1024, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .bf16⟩
  | .local _ .vmem, ⟨10, _⟩ => ⟨S1x512x512, .f32⟩
  | .local _ .vmem, ⟨11, _⟩ => ⟨S1x512x512, .bf16⟩
  | .local _ .vmem, ⟨12, _⟩ => ⟨S1x512x1024, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .f32⟩
  | .local _ .vmem, ⟨16, _⟩ => ⟨S1x512x512, .f32⟩
  | .local _ .vmem, ⟨17, _⟩ => ⟨S1x512x512, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49_0 : Ref sig .tc := ⟨.hbm, 60, rfl⟩
abbrev main_v49_1 : Ref sig .tc := ⟨.hbm, 61, rfl⟩
abbrev main_v49_2 : Ref sig .tc := ⟨.hbm, 62, rfl⟩
abbrev main_v49_3 : Ref sig .tc := ⟨.hbm, 63, rfl⟩
abbrev main_v49_4 : Ref sig .tc := ⟨.hbm, 64, rfl⟩
abbrev main_v49_5 : Ref sig .tc := ⟨.hbm, 65, rfl⟩
abbrev main_v49_6 : Ref sig .tc := ⟨.hbm, 66, rfl⟩
abbrev main_v49_7 : Ref sig .tc := ⟨.hbm, 67, rfl⟩
abbrev main_v49_8 : Ref sig .tc := ⟨.hbm, 68, rfl⟩
abbrev main_v49_9 : Ref sig .tc := ⟨.hbm, 69, rfl⟩
abbrev main_v49_10 : Ref sig .tc := ⟨.hbm, 70, rfl⟩
abbrev main_v49_11 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]
-- ==== Reference4Ideal.lean ====
abbrev S128x4x1024 : Shape := ⟨3, ![128, 4, 1024]⟩
abbrev S1024x3072 : Shape := ⟨2, ![1024, 3072]⟩
abbrev S4 : Shape := ⟨1, ![4]⟩
abbrev S_ : Shape := ⟨0, ![]⟩
abbrev S128x4x3072 : Shape := ⟨3, ![128, 4, 3072]⟩
abbrev S128x4x512 : Shape := ⟨3, ![128, 4, 512]⟩
abbrev S128x4x8x64 : Shape := ⟨4, ![128, 4, 8, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S128x4x8x8 : Shape := ⟨4, ![128, 4, 8, 8]⟩
abbrev S1x4x1x8 : Shape := ⟨4, ![1, 4, 1, 8]⟩
abbrev S128x4x8x16 : Shape := ⟨4, ![128, 4, 8, 16]⟩
abbrev S128x4x8x48 : Shape := ⟨4, ![128, 4, 8, 48]⟩
abbrev S128x4x4x2x64 : Shape := ⟨5, ![128, 4, 4, 2, 64]⟩
abbrev S128x4x4x64 : Shape := ⟨4, ![128, 4, 4, 64]⟩
abbrev S128x4x4x1x64 : Shape := ⟨5, ![128, 4, 4, 1, 64]⟩
abbrev S128x4x4x256 : Shape := ⟨4, ![128, 4, 4, 256]⟩
abbrev S1x512x1024 : Shape := ⟨3, ![1, 512, 1024]⟩
abbrev S1x512x512 : Shape := ⟨3, ![1, 512, 512]⟩

abbrev nBuf : Space → Nat
  | .hbm => 148
  | .vmem => 0
  | .smem => 0
  | _ => 0

abbrev hbmTy0_0 (i : Nat) : BufTy := match i % 128 with
  | 0 => ⟨S128x4x1024, .f32⟩
  | 1 => ⟨S1024x3072, .f32⟩
  | 2 => ⟨S4, .i32⟩
  | 3 => ⟨S_, .i32⟩
  | 4 => ⟨S4, .i32⟩
  | 5 => ⟨S4, .i32⟩
  | 6 => ⟨S128x4x3072, .f32⟩
  | 7 => ⟨S128x4x512, .f32⟩
  | 8 => ⟨S128x4x512, .f32⟩
  | 9 => ⟨S128x4x512, .f32⟩
  | 10 => ⟨S128x4x512, .f32⟩
  | 11 => ⟨S128x4x512, .f32⟩
  | 12 => ⟨S128x4x512, .f32⟩
  | 13 => ⟨S128x4x8x64, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S4, .f32⟩
  | 29 => ⟨S4x1, .f32⟩
  | 30 => ⟨S1x8, .f32⟩
  | 31 => ⟨S4x8, .f32⟩
  | 32 => ⟨S4x8, .f32⟩
  | 33 => ⟨S4x8, .f32⟩
  | 34 => ⟨S4x8, .f32⟩
  | 35 => ⟨S4x1x8, .f32⟩
  | 36 => ⟨S4x8, .f32⟩
  | 37 => ⟨S4x1x8, .f32⟩
  | 38 => ⟨S128x4x8x8, .f32⟩
  | 39 => ⟨S128x4x8x8, .f32⟩
  | 40 => ⟨S1x4x1x8, .f32⟩
  | 41 => ⟨S128x4x8x8, .f32⟩
  | 42 => ⟨S128x4x8x8, .f32⟩
  | 43 => ⟨S1x4x1x8, .f32⟩
  | 44 => ⟨S128x4x8x8, .f32⟩
  | 45 => ⟨S128x4x8x8, .f32⟩
  | 46 => ⟨S128x4x8x8, .f32⟩
  | 47 => ⟨S1x4x1x8, .f32⟩
  | 48 => ⟨S128x4x8x8, .f32⟩
  | 49 => ⟨S128x4x8x8, .f32⟩
  | 50 => ⟨S1x4x1x8, .f32⟩
  | 51 => ⟨S128x4x8x8, .f32⟩
  | 52 => ⟨S128x4x8x8, .f32⟩
  | 53 => ⟨S128x4x8x8, .f32⟩
  | 54 => ⟨S128x4x8x16, .f32⟩
  | 55 => ⟨S128x4x8x48, .f32⟩
  | 56 => ⟨S128x4x8x64, .f32⟩
  | 57 => ⟨S128x4x8x64, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S4, .f32⟩
  | 73 => ⟨S4x1, .f32⟩
  | 74 => ⟨S1x8, .f32⟩
  | 75 => ⟨S4x8, .f32⟩
  | 76 => ⟨S4x8, .f32⟩
  | 77 => ⟨S4x8, .f32⟩
  | 78 => ⟨S4x8, .f32⟩
  | 79 => ⟨S4x1x8, .f32⟩
  | 80 => ⟨S4x8, .f32⟩
  | 81 => ⟨S4x1x8, .f32⟩
  | 82 => ⟨S128x4x8x8, .f32⟩
  | 83 => ⟨S128x4x8x8, .f32⟩
  | 84 => ⟨S1x4x1x8, .f32⟩
  | 85 => ⟨S128x4x8x8, .f32⟩
  | 86 => ⟨S128x4x8x8, .f32⟩
  | 87 => ⟨S1x4x1x8, .f32⟩
  | 88 => ⟨S128x4x8x8, .f32⟩
  | 89 => ⟨S128x4x8x8, .f32⟩
  | 90 => ⟨S128x4x8x8, .f32⟩
  | 91 => ⟨S1x4x1x8, .f32⟩
  | 92 => ⟨S128x4x8x8, .f32⟩
  | 93 => ⟨S128x4x8x8, .f32⟩
  | 94 => ⟨S1x4x1x8, .f32⟩
  | 95 => ⟨S128x4x8x8, .f32⟩
  | 96 => ⟨S128x4x8x8, .f32⟩
  | 97 => ⟨S128x4x8x8, .f32⟩
  | 98 => ⟨S128x4x8x16, .f32⟩
  | 99 => ⟨S128x4x8x48, .f32⟩
  | 100 => ⟨S128x4x8x64, .f32⟩
  | 101 => ⟨S128x4x8x64, .f32⟩
  | 102 => ⟨S_, .f32⟩
  | 103 => ⟨S128x4x8x64, .f32⟩
  | 104 => ⟨S128x4x8x64, .f32⟩
  | 105 => ⟨S_, .f32⟩
  | 106 => ⟨S128x4x8x64, .f32⟩
  | 107 => ⟨S128x4x8x64, .f32⟩
  | 108 => ⟨S128x4x4x2x64, .f32⟩
  | 109 => ⟨S_, .f32⟩
  | 110 => ⟨S128x4x4x64, .f32⟩
  | 111 => ⟨S128x4x4x1x64, .f32⟩
  | 112 => ⟨S128x4x4x64, .f32⟩
  | 113 => ⟨S128x4x4x1x64, .f32⟩
  | 114 => ⟨S128x4x4x64, .f32⟩
  | 115 => ⟨S128x4x4x256, .f32⟩
  | 116 => ⟨S1x512x1024, .f32⟩
  | 117 => ⟨S1x512x1024, .bf16⟩
  | 118 => ⟨S1x512x512, .f32⟩
  | 119 => ⟨S1x512x512, .bf16⟩
  | 120 => ⟨S1x512x512, .f32⟩
  | 121 => ⟨S1x512x512, .f32⟩
  | 122 => ⟨S1x512x512, .bf16⟩
  | 123 => ⟨S1x512x512, .f32⟩
  | 124 => ⟨S1x512x512, .f32⟩
  | 125 => ⟨S1x512x512, .f32⟩
  | 126 => ⟨S1x512x512, .bf16⟩
  | 127 => ⟨S128x4x4x2x64, .f32⟩
  | _ => ⟨S128x4x1024, .f32⟩

abbrev hbmTy0_1 (i : Nat) : BufTy := match i % 128 with
  | 0 => ⟨S_, .f32⟩
  | 1 => ⟨S128x4x4x64, .f32⟩
  | 2 => ⟨S128x4x4x1x64, .f32⟩
  | 3 => ⟨S128x4x4x64, .f32⟩
  | 4 => ⟨S128x4x4x1x64, .f32⟩
  | 5 => ⟨S128x4x4x64, .f32⟩
  | 6 => ⟨S128x4x4x256, .f32⟩
  | 7 => ⟨S1x512x1024, .f32⟩
  | 8 => ⟨S1x512x1024, .bf16⟩
  | 9 => ⟨S1x512x512, .f32⟩
  | 10 => ⟨S1x512x512, .bf16⟩
  | 11 => ⟨S1x512x512, .f32⟩
  | 12 => ⟨S1x512x512, .bf16⟩
  | 13 => ⟨S1x512x512, .f32⟩
  | 14 => ⟨S1x512x512, .f32⟩
  | 15 => ⟨S1x512x512, .f32⟩
  | 16 => ⟨S1x512x512, .f32⟩
  | 17 => ⟨S1x512x512, .f32⟩
  | 18 => ⟨S1x512x512, .f32⟩
  | 19 => ⟨S1x512x512, .bf16⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_cst_6 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_7 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_9 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_cst_10 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩

abbrev nD : Nat := 1
abbrev τ : Topo := Topo.v7x

variable {F : FTy → Type} [FloatOps F]
-- ==== Kernel5.lean ====
abbrev S1024x1024 : Shape := ⟨2, ![1024, 1024]⟩
abbrev S256x1024 : Shape := ⟨2, ![256, 1024]⟩
abbrev S256x128 : Shape := ⟨2, ![256, 128]⟩

abbrev nBuf : Space → Nat
  | .hbm => 7
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S1024x1024 : Shape := ⟨2, ![1024, 1024]⟩
abbrev S1024x4x2x128 : Shape := ⟨4, ![1024, 4, 2, 128]⟩
abbrev S1024x2x4x128 : Shape := ⟨4, ![1024, 2, 4, 128]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x4x2x128, .f32⟩
  | .hbm, ⟨5, _⟩ => ⟨S1024x2x4x128, .f32⟩
  | .hbm, ⟨6, _⟩ => ⟨S1024x1024, .f32⟩
  | .hbm, ⟨7, _⟩ => ⟨S1024x1024, .f32⟩
  | .hbm, ⟨8, _⟩ => ⟨S1024x4x2x128, .f32⟩
  | .hbm, ⟨9, _⟩ => ⟨S1024x2x4x128, .f32⟩
  | .hbm, ⟨10, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S16384x1024 : Shape := ⟨2, ![16384, 1024]⟩
abbrev S16384x512 : Shape := ⟨2, ![16384, 512]⟩
abbrev S4x2048x128 : Shape := ⟨3, ![4, 2048, 128]⟩
abbrev S1x512 : Shape := ⟨2, ![1, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S1x2048x128 : Shape := ⟨3, ![1, 2048, 128]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 19
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S4x2048x128, .f32⟩
  | .hbm, ⟨4, _⟩ => ⟨S4x2048x128, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S1024x1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S16384x1024, .f32⟩
  | .hbm, ⟨18, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S16384x1024 : Shape := ⟨2, ![16384, 1024]⟩
abbrev S16384x512 : Shape := ⟨2, ![16384, 512]⟩
abbrev S4x2048x128 : Shape := ⟨3, ![4, 2048, 128]⟩
abbrev S1x512 : Shape := ⟨2, ![1, 512]⟩
abbrev S1024x1024 : Shape := ⟨2, ![1024, 1024]⟩
abbrev S1x1024 : Shape := ⟨2, ![1, 1024]⟩
abbrev S16384x4x128 : Shape := ⟨3, ![16384, 4, 128]⟩
abbrev S4x128 : Shape := ⟨2, ![4, 128]⟩
abbrev S_ : Shape := ⟨0, ![]⟩
abbrev S16384x4 : Shape := ⟨2, ![16384, 4]⟩
abbrev S16384x4x1 : Shape := ⟨3, ![16384, 4, 1]⟩
abbrev S1x4x128 : Shape := ⟨3, ![1, 4, 128]⟩
abbrev S16384x8x64 : Shape := ⟨3, ![16384, 8, 64]⟩
abbrev S8x64 : Shape := ⟨2, ![8, 64]⟩
abbrev S16384x8 : Shape := ⟨2, ![16384, 8]⟩
abbrev S16384x8x1 : Shape := ⟨3, ![16384, 8, 1]⟩
abbrev S1x8x64 : Shape := ⟨3, ![1, 8, 64]⟩
abbrev S16384 : Shape := ⟨1, ![16384]⟩
abbrev S16384x1 : Shape := ⟨2, ![16384, 1]⟩
abbrev S4x4096x4x256 : Shape := ⟨4, ![4, 4096, 4, 256]⟩
abbrev S4x256x2x4x128 : Shape := ⟨5, ![4, 256, 2, 4, 128]⟩
abbrev S4x256x4x2x128 : Shape := ⟨5, ![4, 256, 4, 2, 128]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 150
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .f32⟩
  | 3 => ⟨S4x2048x128, .f32⟩
  | 4 => ⟨S4x2048x128, .f32⟩
  | 5 => ⟨S1x512, .f32⟩
  | 6 => ⟨S1x512, .f32⟩
  | 7 => ⟨S1024x1024, .f32⟩
  | 8 => ⟨S1x1024, .f32⟩
  | 9 => ⟨S1x1024, .f32⟩
  | 10 => ⟨S1024x1024, .f32⟩
  | 11 => ⟨S1024x1024, .f32⟩
  | 12 => ⟨S1x1024, .f32⟩
  | 13 => ⟨S1x1024, .f32⟩
  | 14 => ⟨S16384x4x128, .f32⟩
  | 15 => ⟨S4x128, .f32⟩
  | 16 => ⟨S16384x4x128, .f32⟩
  | 17 => ⟨S_, .f32⟩
  | 18 => ⟨S16384x4, .f32⟩
  | 19 => ⟨S16384x4x1, .f32⟩
  | 20 => ⟨S_, .f32⟩
  | 21 => ⟨S16384x4x1, .f32⟩
  | 22 => ⟨S16384x4x1, .f32⟩
  | 23 => ⟨S_, .f32⟩
  | 24 => ⟨S16384x4x1, .f32⟩
  | 25 => ⟨S16384x4x1, .f32⟩
  | 26 => ⟨S16384x4x1, .f32⟩
  | 27 => ⟨S16384x4x128, .f32⟩
  | 28 => ⟨S16384x4x128, .f32⟩
  | 29 => ⟨S1x4x128, .f32⟩
  | 30 => ⟨S16384x4x128, .f32⟩
  | 31 => ⟨S16384x4x128, .f32⟩
  | 32 => ⟨S_, .f32⟩
  | 33 => ⟨S16384x4x128, .f32⟩
  | 34 => ⟨S16384x4x128, .f32⟩
  | 35 => ⟨S16384x8x64, .f32⟩
  | 36 => ⟨S8x64, .f32⟩
  | 37 => ⟨S16384x8x64, .f32⟩
  | 38 => ⟨S_, .f32⟩
  | 39 => ⟨S16384x8, .f32⟩
  | 40 => ⟨S16384x8x1, .f32⟩
  | 41 => ⟨S_, .f32⟩
  | 42 => ⟨S16384x8x1, .f32⟩
  | 43 => ⟨S16384x8x1, .f32⟩
  | 44 => ⟨S_, .f32⟩
  | 45 => ⟨S16384x8x1, .f32⟩
  | 46 => ⟨S16384x8x1, .f32⟩
  | 47 => ⟨S16384x8x1, .f32⟩
  | 48 => ⟨S16384x8x64, .f32⟩
  | 49 => ⟨S16384x8x64, .f32⟩
  | 50 => ⟨S1x8x64, .f32⟩
  | 51 => ⟨S16384x8x64, .f32⟩
  | 52 => ⟨S16384x8x64, .f32⟩
  | 53 => ⟨S16384x512, .f32⟩
  | 54 => ⟨S16384x512, .f32⟩
  | 55 => ⟨S16384x1024, .f32⟩
  | 56 => ⟨S_, .f32⟩
  | 57 => ⟨S16384x1024, .f32⟩
  | 58 => ⟨S16384x1024, .f32⟩
  | 59 => ⟨S16384x1024, .f32⟩
  | 60 => ⟨S16384x1024, .f32⟩
  | 61 => ⟨S_, .f32⟩
  | 62 => ⟨S16384, .f32⟩
  | 63 => ⟨S16384x1, .f32⟩
  | 64 => ⟨S_, .f32⟩
  | 65 => ⟨S16384x1, .f32⟩
  | 66 => ⟨S16384x1, .f32⟩
  | 67 => ⟨S16384x1024, .f32⟩
  | 68 => ⟨S16384x1024, .f32⟩
  | 69 => ⟨S16384x1024, .f32⟩
  | 70 => ⟨S_, .f32⟩
  | 71 => ⟨S16384, .f32⟩
  | 72 => ⟨S16384x1, .f32⟩
  | 73 => ⟨S_, .f32⟩
  | 74 => ⟨S16384x1, .f32⟩
  | 75 => ⟨S16384x1, .f32⟩
  | 76 => ⟨S16384x1024, .f32⟩
  | 77 => ⟨S16384x1024, .f32⟩
  | 78 => ⟨S_, .f32⟩
  | 79 => ⟨S16384x1, .f32⟩
  | 80 => ⟨S16384x1, .f32⟩
  | 81 => ⟨S16384x1, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S16384x1024, .f32⟩
  | 88 => ⟨S16384x1024, .f32⟩
  | 89 => ⟨S4x4096x4x256, .f32⟩
  | 90 => ⟨S4x256x2x4x128, .f32⟩
  | 91 => ⟨S4x256x4x2x128, .f32⟩
  | 92 => ⟨S4x256x4x256, .f32⟩
  | 93 => ⟨S4x4x4096x256, .f32⟩
  | 94 => ⟨S_, .f32⟩
  | 95 => ⟨S4x4x4096x256, .f32⟩
  | 96 => ⟨S4x4x4096x256, .f32⟩
  | 97 => ⟨S_, .f32⟩
  | 98 => ⟨S4x4x4096, .f32⟩
  | 99 => ⟨S_, .f32⟩
  | 100 => ⟨S4x4x4096, .f32⟩
  | 101 => ⟨S4x4x4096, .f32⟩
  | 102 => ⟨S4x4x4096x1, .f32⟩
  | 103 => ⟨S4x4x4096x256, .f32⟩
  | 104 => ⟨S4x4x4096x256, .f32⟩
  | 105 => ⟨S4x4x4096x256, .f32⟩
  | 106 => ⟨S_, .f32⟩
  | 107 => ⟨S4x4x4096, .f32⟩
  | 108 => ⟨S4x4x4096x1, .f32⟩
  | 109 => ⟨S4x4x4096x256, .f32⟩
  | 110 => ⟨S4x4x4096x256, .f32⟩
  | 111 => ⟨S4x256x2x4x128, .f32⟩
  | 112 => ⟨S4x256x4x2x128, .f32⟩
  | 113 => ⟨S4x256x4x256, .f32⟩
  | 114 => ⟨S4x4x256x4096, .f32⟩
  | 115 => ⟨S4x4096x4x256, .f32⟩
  | 116 => ⟨S16384x1024, .f32⟩
  | 117 => ⟨S_, .f32⟩
  | 118 => ⟨S16384x1024, .f32⟩
  | 119 => ⟨S16384x1024, .f32⟩
  | 120 => ⟨S16384x1024, .f32⟩
  | 121 => ⟨S16384x1024, .f32⟩
  | 122 => ⟨S_, .f32⟩
  | 123 => ⟨S16384, .f32⟩
  | 124 => ⟨S16384x1, .f32⟩
  | 125 => ⟨S_, .f32⟩
  | 126 => ⟨S16384x1, .f32⟩
  | 127 => ⟨S16384x1, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S16384, .f32⟩
  | 5 => ⟨S16384x1, .f32⟩
  | 6 => ⟨S_, .f32⟩
  | 7 => ⟨S16384x1, .f32⟩
  | 8 => ⟨S16384x1, .f32⟩
  | 9 => ⟨S16384x1024, .f32⟩
  | 10 => ⟨S16384x1024, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_cst_18 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩

abbrev nD : Nat := 1
abbrev τ : Topo := Topo.v7x

variable {F : FTy → Type} [FloatOps F]
-- ==== Kernel7.lean ====
abbrev S136 : Shape := ⟨1, ![136]⟩
abbrev S4x4096x1024 : Shape := ⟨3, ![4, 4096, 1024]⟩
abbrev S4x4096x512 : Shape := ⟨3, ![4, 4096, 512]⟩
abbrev S4x512x4096 : Shape := ⟨3, ![4, 512, 4096]⟩
abbrev S1x64 : Shape := ⟨2, ![1, 64]⟩
abbrev S1x256x1024 : Shape := ⟨3, ![1, 256, 1024]⟩
abbrev S1 : Shape := ⟨1, ![1]⟩
abbrev S1x256x512 : Shape := ⟨3, ![1, 256, 512]⟩
abbrev S1x512x256 : Shape := ⟨3, ![1, 512, 256]⟩
abbrev S8x1x256 : Shape := ⟨3, ![8, 1, 256]⟩
abbrev S8x256x256 : Shape := ⟨3, ![8, 256, 256]⟩
abbrev S8x128x256 : Shape := ⟨3, ![8, 128, 256]⟩
abbrev S256x256 : Shape := ⟨2, ![256, 256]⟩
abbrev S128x256 : Shape := ⟨2, ![128, 256]⟩
abbrev S1x256x128 : Shape := ⟨3, ![1, 256, 128]⟩
abbrev S256x128 : Shape := ⟨2, ![256, 128]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S1x256x256 : Shape := ⟨3, ![1, 256, 256]⟩
abbrev S8x1 : Shape := ⟨2, ![8, 1]⟩
abbrev S1x1 : Shape := ⟨2, ![1, 1]⟩

abbrev nBuf : Space → Nat
  | .hbm => 12
  | .vmem => 24
  | .smem => 2
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S4x512x4096, .bf16⟩
  | .hbm, ⟨3, _⟩ => ⟨S4x4096x1024, .bf16⟩
  | .hbm, ⟨4, _⟩ => ⟨S4x4096x512, .bf16⟩
  | .hbm, ⟨5, _⟩ => ⟨S4x512x4096, .bf16⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S4x4096x512, .f32⟩
  | .hbm, ⟨11, _⟩ => ⟨S4x4096x512, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x512, .bf16⟩
  | .local _ .vmem, ⟨3, _⟩ => ⟨S1x256x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x512, .bf16⟩
  | .local _ .vmem, ⟨9, _⟩ => ⟨S1x256x512, .bf16⟩
  | .local _ .vmem, ⟨10, _⟩ => ⟨S1x512x256, .bf16⟩
  | .local _ .vmem, ⟨11, _⟩ => ⟨S1x512x256, .bf16⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S8x1x256, .f32⟩
  | .local _ .vmem, ⟨21, _⟩ => ⟨S8x256x256, .f32⟩
  | .local _ .vmem, ⟨22, _⟩ => ⟨S8x128x256, .f32⟩
  | .local _ .vmem, ⟨23, _⟩ => ⟨S8x1x256, .f32⟩
  | .local _ .smem, ⟨0, _⟩ => ⟨S136, .i32⟩
  | .local _ .smem, ⟨1, _⟩ => ⟨S136, .i32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_v0_0 : Ref sig .tc := ⟨.hbm, 10, rfl⟩
abbrev main_v0_1 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (v3 : BitVec 32) : BitVec 1 :=
  let c0_i32_446 : BitVec 32 := 0#32
  let v754 : BitVec 1 := Scalar.cmpi .eq v3 c0_i32_446
  let v755 : BitVec 32 := Scalar.extui v754
  let c0_i32_447 : BitVec 32 := 0#32
  let v756 : BitVec 1 := Scalar.cmpi .ne v755 c0_i32_447
  v756

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_11 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel7Ideal.lean ====
variable {F : FTy → Type} [FloatOps F] [Named F]
def κ : String → Option EReal := fun
  | "floor" => some ⊥
  | "mask" => some ⊥
  | _ => none
-- ==== Reference7Ideal.lean ====
abbrev S136 : Shape := ⟨1, ![136]⟩
abbrev S4x4096x1024 : Shape := ⟨3, ![4, 4096, 1024]⟩
abbrev S4x4096x512 : Shape := ⟨3, ![4, 4096, 512]⟩
abbrev S4x512x4096 : Shape := ⟨3, ![4, 512, 4096]⟩
abbrev S1x64 : Shape := ⟨2, ![1, 64]⟩
abbrev S_ : Shape := ⟨0, ![]⟩
abbrev S4096 : Shape := ⟨1, ![4096]⟩
abbrev S4x4096x4x2x128 : Shape := ⟨5, ![4, 4096, 4, 2, 128]⟩
abbrev S4x4096x4x128 : Shape := ⟨4, ![4, 4096, 4, 128]⟩
abbrev S4x4x128x4096 : Shape := ⟨4, ![4, 4, 128, 4096]⟩
abbrev S4x4x4096x4096x2 : Shape := ⟨5, ![4, 4, 4096, 4096, 2]⟩
abbrev S4x4x2x4096x4096 : Shape := ⟨5, ![4, 4, 2, 4096, 4096]⟩
abbrev S1x4096 : Shape := ⟨2, ![1, 4096]⟩
abbrev S4096x1 : Shape := ⟨2, ![4096, 1]⟩
abbrev S4096x4096 : Shape := ⟨2, ![4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x8x64x4096 : Shape := ⟨4, ![4, 8, 64, 4096]⟩
abbrev S4x8x4096x4096 : Shape := ⟨4, ![4, 8, 4096, 4096]⟩
abbrev S4x8x4096x4095 : Shape := ⟨4, ![4, 8, 4096, 4095]⟩
abbrev S4x8x4096x1 : Shape := ⟨4, ![4, 8, 4096, 1]⟩
abbrev S4x4096x8x64 : Shape := ⟨4, ![4, 4096, 8, 64]⟩

abbrev nBuf : Space → Nat
  | .hbm => 136
  | .vmem => 0
  | .smem => 0
  | _ => 0

abbrev hbmTy0_0 (i : Nat) : BufTy := match i % 128 with
  | 0 => ⟨S136, .i32⟩
  | 1 => ⟨S136, .i32⟩
  | 2 => ⟨S4x4096x1024, .bf16⟩
  | 3 => ⟨S4x4096x512, .bf16⟩
  | 4 => ⟨S4x512x4096, .bf16⟩
  | 5 => ⟨S4x4096x1024, .bf16⟩
  | 6 => ⟨S4x4096x512, .bf16⟩
  | 7 => ⟨S4x512x4096, .bf16⟩
  | 8 => ⟨S1x64, .f32⟩
  | 9 => ⟨S1x64, .f32⟩
  | 10 => ⟨S1x64, .f32⟩
  | 11 => ⟨S1x64, .f32⟩
  | 12 => ⟨S1x64, .f32⟩
  | 13 => ⟨S_, .f32⟩
  | 14 => ⟨S_, .f32⟩
  | 15 => ⟨S_, .f32⟩
  | 16 => ⟨S1x64, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S4096, .i32⟩
  | 24 => ⟨S4x4096x1024, .f32⟩
  | 25 => ⟨S4x4096x4x2x128, .f32⟩
  | 26 => ⟨S4x4096x512, .f32⟩
  | 27 => ⟨S4x4096x4x128, .f32⟩
  | 28 => ⟨S4x512x4096, .f32⟩
  | 29 => ⟨S4x4x128x4096, .f32⟩
  | 30 => ⟨S4x4x4096x4096x2, .f32⟩
  | 31 => ⟨S4x4x2x4096x4096, .f32⟩
  | 32 => ⟨S1x4096, .i32⟩
  | 33 => ⟨S4096x1, .i32⟩
  | 34 => ⟨S4096x4096, .i32⟩
  | 35 => ⟨S4096x4096, .i32⟩
  | 36 => ⟨S4096x4096, .i1⟩
  | 37 => ⟨S_, .f32⟩
  | 38 => ⟨S_, .f32⟩
  | 39 => ⟨S4x4x2x4096x4096, .i1⟩
  | 40 => ⟨S4x4x2x4096x4096, .f32⟩
  | 41 => ⟨S4x4x2x4096x4096, .f32⟩
  | 42 => ⟨S_, .f32⟩
  | 43 => ⟨S4x4x2x4096, .f32⟩
  | 44 => ⟨S_, .f32⟩
  | 45 => ⟨S4x4x2x4096, .f32⟩
  | 46 => ⟨S4x4x2x4096, .f32⟩
  | 47 => ⟨S4x4x2x4096x1, .f32⟩
  | 48 => ⟨S4x4x2x4096x4096, .f32⟩
  | 49 => ⟨S4x4x2x4096x4096, .f32⟩
  | 50 => ⟨S4x4x2x4096x4096, .f32⟩
  | 51 => ⟨S_, .f32⟩
  | 52 => ⟨S4x4x2x4096, .f32⟩
  | 53 => ⟨S4x4x2x4096x1, .f32⟩
  | 54 => ⟨S4x4x2x4096x4096, .f32⟩
  | 55 => ⟨S4x4x2x4096x4096, .f32⟩
  | 56 => ⟨S4x4x1x4096x4096, .f32⟩
  | 57 => ⟨S4x4x4096x4096, .f32⟩
  | 58 => ⟨S4x4x1x4096x4096, .f32⟩
  | 59 => ⟨S4x4x4096x4096, .f32⟩
  | 60 => ⟨S4x4x4096x4096, .f32⟩
  | 61 => ⟨S4x4x4096x4096, .f32⟩
  | 62 => ⟨S4x4x4096x4096, .f32⟩
  | 63 => ⟨S4x4x128x4096, .f32⟩
  | 64 => ⟨S4x4096x4x128, .f32⟩
  | 65 => ⟨S4x4096x512, .f32⟩
  | 66 => ⟨S4x4096x1024, .f32⟩
  | 67 => ⟨S4x4096x4x2x128, .f32⟩
  | 68 => ⟨S4x4096x512, .f32⟩
  | 69 => ⟨S4x4096x4x128, .f32⟩
  | 70 => ⟨S4x512x4096, .f32⟩
  | 71 => ⟨S4x8x64x4096, .f32⟩
  | 72 => ⟨S4x4x4096x4096x2, .f32⟩
  | 73 => ⟨S4x4x2x4096x4096, .f32⟩
  | 74 => ⟨S4x8x4096x4096, .f32⟩
  | 75 => ⟨S1x4096, .i32⟩
  | 76 => ⟨S4096x1, .i32⟩
  | 77 => ⟨S4096x4096, .i32⟩
  | 78 => ⟨S4096x4096, .i32⟩
  | 79 => ⟨S4096x4096, .i1⟩
  | 80 => ⟨S4x8x4096x4096, .f32⟩
  | 81 => ⟨S4x8x4096x4096, .f32⟩
  | 82 => ⟨S_, .f32⟩
  | 83 => ⟨S4x8x4096x4096, .f32⟩
  | 84 => ⟨S4x8x4096x4096, .f32⟩
  | 85 => ⟨S4x8x4096x4096, .f32⟩
  | 86 => ⟨S4x8x4096x4096, .f32⟩
  | 87 => ⟨S4x8x4096x4096, .i1⟩
  | 88 => ⟨S4x8x4096x4096, .f32⟩
  | 89 => ⟨S4x8x4096x4096, .f32⟩
  | 90 => ⟨S4x8x4096x4096, .f32⟩
  | 91 => ⟨S4x8x4096x4096, .f32⟩
  | 92 => ⟨S4x8x4096x4096, .f32⟩
  | 93 => ⟨S4x8x4096x4096, .f32⟩
  | 94 => ⟨S4x8x4096x4096, .f32⟩
  | 95 => ⟨S4x8x4096x4096, .f32⟩
  | 96 => ⟨S4x8x4096x4096, .f32⟩
  | 97 => ⟨S_, .f32⟩
  | 98 => ⟨S_, .f32⟩
  | 99 => ⟨S4x8x4096x4096, .i1⟩
  | 100 => ⟨S4x8x4096x4096, .f32⟩
  | 101 => ⟨S4x8x4096x4096, .f32⟩
  | 102 => ⟨S_, .f32⟩
  | 103 => ⟨S_, .f32⟩
  | 104 => ⟨S4x8x4096x4096, .f32⟩
  | 105 => ⟨S4x8x4096x4095, .f32⟩
  | 106 => ⟨S4x8x4096x1, .f32⟩
  | 107 => ⟨S_, .f32⟩
  | 108 => ⟨S4x8x4096x1, .f32⟩
  | 109 => ⟨S4x8x4096x4096, .f32⟩
  | 110 => ⟨S4x8x4096x4096, .f32⟩
  | 111 => ⟨S_, .f32⟩
  | 112 => ⟨S4x8x4096x4096, .f32⟩
  | 113 => ⟨S4x8x4096x4096, .f32⟩
  | 114 => ⟨S4x8x4096x4096, .f32⟩
  | 115 => ⟨S4x8x4096x4096, .f32⟩
  | 116 => ⟨S4x8x4096x4096, .i1⟩
  | 117 => ⟨S4x8x4096x4096, .f32⟩
  | 118 => ⟨S4x8x4096x4096, .f32⟩
  | 119 => ⟨S4x8x4096x4096, .f32⟩
  | 120 => ⟨S4x8x4096x4096, .f32⟩
  | 121 => ⟨S4x8x4096x4096, .f32⟩
  | 122 => ⟨S4x8x4096x4096, .f32⟩
  | 123 => ⟨S4x8x4096x4096, .f32⟩
  | 124 => ⟨S4x8x4096x4096, .f32⟩
  | 125 => ⟨S4x8x4096x4096, .f32⟩
  | 126 => ⟨S4x8x4096x4096, .f32⟩
  | 127 => ⟨S4x8x4096x4096, .f32⟩
  | _ => ⟨S136, .i32⟩

abbrev hbmTy0_1 (i : Nat) : BufTy := match i % 128 with
  | 0 => ⟨S_, .f32⟩
  | 1 => ⟨S_, .f32⟩
  | 2 => ⟨S4x8x4096x4096, .i1⟩
  | 3 => ⟨S4x8x4096x4096, .f32⟩
  | 4 => ⟨S4x8x4096x4096, .f32⟩
  | 5 => ⟨S4x8x64x4096, .f32⟩
  | 6 => ⟨S4x4096x8x64, .f32⟩
  | 7 => ⟨S4x4096x512, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_v0 : Ref sig .tc := ⟨.hbm, 81, rfl⟩
abbrev main_call1_call0_cst : Ref sig .tc := ⟨.hbm, 82, rfl⟩
abbrev main_call1_call0_v0 : Ref sig .tc := ⟨.hbm, 83, rfl⟩
abbrev main_call1_call0_v1 : Ref sig .tc := ⟨.hbm, 84, rfl⟩
abbrev main_call1_call0_v2 : Ref sig .tc := ⟨.hbm, 85, rfl⟩
abbrev main_call1_call0_v3 : Ref sig .tc := ⟨.hbm, 86, rfl⟩
abbrev main_call1_call0_v4 : Ref sig .tc := ⟨.hbm, 87, rfl⟩
abbrev main_call1_call0_v5 : Ref sig .tc := ⟨.hbm, 88, rfl⟩
abbrev main_call1_call0_v6 : Ref sig .tc := ⟨.hbm, 89, rfl⟩
abbrev main_call1_call0_v7 : Ref sig .tc := ⟨.hbm, 90, rfl⟩
abbrev main_call1_call0_v8 : Ref sig .tc := ⟨.hbm, 91, rfl⟩
abbrev main_call1_call0_v9 : Ref sig .tc := ⟨.hbm, 92, rfl⟩
abbrev main_call1_call0_v10 : Ref sig .tc := ⟨.hbm, 93, rfl⟩
abbrev main_call1_call0_v11 : Ref sig .tc := ⟨.hbm, 94, rfl⟩
abbrev main_call1_v1 : Ref sig .tc := ⟨.hbm, 95, rfl⟩
abbrev main_v59 : Ref sig .tc := ⟨.hbm, 96, rfl⟩
abbrev main_cst_6 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v60 : Ref sig .tc := ⟨.hbm, 101, rfl⟩
abbrev main_call3_cst : Ref sig .tc := ⟨.hbm, 102, rfl⟩
abbrev main_call3_v0 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_7 : Ref sig .tc := ⟨.hbm, 107, rfl⟩
abbrev main_v64 : Ref sig .tc := ⟨.hbm, 108, rfl⟩
abbrev main_v65 : Ref sig .tc := ⟨.hbm, 109, rfl⟩
abbrev main_call4_v0 : Ref sig .tc := ⟨.hbm, 110, rfl⟩
abbrev main_call4_call0_cst : Ref sig .tc := ⟨.hbm, 111, rfl⟩
abbrev main_call4_call0_v0 : Ref sig .tc := ⟨.hbm, 112, rfl⟩
abbrev main_call4_call0_v1 : Ref sig .tc := ⟨.hbm, 113, rfl⟩
abbrev main_call4_call0_v2 : Ref sig .tc := ⟨.hbm, 114, rfl⟩
abbrev main_call4_call0_v3 : Ref sig .tc := ⟨.hbm, 115, rfl⟩
abbrev main_call4_call0_v4 : Ref sig .tc := ⟨.hbm, 116, rfl⟩
abbrev main_call4_call0_v5 : Ref sig .tc := ⟨.hbm, 117, rfl⟩
abbrev main_call4_call0_v6 : Ref sig .tc := ⟨.hbm, 118, rfl⟩
abbrev main_call4_call0_v7 : Ref sig .tc := ⟨.hbm, 119, rfl⟩
abbrev main_call4_call0_v8 : Ref sig .tc := ⟨.hbm, 120, rfl⟩
abbrev main_call4_call0_v9 : Ref sig .tc := ⟨.hbm, 121, rfl⟩
abbrev main_call4_call0_v10 : Ref sig .tc := ⟨.hbm, 122, rfl⟩
abbrev main_call4_call0_v11 : Ref sig .tc := ⟨.hbm, 123, rfl⟩
abbrev main_call4_v1 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_cst_8 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩

abbrev nD : Nat := 1
abbrev τ : Topo := Topo.v7x

variable {F : FTy → Type} [FloatOps F]
-- ==== Kernel8.lean ====
abbrev S512x1024 : Shape := ⟨2, ![512, 1024]⟩
abbrev S512x512 : Shape := ⟨2, ![512, 512]⟩
abbrev S128x2048x128 : Shape := ⟨3, ![128, 2048, 128]⟩
abbrev S1x512 : Shape := ⟨2, ![1, 512]⟩
abbrev S1024x1024 : Shape := ⟨2, ![1024, 1024]⟩
abbrev S1x1024 : Shape := ⟨2, ![1, 1024]⟩
abbrev S16x1024 : Shape := ⟨2, ![16, 1024]⟩
abbrev S16x512 : Shape := ⟨2, ![16, 512]⟩
abbrev S4x2048x128 : Shape := ⟨3, ![4, 2048, 128]⟩
abbrev S16x128 : Shape := ⟨2, ![16, 128]⟩
abbrev S16 : Shape := ⟨1, ![16]⟩
abbrev S16x1 : Shape := ⟨2, ![16, 1]⟩
abbrev S1x128 : Shape := ⟨2, ![1, 128]⟩
abbrev S1x256x128 : Shape := ⟨3, ![1, 256, 128]⟩
abbrev S256x128 : Shape := ⟨2, ![256, 128]⟩
abbrev S16x256 : Shape := ⟨2, ![16, 256]⟩

abbrev nBuf : Space → Nat
  | .hbm => 19
  | .vmem => 23
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S128x2048x128, .f32⟩
  | .hbm, ⟨4, _⟩ => ⟨S128x2048x128, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S1024x1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S512x1024, .f32⟩
  | .hbm, ⟨18, _⟩ => ⟨S512x1024, .bf16⟩
  | .local _ .vmem, ⟨0, _⟩ => ⟨S16x1024, .f32⟩
  | .local _ .vmem, ⟨1, _⟩ => ⟨S16x1024, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S4x2048x128, .f32⟩
  | .local _ .vmem, ⟨13, _⟩ => ⟨S4x2048x128, .f32⟩
  | .local _ .vmem, ⟨14, _⟩ => ⟨S4x2048x128, .f32⟩
  | .local _ .vmem, ⟨15, _⟩ => ⟨S4x2048x128, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S16x1024, .f32⟩
  | .local _ .vmem, ⟨20, _⟩ => ⟨S16x1024, .f32⟩
  | .local _ .vmem, ⟨21, _⟩ => ⟨S16x1024, .bf16⟩
  | .local _ .vmem, ⟨22, _⟩ => ⟨S16x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S512x1024 : Shape := ⟨2, ![512, 1024]⟩
abbrev S512x512 : Shape := ⟨2, ![512, 512]⟩
abbrev S128x2048x128 : Shape := ⟨3, ![128, 2048, 128]⟩
abbrev S1x512 : Shape := ⟨2, ![1, 512]⟩
abbrev S1024x1024 : Shape := ⟨2, ![1024, 1024]⟩
abbrev S1x1024 : Shape := ⟨2, ![1, 1024]⟩
abbrev S512x4x128 : Shape := ⟨3, ![512, 4, 128]⟩
abbrev S4x128 : Shape := ⟨2, ![4, 128]⟩
abbrev S_ : Shape := ⟨0, ![]⟩
abbrev S512x4 : Shape := ⟨2, ![512, 4]⟩
abbrev S512x4x1 : Shape := ⟨3, ![512, 4, 1]⟩
abbrev S1x4x128 : Shape := ⟨3, ![1, 4, 128]⟩
abbrev S512x8x64 : Shape := ⟨3, ![512, 8, 64]⟩
abbrev S8x64 : Shape := ⟨2, ![8, 64]⟩
abbrev S512x8 : Shape := ⟨2, ![512, 8]⟩
abbrev S512x8x1 : Shape := ⟨3, ![512, 8, 1]⟩
abbrev S1x8x64 : Shape := ⟨3, ![1, 8, 64]⟩
abbrev S512 : Shape := ⟨1, ![512]⟩
abbrev S512x1 : Shape := ⟨2, ![512, 1]⟩
abbrev S128x4x4x256 : Shape := ⟨4, ![128, 4, 4, 256]⟩
abbrev S128x256x2x4x128 : Shape := ⟨5, ![128, 256, 2, 4, 128]⟩
abbrev S128x256x4x2x128 : Shape := ⟨5, ![128, 256, 4, 2, 128]⟩
abbrev S128x256x4x256 : Shape := ⟨4, ![128, 256, 4, 256]⟩
abbrev S128x4x4 : Shape := ⟨3, ![128, 4, 4]⟩
abbrev S128x4x4x1 : Shape := ⟨4, ![128, 4, 4, 1]⟩
abbrev S128x4x256x4 : Shape := ⟨4, ![128, 4, 256, 4]⟩

abbrev nBuf : Space → Nat
  | .hbm => 150
  | .vmem => 0
  | .smem => 0
  | _ => 0

abbrev hbmTy0_0 (i : Nat) : BufTy := match i % 128 with
  | 0 => ⟨S512x1024, .f32⟩
  | 1 => ⟨S512x512, .f32⟩
  | 2 => ⟨S512x512, .f32⟩
  | 3 => ⟨S128x2048x128, .f32⟩
  | 4 => ⟨S128x2048x128, .f32⟩
  | 5 => ⟨S1x512, .f32⟩
  | 6 => ⟨S1x512, .f32⟩
  | 7 => ⟨S1024x1024, .f32⟩
  | 8 => ⟨S1x1024, .f32⟩
  | 9 => ⟨S1x1024, .f32⟩
  | 10 => ⟨S1024x1024, .f32⟩
  | 11 => ⟨S1024x1024, .f32⟩
  | 12 => ⟨S1x1024, .f32⟩
  | 13 => ⟨S1x1024, .f32⟩
  | 14 => ⟨S512x4x128, .f32⟩
  | 15 => ⟨S4x128, .f32⟩
  | 16 => ⟨S512x4x128, .f32⟩
  | 17 => ⟨S_, .f32⟩
  | 18 => ⟨S512x4, .f32⟩
  | 19 => ⟨S512x4x1, .f32⟩
  | 20 => ⟨S_, .f32⟩
  | 21 => ⟨S512x4x1, .f32⟩
  | 22 => ⟨S512x4x1, .f32⟩
  | 23 => ⟨S_, .f32⟩
  | 24 => ⟨S512x4x1, .f32⟩
  | 25 => ⟨S512x4x1, .f32⟩
  | 26 => ⟨S512x4x1, .f32⟩
  | 27 => ⟨S512x4x128, .f32⟩
  | 28 => ⟨S512x4x128, .f32⟩
  | 29 => ⟨S1x4x128, .f32⟩
  | 30 => ⟨S512x4x128, .f32⟩
  | 31 => ⟨S512x4x128, .f32⟩
  | 32 => ⟨S_, .f32⟩
  | 33 => ⟨S512x4x128, .f32⟩
  | 34 => ⟨S512x4x128, .f32⟩
  | 35 => ⟨S512x8x64, .f32⟩
  | 36 => ⟨S8x64, .f32⟩
  | 37 => ⟨S512x8x64, .f32⟩
  | 38 => ⟨S_, .f32⟩
  | 39 => ⟨S512x8, .f32⟩
  | 40 => ⟨S512x8x1, .f32⟩
  | 41 => ⟨S_, .f32⟩
  | 42 => ⟨S512x8x1, .f32⟩
  | 43 => ⟨S512x8x1, .f32⟩
  | 44 => ⟨S_, .f32⟩
  | 45 => ⟨S512x8x1, .f32⟩
  | 46 => ⟨S512x8x1, .f32⟩
  | 47 => ⟨S512x8x1, .f32⟩
  | 48 => ⟨S512x8x64, .f32⟩
  | 49 => ⟨S512x8x64, .f32⟩
  | 50 => ⟨S1x8x64, .f32⟩
  | 51 => ⟨S512x8x64, .f32⟩
  | 52 => ⟨S512x8x64, .f32⟩
  | 53 => ⟨S512x512, .f32⟩
  | 54 => ⟨S512x512, .f32⟩
  | 55 => ⟨S512x1024, .f32⟩
  | 56 => ⟨S_, .f32⟩
  | 57 => ⟨S512x1024, .f32⟩
  | 58 => ⟨S512x1024, .f32⟩
  | 59 => ⟨S512x1024, .f32⟩
  | 60 => ⟨S512x1024, .f32⟩
  | 61 => ⟨S_, .f32⟩
  | 62 => ⟨S512, .f32⟩
  | 63 => ⟨S512x1, .f32⟩
  | 64 => ⟨S_, .f32⟩
  | 65 => ⟨S512x1, .f32⟩
  | 66 => ⟨S512x1, .f32⟩
  | 67 => ⟨S512x1024, .f32⟩
  | 68 => ⟨S512x1024, .f32⟩
  | 69 => ⟨S512x1024, .f32⟩
  | 70 => ⟨S_, .f32⟩
  | 71 => ⟨S512, .f32⟩
  | 72 => ⟨S512x1, .f32⟩
  | 73 => ⟨S_, .f32⟩
  | 74 => ⟨S512x1, .f32⟩
  | 75 => ⟨S512x1, .f32⟩
  | 76 => ⟨S512x1024, .f32⟩
  | 77 => ⟨S512x1024, .f32⟩
  | 78 => ⟨S_, .f32⟩
  | 79 => ⟨S512x1, .f32⟩
  | 80 => ⟨S512x1, .f32⟩
  | 81 => ⟨S512x1, .f32⟩
  | 82 => ⟨S512x1024, .f32⟩
  | 83 => ⟨S512x1024, .f32⟩
  | 84 => ⟨S512x1024, .f32⟩
  | 85 => ⟨S512x1024, .f32⟩
  | 86 => ⟨S512x1024, .f32⟩
  | 87 => ⟨S512x1024, .f32⟩
  | 88 => ⟨S512x1024, .f32⟩
  | 89 => ⟨S128x4x4x256, .f32⟩
  | 90 => ⟨S128x256x2x4x128, .f32⟩
  | 91 => ⟨S128x256x4x2x128, .f32⟩
  | 92 => ⟨S128x256x4x256, .f32⟩
  | 93 => ⟨S128x4x4x256, .f32⟩
  | 94 => ⟨S_, .f32⟩
  | 95 => ⟨S128x4x4x256, .f32⟩
  | 96 => ⟨S128x4x4x256, .f32⟩
  | 97 => ⟨S_, .f32⟩
  | 98 => ⟨S128x4x4, .f32⟩
  | 99 => ⟨S_, .f32⟩
  | 100 => ⟨S128x4x4, .f32⟩
  | 101 => ⟨S128x4x4, .f32⟩
  | 102 => ⟨S128x4x4x1, .f32⟩
  | 103 => ⟨S128x4x4x256, .f32⟩
  | 104 => ⟨S128x4x4x256, .f32⟩
  | 105 => ⟨S128x4x4x256, .f32⟩
  | 106 => ⟨S_, .f32⟩
  | 107 => ⟨S128x4x4, .f32⟩
  | 108 => ⟨S128x4x4x1, .f32⟩
  | 109 => ⟨S128x4x4x256, .f32⟩
  | 110 => ⟨S128x4x4x256, .f32⟩
  | 111 => ⟨S128x256x2x4x128, .f32⟩
  | 112 => ⟨S128x256x4x2x128, .f32⟩
  | 113 => ⟨S128x256x4x256, .f32⟩
  | 114 => ⟨S128x4x256x4, .f32⟩
  | 115 => ⟨S128x4x4x256, .f32⟩
  | 116 => ⟨S512x1024, .f32⟩
  | 117 => ⟨S_, .f32⟩
  | 118 => ⟨S512x1024, .f32⟩
  | 119 => ⟨S512x1024, .f32⟩
  | 120 => ⟨S512x1024, .f32⟩
  | 121 => ⟨S512x1024, .f32⟩
  | 122 => ⟨S_, .f32⟩
  | 123 => ⟨S512, .f32⟩
  | 124 => ⟨S512x1, .f32⟩
  | 125 => ⟨S_, .f32⟩
  | 126 => ⟨S512x1, .f32⟩
  | 127 => ⟨S512x1, .f32⟩
  | _ => ⟨S512x1024, .f32⟩

abbrev hbmTy0_1 (i : Nat) : BufTy := match i % 128 with
  | 0 => ⟨S512x1024, .f32⟩
  | 1 => ⟨S512x1024, .f32⟩
  | 2 => ⟨S512x1024, .f32⟩
  | 3 => ⟨S_, .f32⟩
  | 4 => ⟨S512, .f32⟩
  | 5 => ⟨S512x1, .f32⟩
  | 6 => ⟨S_, .f32⟩
  | 7 => ⟨S512x1, .f32⟩
  | 8 => ⟨S512x1, .f32⟩
  | 9 => ⟨S512x1024, .f32⟩
  | 10 => ⟨S512x1024, .f32⟩
  | 11 => ⟨S_, .f32⟩
  | 12 => ⟨S512x1, .f32⟩
  | 13 => ⟨S512x1, .f32⟩
  | 14 => ⟨S512x1, .f32⟩
  | 15 => ⟨S512x1024, .f32⟩
  | 16 => ⟨S512x1024, .f32⟩
  | 17 => ⟨S512x1024, .f32⟩
  | 18 => ⟨S512x1024, .f32⟩
  | 19 => ⟨S512x1024, .f32⟩
  | 20 => ⟨S512x1024, .f32⟩
  | 21 => ⟨S512x1024, .bf16⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_cst_18 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩

abbrev nD : Nat := 1
abbrev τ : Topo := Topo.v7x

variable {F : FTy → Type} [FloatOps F]
-- ==== Kernel9.lean ====
abbrev S16896x1024 : Shape := ⟨2, ![16896, 1024]⟩
abbrev S1024x32 : Shape := ⟨2, ![1024, 32]⟩
abbrev S32 : Shape := ⟨1, ![32]⟩
abbrev S32x1024 : Shape := ⟨2, ![32, 1024]⟩
abbrev S32x1 : Shape := ⟨2, ![32, 1]⟩
abbrev S4x16896 : Shape := ⟨2, ![4, 16896]⟩
abbrev S32x128 : Shape := ⟨2, ![32, 128]⟩
abbrev S512x1024 : Shape := ⟨2, ![512, 1024]⟩
abbrev S4x512 : Shape := ⟨2, ![4, 512]⟩
abbrev S32x512 : Shape := ⟨2, ![32, 512]⟩
abbrev S512 : Shape := ⟨1, ![512]⟩
abbrev S1x512 : Shape := ⟨2, ![1, 512]⟩
abbrev S512x512 : Shape := ⟨2, ![512, 512]⟩

abbrev nBuf : Space → Nat
  | .hbm => 9
  | .vmem => 12
  | .smem => 0
  | _ => 0

abbrev bufTy : (tb : Table) → Fin (tcTables nBuf tb) → BufTy
  | .hbm, ⟨0, _⟩ => ⟨S16896x1024, .f32⟩
  | .hbm, ⟨1, _⟩ => ⟨S1024x32, .f32⟩
  | .hbm, ⟨2, _⟩ => ⟨S32, .f32⟩
  | .hbm, ⟨3, _⟩ => ⟨S32x1024, .f32⟩
  | .hbm, ⟨4, _⟩ => ⟨S32x1, .f32⟩
  | .hbm, ⟨5, _⟩ => ⟨S4x16896, .i32⟩
  | .hbm, ⟨6, _⟩ => ⟨S4x16896, .f32⟩
  | .hbm, ⟨7, _⟩ => ⟨S4x16896, .i32⟩
  | .hbm, ⟨8, _⟩ => ⟨S32x128, .i32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1, .f32⟩
  | .local _ .vmem, ⟨4, _⟩ => ⟨S4x512, .i32⟩
  | .local _ .vmem, ⟨5, _⟩ => ⟨S4x512, .i32⟩
  | .local _ .vmem, ⟨6, _⟩ => ⟨S4x512, .f32⟩
  | .local _ .vmem, ⟨7, _⟩ => ⟨S4x512, .f32⟩
  | .local _ .vmem, ⟨8, _⟩ => ⟨S4x512, .i32⟩
  | .local _ .vmem, ⟨9, _⟩ => ⟨S4x512, .i32⟩
  | .local _ .vmem, ⟨10, _⟩ => ⟨S32x128, .i32⟩
  | .local _ .vmem, ⟨11, _⟩ => ⟨S32x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S16896x1024 : Shape := ⟨2, ![16896, 1024]⟩
abbrev S1024x32 : Shape := ⟨2, ![1024, 32]⟩
abbrev S32 : Shape := ⟨1, ![32]⟩
abbrev S16896x32 : Shape := ⟨2, ![16896, 32]⟩
abbrev S1x32 : Shape := ⟨2, ![1, 32]⟩
abbrev S_ : Shape := ⟨0, ![]⟩
abbrev S16896 : Shape := ⟨1, ![16896]⟩
abbrev S16896x1 : Shape := ⟨2, ![16896, 1]⟩
abbrev S1x16896 : Shape := ⟨2, ![1, 16896]⟩
abbrev S16896x16896 : Shape := ⟨2, ![16896, 16896]⟩
abbrev S4x16896 : Shape := ⟨2, ![4, 16896]⟩
abbrev S32x1 : Shape := ⟨2, ![32, 1]⟩
abbrev S32x128 : Shape := ⟨2, ![32, 128]⟩

abbrev nBuf : Space → Nat
  | .hbm => 225
  | .vmem => 0
  | .smem => 0
  | _ => 0

abbrev hbmTy0_0 (i : Nat) : BufTy := match i % 128 with
  | 0 => ⟨S16896x1024, .f32⟩
  | 1 => ⟨S1024x32, .f32⟩
  | 2 => ⟨S32, .f32⟩
  | 3 => ⟨S16896x32, .f32⟩
  | 4 => ⟨S1x32, .f32⟩
  | 5 => ⟨S16896x32, .f32⟩
  | 6 => ⟨S16896x32, .f32⟩
  | 7 => ⟨S32, .i32⟩
  | 8 => ⟨S_, .f32⟩
  | 9 => ⟨S16896x32, .f32⟩
  | 10 => ⟨S_, .f32⟩
  | 11 => ⟨S16896, .f32⟩
  | 12 => ⟨S16896x1, .f32⟩
  | 13 => ⟨S16896x32, .f32⟩
  | 14 => ⟨S16896x32, .i1⟩
  | 15 => ⟨S_, .i32⟩
  | 16 => ⟨S_, .i32⟩
  | 17 => ⟨S16896x32, .i32⟩
  | 18 => ⟨S16896x32, .i32⟩
  | 19 => ⟨S16896x32, .i32⟩
  | 20 => ⟨S_, .i32⟩
  | 21 => ⟨S16896, .i32⟩
  | 22 => ⟨S16896x1, .i32⟩
  | 23 => ⟨S1x32, .i32⟩
  | 24 => ⟨S16896x32, .i32⟩
  | 25 => ⟨S16896x32, .i32⟩
  | 26 => ⟨S16896x32, .i1⟩
  | 27 => ⟨S_, .f32⟩
  | 28 => ⟨S_, .f32⟩
  | 29 => ⟨S16896x32, .f32⟩
  | 30 => ⟨S16896x32, .f32⟩
  | 31 => ⟨S16896x1, .i32⟩
  | 32 => ⟨S1x32, .i32⟩
  | 33 => ⟨S16896x32, .i32⟩
  | 34 => ⟨S16896x32, .i32⟩
  | 35 => ⟨S16896x32, .i1⟩
  | 36 => ⟨S_, .f32⟩
  | 37 => ⟨S_, .f32⟩
  | 38 => ⟨S16896x32, .f32⟩
  | 39 => ⟨S16896x32, .f32⟩
  | 40 => ⟨S_, .f32⟩
  | 41 => ⟨S16896, .f32⟩
  | 42 => ⟨S16896x1, .f32⟩
  | 43 => ⟨S16896x32, .f32⟩
  | 44 => ⟨S16896x32, .i1⟩
  | 45 => ⟨S_, .i32⟩
  | 46 => ⟨S_, .i32⟩
  | 47 => ⟨S16896x32, .i32⟩
  | 48 => ⟨S16896x32, .i32⟩
  | 49 => ⟨S16896x32, .i32⟩
  | 50 => ⟨S_, .i32⟩
  | 51 => ⟨S16896, .i32⟩
  | 52 => ⟨S16896x1, .i32⟩
  | 53 => ⟨S1x32, .i32⟩
  | 54 => ⟨S16896x32, .i32⟩
  | 55 => ⟨S16896x32, .i32⟩
  | 56 => ⟨S16896x32, .i1⟩
  | 57 => ⟨S_, .f32⟩
  | 58 => ⟨S_, .f32⟩
  | 59 => ⟨S16896x32, .f32⟩
  | 60 => ⟨S16896x32, .f32⟩
  | 61 => ⟨S16896x1, .i32⟩
  | 62 => ⟨S1x32, .i32⟩
  | 63 => ⟨S16896x32, .i32⟩
  | 64 => ⟨S16896x32, .i32⟩
  | 65 => ⟨S16896x32, .i1⟩
  | 66 => ⟨S_, .f32⟩
  | 67 => ⟨S_, .f32⟩
  | 68 => ⟨S16896x32, .f32⟩
  | 69 => ⟨S16896x32, .f32⟩
  | 70 => ⟨S_, .f32⟩
  | 71 => ⟨S16896, .f32⟩
  | 72 => ⟨S16896x1, .f32⟩
  | 73 => ⟨S16896x32, .f32⟩
  | 74 => ⟨S16896x32, .i1⟩
  | 75 => ⟨S_, .i32⟩
  | 76 => ⟨S_, .i32⟩
  | 77 => ⟨S16896x32, .i32⟩
  | 78 => ⟨S16896x32, .i32⟩
  | 79 => ⟨S16896x32, .i32⟩
  | 80 => ⟨S_, .i32⟩
  | 81 => ⟨S16896, .i32⟩
  | 82 => ⟨S16896x1, .i32⟩
  | 83 => ⟨S1x32, .i32⟩
  | 84 => ⟨S16896x32, .i32⟩
  | 85 => ⟨S16896x32, .i32⟩
  | 86 => ⟨S16896x32, .i1⟩
  | 87 => ⟨S_, .f32⟩
  | 88 => ⟨S_, .f32⟩
  | 89 => ⟨S16896x32, .f32⟩
  | 90 => ⟨S16896x32, .f32⟩
  | 91 => ⟨S16896x1, .i32⟩
  | 92 => ⟨S1x32, .i32⟩
  | 93 => ⟨S16896x32, .i32⟩
  | 94 => ⟨S16896x32, .i32⟩
  | 95 => ⟨S16896x32, .i1⟩
  | 96 => ⟨S_, .f32⟩
  | 97 => ⟨S_, .f32⟩
  | 98 => ⟨S16896x32, .f32⟩
  | 99 => ⟨S16896x32, .f32⟩
  | 100 => ⟨S_, .f32⟩
  | 101 => ⟨S16896, .f32⟩
  | 102 => ⟨S16896x1, .f32⟩
  | 103 => ⟨S16896x32, .f32⟩
  | 104 => ⟨S16896x32, .i1⟩
  | 105 => ⟨S_, .i32⟩
  | 106 => ⟨S_, .i32⟩
  | 107 => ⟨S16896x32, .i32⟩
  | 108 => ⟨S16896x32, .i32⟩
  | 109 => ⟨S16896x32, .i32⟩
  | 110 => ⟨S_, .i32⟩
  | 111 => ⟨S16896, .i32⟩
  | 112 => ⟨S16896x1, .i32⟩
  | 113 => ⟨S1x32, .i32⟩
  | 114 => ⟨S16896x32, .i32⟩
  | 115 => ⟨S16896x32, .i32⟩
  | 116 => ⟨S16896x32, .i1⟩
  | 117 => ⟨S_, .f32⟩
  | 118 => ⟨S_, .f32⟩
  | 119 => ⟨S16896x32, .f32⟩
  | 120 => ⟨S16896x32, .f32⟩
  | 121 => ⟨S16896x1, .i32⟩
  | 122 => ⟨S1x32, .i32⟩
  | 123 => ⟨S16896x32, .i32⟩
  | 124 => ⟨S16896x32, .i32⟩
  | 125 => ⟨S16896x32, .i1⟩
  | 126 => ⟨S_, .f32⟩
  | 127 => ⟨S_, .f32⟩
  | _ => ⟨S16896x1024, .f32⟩

abbrev hbmTy0_1 (i : Nat) : BufTy := match i % 128 with
  | 0 => ⟨S16896x32, .f32⟩
  | 1 => ⟨S16896x32, .f32⟩
  | 2 => ⟨S16896, .f32⟩
  | 3 => ⟨S16896, .f32⟩
  | 4 => ⟨S16896, .f32⟩
  | 5 => ⟨S16896, .f32⟩
  | 6 => ⟨S16896, .f32⟩
  | 7 => ⟨S16896, .f32⟩
  | 8 => ⟨S16896, .f32⟩
  | 9 => ⟨S16896, .f32⟩
  | 10 => ⟨S16896, .f32⟩
  | 11 => ⟨S16896, .f32⟩
  | 12 => ⟨S16896, .f32⟩
  | 13 => ⟨S16896, .i32⟩
  | 14 => ⟨S16896x1, .i32⟩
  | 15 => ⟨S1x16896, .i32⟩
  | 16 => ⟨S16896x16896, .i32⟩
  | 17 => ⟨S16896x16896, .i32⟩
  | 18 => ⟨S16896x16896, .i1⟩
  | 19 => ⟨S_, .f32⟩
  | 20 => ⟨S_, .f32⟩
  | 21 => ⟨S16896x16896, .f32⟩
  | 22 => ⟨S16896x16896, .f32⟩
  | 23 => ⟨S16896x16896, .f32⟩
  | 24 => ⟨S16896x32, .f32⟩
  | 25 => ⟨S16896x1, .i32⟩
  | 26 => ⟨S1x32, .i32⟩
  | 27 => ⟨S16896x32, .i32⟩
  | 28 => ⟨S16896x32, .i32⟩
  | 29 => ⟨S16896x32, .i1⟩
  | 30 => ⟨S_, .f32⟩
  | 31 => ⟨S_, .f32⟩
  | 32 => ⟨S16896x32, .f32⟩
  | 33 => ⟨S16896x32, .f32⟩
  | 34 => ⟨S_, .f32⟩
  | 35 => ⟨S16896, .f32⟩
  | 36 => ⟨S16896, .i32⟩
  | 37 => ⟨S16896x1, .i32⟩
  | 38 => ⟨S1x32, .i32⟩
  | 39 => ⟨S16896x32, .i32⟩
  | 40 => ⟨S16896x32, .i32⟩
  | 41 => ⟨S16896x32, .i1⟩
  | 42 => ⟨S_, .f32⟩
  | 43 => ⟨S_, .f32⟩
  | 44 => ⟨S16896x32, .f32⟩
  | 45 => ⟨S16896x32, .f32⟩
  | 46 => ⟨S_, .f32⟩
  | 47 => ⟨S16896, .f32⟩
  | 48 => ⟨S16896, .i32⟩
  | 49 => ⟨S16896x1, .i32⟩
  | 50 => ⟨S1x32, .i32⟩
  | 51 => ⟨S16896x32, .i32⟩
  | 52 => ⟨S16896x32, .i32⟩
  | 53 => ⟨S16896x32, .i1⟩
  | 54 => ⟨S_, .f32⟩
  | 55 => ⟨S_, .f32⟩
  | 56 => ⟨S16896x32, .f32⟩
  | 57 => ⟨S16896x32, .f32⟩
  | 58 => ⟨S_, .f32⟩
  | 59 => ⟨S16896, .f32⟩
  | 60 => ⟨S16896, .i32⟩
  | 61 => ⟨S16896x1, .i32⟩
  | 62 => ⟨S1x32, .i32⟩
  | 63 => ⟨S16896x32, .i32⟩
  | 64 => ⟨S16896x32, .i32⟩
  | 65 => ⟨S16896x32, .i1⟩
  | 66 => ⟨S_, .f32⟩
  | 67 => ⟨S_, .f32⟩
  | 68 => ⟨S16896x32, .f32⟩
  | 69 => ⟨S16896x32, .f32⟩
  | 70 => ⟨S_, .f32⟩
  | 71 => ⟨S16896, .f32⟩
  | 72 => ⟨S16896, .i32⟩
  | 73 => ⟨S_, .f32⟩
  | 74 => ⟨S32, .f32⟩
  | 75 => ⟨S32, .i32⟩
  | 76 => ⟨S1x16896, .i32⟩
  | 77 => ⟨S1x16896, .i32⟩
  | 78 => ⟨S1x16896, .i32⟩
  | 79 => ⟨S1x16896, .i32⟩
  | 80 => ⟨S4x16896, .i32⟩
  | 81 => ⟨S16896, .f32⟩
  | 82 => ⟨S16896, .f32⟩
  | 83 => ⟨S16896, .f32⟩
  | 84 => ⟨S16896, .f32⟩
  | 85 => ⟨S1x16896, .f32⟩
  | 86 => ⟨S1x16896, .f32⟩
  | 87 => ⟨S1x16896, .f32⟩
  | 88 => ⟨S1x16896, .f32⟩
  | 89 => ⟨S4x16896, .f32⟩
  | 90 => ⟨S1x16896, .i32⟩
  | 91 => ⟨S1x16896, .i32⟩
  | 92 => ⟨S1x16896, .i32⟩
  | 93 => ⟨S1x16896, .i32⟩
  | 94 => ⟨S4x16896, .i32⟩
  | 95 => ⟨S32x1, .i32⟩
  | 96 => ⟨S32x128, .i32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_call2_v0 : Ref sig .tc := ⟨.hbm, 37, rfl⟩
abbrev main_call2_v1 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_call4_v0 : Ref sig .tc := ⟨.hbm, 58, rfl⟩
abbrev main_call4_v1 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_call5_v0 : Ref sig .tc := ⟨.hbm, 67, rfl⟩
abbrev main_call5_v1 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_v46 : Ref sig .tc := ⟨.hbm, 79, rfl⟩
abbrev main_c_11 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_call7_v0 : Ref sig .tc := ⟨.hbm, 88, rfl⟩
abbrev main_call7_v1 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_call8_v0 : Ref sig .tc := ⟨.hbm, 97, rfl⟩
abbrev main_call8_v1 : Ref sig .tc := ⟨.hbm, 98, rfl⟩
abbrev main_v59 : Ref sig .tc := ⟨.hbm, 99, rfl⟩
abbrev main_cst_14 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_15 : Ref sig .tc := ⟨.hbm, 105, rfl⟩
abbrev main_call9_v0 : Ref sig .tc := ⟨.hbm, 106, rfl⟩
abbrev main_call9_v1 : Ref sig .tc := ⟨.hbm, 107, rfl⟩
abbrev main_call9_v2 : Ref sig .tc := ⟨.hbm, 108, rfl⟩
abbrev main_v64 : Ref sig .tc := ⟨.hbm, 109, rfl⟩
abbrev main_c_16 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_17 : Ref sig .tc := ⟨.hbm, 117, rfl⟩
abbrev main_call10_v0 : Ref sig .tc := ⟨.hbm, 118, rfl⟩
abbrev main_call10_v1 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_18 : Ref sig .tc := ⟨.hbm, 126, rfl⟩
abbrev main_call11_v0 : Ref sig .tc := ⟨.hbm, 127, rfl⟩
abbrev main_call11_v1 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_19 : Ref sig .tc := ⟨.hbm, 147, rfl⟩
abbrev main_cst_20 : Ref sig .tc := ⟨.hbm, 148, rfl⟩
abbrev main_call12_v0 : Ref sig .tc := ⟨.hbm, 149, rfl⟩
abbrev main_call12_v1 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_21 : Ref sig .tc := ⟨.hbm, 158, rfl⟩
abbrev main_call13_v0 : Ref sig .tc := ⟨.hbm, 159, rfl⟩
abbrev main_call13_v1 : Ref sig .tc := ⟨.hbm, 160, rfl⟩
abbrev main_v102 : Ref sig .tc := ⟨.hbm, 161, rfl⟩
abbrev main_cst_22 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_23 : Ref sig .tc := ⟨.hbm, 170, rfl⟩
abbrev main_call14_v0 : Ref sig .tc := ⟨.hbm, 171, rfl⟩
abbrev main_call14_v1 : Ref sig .tc := ⟨.hbm, 172, rfl⟩
abbrev main_v110 : Ref sig .tc := ⟨.hbm, 173, rfl⟩
abbrev main_cst_24 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_25 : Ref sig .tc := ⟨.hbm, 182, rfl⟩
abbrev main_call15_v0 : Ref sig .tc := ⟨.hbm, 183, rfl⟩
abbrev main_call15_v1 : Ref sig .tc := ⟨.hbm, 184, rfl⟩
abbrev main_v118 : Ref sig .tc := ⟨.hbm, 185, rfl⟩
abbrev main_cst_26 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_27 : Ref sig .tc := ⟨.hbm, 194, rfl⟩
abbrev main_call16_v0 : Ref sig .tc := ⟨.hbm, 195, rfl⟩
abbrev main_call16_v1 : Ref sig .tc := ⟨.hbm, 196, rfl⟩
abbrev main_v126 : Ref sig .tc := ⟨.hbm, 197, rfl⟩
abbrev main_cst_28 : Ref sig .tc := ⟨.hbm, 198, rfl⟩
abbrev main_v127 : Ref sig .tc := ⟨.hbm, 199, rfl⟩
abbrev main_v128 : Ref sig .tc := ⟨.hbm, 200, rfl⟩
abbrev main_cst_29 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩

abbrev nD : Nat := 1
abbrev τ : Topo := Topo.v7x

variable {F : FTy → Type} [FloatOps F]
-- ==== Proof.Experts.lean ====
module

public import proofs.«01_k».proof.Defs
public import proofs.«01_k».proof.Proof.Gen.Kernel2.Frame
public import proofs.«01_k».proof.Proof.Gen.Kernel2Ideal.Frame
public import Idealize.ShloMosaic.Lib.Pipeline.ValueKit
public import Idealize.ShloMosaic.Lib.WordArith

@[expose] public section

set_option maxRecDepth 16384

noncomputable section

namespace Cert.ExpertsProof

open Idealize.ShloMosaic Idealize.ShloMosaic.TcCoe Idealize.ShloMosaic.WordArith

/-- A word that is at least zero and below 32, read signed, is a number below 32. -/
theorem word_lt (w : BitVec 32) (h : IntOp.andi (IntOp.cmpi .sge w 0#32) (IntOp.cmpi .slt w 32#32) = 1#1) : w.toNat < 32 := by
  simp only [IntOp.cmpi, andi_ofBool, ofBool_eq_one_iff, Bool.and_eq_true, BitVec.sle, BitVec.slt, decide_eq_true_eq, BitVec.toInt,
    BitVec.toNat_ofNat] at h
  omega

section Rounded
open Cert.Kernel2 Cert.Kernel2.Gen

/-- Under the precondition every word of the block table names an expert. -/
theorem word_bits (m : (ℓ : Loc nD τ sig) → Buf (Elt Bits) ℓ) [Cert.Pre_names_experts.Facts] (h : Cert.Pre_Kernel2 m) (y : S296.Idx) :
    BitVec.toNat (m ((0 : Dev nD).tc.loc main_arg1) y : BitVec 32) < 32 :=
  word_lt _ (congrFun (h 0) y)

theorem ok_bits (m : (ℓ : Loc nD τ sig) → Buf (Elt Bits) ℓ) [Cert.Pre_names_experts.Facts] (h : Cert.Pre_Kernel2 m) : Ok m := by
  have inb : ∀ (v : BitVec 32), v.toNat < 32 → ∀ a : Fin 3, ((![v.toNat, (0#32 : BitVec 32).toNat, (0#32 : BitVec 32).toNat] : Fin 3 → Nat) a + 1) * S1x1024x1024.size a ≤ S32x1024x1024.size a := by
    intro v hv a
    fin_cases a
    · show (v.toNat + 1) * 1 ≤ 32; omega
    · exact Nat.le_refl 1024
    · exact Nat.le_refl 1024
  have inb1 : ∀ (v : BitVec 32), v.toNat < 32 → ∀ a : Fin 3, ((![v.toNat, (0#32 : BitVec 32).toNat, (0#32 : BitVec 32).toNat] : Fin 3 → Nat) a + 1) * S1x1x1024.size a ≤ S32x1x1024.size a := by
    intro v hv a
    fin_cases a
    · show (v.toNat + 1) * 1 ≤ 32; omega
    · exact Nat.le_refl 1
    · exact Nat.le_refl 1024
  unfold Ok ok0
  refine ⟨fun i => ⟨inb _ (word_bits m h _), .inr (.inr ⟨by decide, rfl, rfl, rfl⟩)⟩, fun i => ⟨inb1 _ (word_bits m h _), .inl rfl⟩,
    fun i => ⟨inb _ (word_bits m h _), .inr (.inr ⟨by decide, rfl, rfl, rfl⟩)⟩, fun i => ⟨inb1 _ (word_bits m h _), .inl rfl⟩,
    fun i => ⟨inb _ (word_bits m h _), .inr (.inr ⟨by decide, rfl, rfl, rfl⟩)⟩, fun i => ⟨inb1 _ (word_bits m h _), .inl rfl⟩⟩

end Rounded

section Exact
open Cert.Kernel2Ideal Cert.Kernel2Ideal.Gen

/-- Under the precondition every word of the block table names an expert. -/
theorem word_exact (m : (ℓ : Loc nD τ sig) → Buf (Elt Ideal) ℓ) [Cert.Pre_names_experts.Facts] (h : Cert.Pre_Kernel2Ideal m) (y : S296.Idx) :
    BitVec.toNat (m ((0 : Dev nD).tc.loc main_arg1) y : BitVec 32) < 32 :=
  word_lt _ (congrFun (h 0) y)

theorem ok_exact (m : (ℓ : Loc nD τ sig) → Buf (Elt Ideal) ℓ) [Cert.Pre_names_experts.Facts] (h : Cert.Pre_Kernel2Ideal m) : Ok m := by
  have inb : ∀ (v : BitVec 32), v.toNat < 32 → ∀ a : Fin 3, ((![v.toNat, (0#32 : BitVec 32).toNat, (0#32 : BitVec 32).toNat] : Fin 3 → Nat) a + 1) * S1x1024x1024.size a ≤ S32x1024x1024.size a := by
    intro v hv a
    fin_cases a
    · show (v.toNat + 1) * 1 ≤ 32; omega
    · exact Nat.le_refl 1024
    · exact Nat.le_refl 1024
  have inb1 : ∀ (v : BitVec 32), v.toNat < 32 → ∀ a : Fin 3, ((![v.toNat, (0#32 : BitVec 32).toNat, (0#32 : BitVec 32).toNat] : Fin 3 → Nat) a + 1) * S1x1x1024.size a ≤ S32x1x1024.size a := by
    intro v hv a
    fin_cases a
    · show (v.toNat + 1) * 1 ≤ 32; omega
    · exact Nat.le_refl 1
    · exact Nat.le_refl 1024
  unfold Ok ok0
  refine ⟨fun i => ⟨inb _ (word_exact m h _), .inr (.inr ⟨by decide, rfl, rfl, rfl⟩)⟩, fun i => ⟨inb1 _ (word_exact m h _), .inl rfl⟩,
    fun i => ⟨inb _ (word_exact m h _), .inr (.inr ⟨by decide, rfl, rfl, rfl⟩)⟩, fun i => ⟨inb1 _ (word_exact m h _), .inl rfl⟩,
    fun i => ⟨inb _ (word_exact m h _), .inr (.inr ⟨by decide, rfl, rfl, rfl⟩)⟩, fun i => ⟨inb1 _ (word_exact m h _), .inl rfl⟩⟩

end Exact

end Cert.ExpertsProof

end
-- ==== Proof.ExpertsRef.lean ====
module

public import proofs.«01_k».proof.Defs
public import proofs.«01_k».proof.Proof.Gen.Reference2Ideal.Run
public import Idealize.ShloMosaic.Lib.Pipeline.ValueKit
public import Idealize.ShloMosaic.Lib.WordArith

@[expose] public section

set_option maxRecDepth 16384

noncomputable section

namespace Cert.ExpertsProof

open Idealize.ShloMosaic Idealize.ShloMosaic.TcCoe Idealize.ShloMosaic.WordArith

/-- One entry of an expert's output for one row: the gated hidden layer, projected down. -/
def expertRow (x : Fin 1024 → EReal) (wg wu wd : Fin 1024 → Fin 1024 → EReal) (bg bu bd : Fin 1024 → EReal) (d : Fin 1024) : EReal :=
  ∑ f : Fin 1024,
      (min (Ideal.ofBits FTy.f32 1088421888#32) (max (Ideal.ofBits FTy.f32 3235905536#32) (∑ k : Fin 1024, x k * wu k f + bu f)) + 1)
          * min (∑ k : Fin 1024, x k * wg k f + bg f) (Ideal.ofBits FTy.f32 1088421888#32)
        * Ideal.logistic (Ideal.ofBits FTy.f32 1071242019#32 * min (∑ k : Fin 1024, x k * wg k f + bg f) (Ideal.ofBits FTy.f32 1088421888#32))
      * wd f d
    + bd d

section Ref
open Cert.Reference2Ideal Cert.Reference2Ideal.Gen

variable (m : (ℓ : Loc nD τ sig) → Buf (Elt Ideal) ℓ) (c : Dev nD)

/-- An in-range start index is the slice taken, whole matrices. -/
theorem gather_weights (x : S32x1024x1024.Idx → EReal) (idx : IVec S296x1 32) (n : Fin 296) (k f : Fin 1024) (e : Fin 32)
    (he : (idx (ix2 n (0 : Fin 1))).toInt.toNat = e.val) :
    Host.gather gather_S32x1024x1024_S296x1_S296x1024x1024_12_0_n_n_0_1_110241024 x idx (ix3 n k f) = x (ix3 e k f) := by
  unfold Host.gather
  refine congrArg x (funext fun a => Fin.ext ?_)
  have at0 : gather_S32x1024x1024_S296x1_S296x1024x1024_12_0_n_n_0_1_110241024.siIdx (ix3 n k f) ⟨0, by decide⟩ = ix2 n (0 : Fin 1) := by
    funext b; apply Fin.ext; fin_cases b <;> rfl
  fin_cases a
  · show (min (idx (gather_S32x1024x1024_S296x1_S296x1024x1024_12_0_n_n_0_1_110241024.siIdx (ix3 n k f) ⟨0, by decide⟩)).toInt.toNat 31) + 0 + 0 = e.val
    rw [at0, he]; omega
  · show 0 + 0 + k.val = k.val
    omega
  · show 0 + 0 + f.val = f.val
    omega

/-- The same for the biases, one row each. -/
theorem gather_bias (x : S32x1x1024.Idx → EReal) (idx : IVec S296x1 32) (n : Fin 296) (k : Fin 1) (f : Fin 1024) (e : Fin 32)
    (he : (idx (ix2 n (0 : Fin 1))).toInt.toNat = e.val) :
    Host.gather gather_S32x1x1024_S296x1_S296x1x1024_12_0_n_n_0_1_111024 x idx (ix3 n k f) = x (ix3 e k f) := by
  unfold Host.gather
  refine congrArg x (funext fun a => Fin.ext ?_)
  have at0 : gather_S32x1x1024_S296x1_S296x1x1024_12_0_n_n_0_1_111024.siIdx (ix3 n k f) ⟨0, by decide⟩ = ix2 n (0 : Fin 1) := by
    funext b; apply Fin.ext; fin_cases b <;> rfl
  fin_cases a
  · show (min (idx (gather_S32x1x1024_S296x1_S296x1x1024_12_0_n_n_0_1_111024.siIdx (ix3 n k f) ⟨0, by decide⟩)).toInt.toNat 31) + 0 + 0 = e.val
    rw [at0, he]; omega
  · show 0 + 0 + k.val = k.val
    omega
  · show 0 + 0 + f.val = f.val
    omega

/-- The start indices the gathers are handed. -/
def ids (b : IVec S296 32) : IVec S296x1 32 :=
  broadcastInDim S296x1 ![0] bcast_S296_S296x1_0 (select (cmpi .slt b (broadcastInDim S296 ![] bcast_S_S296 (constantI S_ 32 0#32))) (addi b (broadcastInDim S296 ![] bcast_S_S296 (constantI S_ 32 32#32))) b)

/-- Of a block whose word is below 32 the start index is that word. -/
theorem ids_of (b : IVec S296 32) (n : Fin 296) (h : (b (ix1 n)).toNat < 32) : (ids b (ix2 n (0 : Fin 1))).toInt.toNat = (b (ix1 n)).toNat := by
  have e : ids b (ix2 n (0 : Fin 1)) = b (ix1 n) := by
    unfold ids
    pointwise
    have hn : IntOp.cmpi .slt (b (ix1 n)) 0#32 = 0#1 := by
      simp only [IntOp.cmpi, BitVec.slt, BitVec.toInt, BitVec.toNat_ofNat]
      rw [decide_eq_false (by omega)]; rfl
    rw [hn]; rfl
  rw [e, BitVec.toInt]
  omega

/-- A product of every block with its expert's matrix, its bias added. -/
def lin (x : FVec Ideal S296x256x1024 .f32) (w : Vec Ideal S32x1024x1024 .bf16) (v : Vec Ideal S32x1x1024 .f32) (b : IVec S296 32) : FVec Ideal S296x256x1024 .f32 :=
  addf (Host.dotGeneral dot_S296x256x1024_S296x1024x1024_S296x256x1024_2_1_1_2_0_0 none x (Host.gather gather_S32x1024x1024_S296x1_S296x1024x1024_12_0_n_n_0_1_110241024 (extf .f32 w bitsLt_bf16_f32) (ids b)))
    (broadcastInDim S296x256x1024 ![0, 1, 2] bcast_S296x1x1024_S296x256x1024_0_1_2 (Host.gather gather_S32x1x1024_S296x1_S296x1x1024_12_0_n_n_0_1_111024 v (ids b)))

theorem lin_apply (x : FVec Ideal S296x256x1024 .f32) (w : Vec Ideal S32x1024x1024 .bf16) (v : Vec Ideal S32x1x1024 .f32) (b : IVec S296 32)
    (n : Fin 296) (r : Fin 256) (f : Fin 1024) (e : Fin 32) (he : (b (ix1 n)).toNat = e.val) :
    lin x w v b (ix3 n r f) = ∑ k : Fin 1024, x (ix3 n r k) * w (ix3 e k f) + v (ix3 e (0 : Fin 1) f) := by
  have hid := (ids_of b n (he ▸ e.isLt)).trans he
  unfold lin
  pointwise
  rw [gather_bias v (ids b) n _ f e hid]
  refine congrArg (· + _) (Finset.sum_congr rfl fun k _ => ?_)
  rw [gather_weights _ (ids b) n k f e hid]
  rfl

/-- The hidden layer from its two projections. -/
def hid (u g : FVec Ideal S296x256x1024 .f32) : FVec Ideal S296x256x1024 .f32 :=
  mulf (mulf (addf (minimumf (broadcastInDim S296x256x1024 ![] bcast_S_S296x256x1024 (id (constant S_ .f32 0x40E00000#32))) (maximumf (broadcastInDim S296x256x1024 ![] bcast_S_S296x256x1024 (id (constant S_ .f32 0xC0E00000#32))) u)) (broadcastInDim S296x256x1024 ![] bcast_S_S296x256x1024 (constant S_ .f32 0x3F800000#32))) (minimumf g (broadcastInDim S296x256x1024 ![] bcast_S_S296x256x1024 (constant S_ .f32 0x40E00000#32))))
    (Host.divf (broadcastInDim S296x256x1024 ![] bcast_S_S296x256x1024 (constant S_ .f32 0x3F800000#32)) (addf (broadcastInDim S296x256x1024 ![] bcast_S_S296x256x1024 (constant S_ .f32 0x3F800000#32)) (Host.exp (Host.negf (mulf (broadcastInDim S296x256x1024 ![] bcast_S_S296x256x1024 (constant S_ .f32 0x3FD9DB23#32)) (minimumf g (broadcastInDim S296x256x1024 ![] bcast_S_S296x256x1024 (constant S_ .f32 0x40E00000#32))))))))

theorem hid_apply (u g : FVec Ideal S296x256x1024 .f32) (n : Fin 296) (r : Fin 256) (f : Fin 1024) :
    hid u g (ix3 n r f) = (min (Ideal.ofBits FTy.f32 1088421888#32) (max (Ideal.ofBits FTy.f32 3235905536#32) (u (ix3 n r f))) + 1)
          * min (g (ix3 n r f)) (Ideal.ofBits FTy.f32 1088421888#32)
        * Ideal.logistic (Ideal.ofBits FTy.f32 1071242019#32 * min (g (ix3 n r f)) (Ideal.ofBits FTy.f32 1088421888#32)) := by
  unfold hid
  pointwise
  rfl

set_option maxHeartbeats 1000000 in
/-- The reference's result, in stages. -/
theorem res_staged : (Cert.Reference2Ideal.Value.res_out0 m c : S75776x1024.Idx → EReal)
    = shapeCast S75776x1024 (lin (hid (lin (shapeCast S296x256x1024 (m ((c.tc : Thread nD τ).loc main_arg0)) shapeCasts_S75776x1024_S296x256x1024) (m ((c.tc : Thread nD τ).loc main_arg4)) (m ((c.tc : Thread nD τ).loc main_arg5)) (m ((c.tc : Thread nD τ).loc main_arg1)))
        (lin (shapeCast S296x256x1024 (m ((c.tc : Thread nD τ).loc main_arg0)) shapeCasts_S75776x1024_S296x256x1024) (m ((c.tc : Thread nD τ).loc main_arg2)) (m ((c.tc : Thread nD τ).loc main_arg3)) (m ((c.tc : Thread nD τ).loc main_arg1))))
      (m ((c.tc : Thread nD τ).loc main_arg6)) (m ((c.tc : Thread nD τ).loc main_arg7)) (m ((c.tc : Thread nD τ).loc main_arg1))) shapeCasts_S296x256x1024_S75776x1024 := by
  unfold Cert.Reference2Ideal.Value.res_out0 Cert.Reference2Ideal.Value.res_main_v70 lin hid ids
  rfl

theorem rows_apply {α : Type} (x : S75776x1024.Idx → α) (n : Fin 296) (r : Fin 256) (k : Fin 1024) :
    shapeCast S296x256x1024 x shapeCasts_S75776x1024_S296x256x1024 (ix3 n r k) = x (ix2 ⟨256 * n.val + r.val, by omega⟩ k) := by
  pointwise
  blk_ext []

theorem rows_back {α : Type} (x : S296x256x1024.Idx → α) (n : Fin 296) (r : Fin 256) (k : Fin 1024) :
    shapeCast S75776x1024 x shapeCasts_S296x256x1024_S75776x1024 (ix2 ⟨256 * n.val + r.val, by omega⟩ k) = x (ix3 n r k) := by
  pointwise
  blk_ext []

/-- One element of the reference's result: the expert of its block applied to its row. -/
theorem ref_apply (n : Fin 296) (r : Fin 256) (d : Fin 1024) (e : Fin 32)
    (he : BitVec.toNat (m ((c.tc : Thread nD τ).loc main_arg1) (ix1 n) : BitVec 32) = e.val) :
    (Cert.Reference2Ideal.Value.res_out0 m c : S75776x1024.Idx → EReal) (ix2 ⟨256 * n.val + r.val, by omega⟩ d)
      = expertRow (fun k => m ((c.tc : Thread nD τ).loc main_arg0) (ix2 ⟨256 * n.val + r.val, by omega⟩ k))
        (fun k f => m ((c.tc : Thread nD τ).loc main_arg2) (ix3 e k f)) (fun k f => m ((c.tc : Thread nD τ).loc main_arg4) (ix3 e k f))
        (fun k f => m ((c.tc : Thread nD τ).loc main_arg6) (ix3 e k f)) (fun f => m ((c.tc : Thread nD τ).loc main_arg3) (ix3 e (0 : Fin 1) f))
        (fun f => m ((c.tc : Thread nD τ).loc main_arg5) (ix3 e (0 : Fin 1) f)) (fun f => m ((c.tc : Thread nD τ).loc main_arg7) (ix3 e (0 : Fin 1) f)) d := by
  rw [res_staged, rows_back, lin_apply _ _ _ _ _ _ _ _ he]
  simp only [hid_apply, lin_apply _ _ _ _ _ _ _ _ he, rows_apply]
  rfl

end Ref

end Cert.ExpertsProof

end
-- ==== Proof.ExpertsValue.lean ====
module

public import proofs.«01_k».proof.Proof.Experts
public import proofs.«01_k».proof.Proof.ExpertsRef
public import Idealize.ShloMosaic.Lib.Pipeline.Covers

@[expose] public section

set_option maxRecDepth 16384

noncomputable section

namespace Cert.ExpertsProof

open Cert.Kernel2Ideal Cert.Kernel2Ideal.Gen
open Idealize.ShloMosaic Idealize.ShloMosaic.TcCoe Idealize.ShloMosaic.WordArith

variable (m : (ℓ : Loc nD τ sig) → Buf (Elt Ideal) ℓ)

theorem coords_val (t : Fin grid0.N) : (BitVec.ofNat 32 (grid0.coords t 0).val).toNat = t.val := by
  revert t; decide +kernel

/-- Where the output's block sits at a grid point. -/
theorem idx_out (hO : Ok m) (t : Fin (cfgM m hO).N) : ((cfgM m hO).win 7).index t = ![t.val, 0] := by
  show ![(BitVec.ofNat 32 (grid0.coords t 0).val).toNat, (0#32 : BitVec 32).toNat] = _
  rw [coords_val]
  rfl

/-- Where the rows' block sits at a grid point. -/
theorem idx_rows (hO : Ok m) (t : Fin (cfgM m hO).N) : ((cfgM m hO).win 0).index t = ![t.val, 0] := idx_out m hO t

/-- The expert of a grid point: the block table's word there. -/
def wordAt (t : Fin 296) : BitVec 32 := m ((0 : Dev nD).tc.loc main_arg1) (ix1 t)

/-- A grid point as the number of its block of rows. -/
def pt {hO : Ok m} (t : Fin (cfgM m hO).N) : Fin 296 := ⟨t.val, t.isLt⟩

theorem idx_weights (hO : Ok m) (t : Fin (cfgM m hO).N) : ((cfgM m hO).win 1).index t = ![(wordAt m (pt m t)).toNat, 0, 0] := by
  show ![BitVec.toNat _, (0#32 : BitVec 32).toNat, (0#32 : BitVec 32).toNat] = _
  congr 2
  unfold wordAt
  refine congrArg (m ((0 : Dev nD).tc.loc main_arg1)) (funext fun (a : Fin 1) => Fin.ext ?_)
  obtain rfl : a = 0 := Subsingleton.elim _ _
  show (BitVec.ofNat 32 (grid0.coords t 0).val).toNat + 0 = t.val
  rw [coords_val]
  rfl

theorem pay (x : Vec Ideal S256x1024 .f32) (wg wu wd : Vec Ideal S1x1024x1024 .bf16) (bg bu bd : Vec Ideal S1x1x1024 .f32) (r : Fin 256) (d : Fin 1024) :
    k0_pay1 (k0_pay2 x wg bg wu bu wd) bd (ix2 r d)
      = expertRow (fun k => x (ix2 r k)) (fun k f => wg (ix3 (0 : Fin 1) k f)) (fun k f => wu (ix3 (0 : Fin 1) k f)) (fun k f => wd (ix3 (0 : Fin 1) k f))
        (fun f => bg (ix3 (0 : Fin 1) (0 : Fin 1) f)) (fun f => bu (ix3 (0 : Fin 1) (0 : Fin 1) f)) (fun f => bd (ix3 (0 : Fin 1) (0 : Fin 1) f)) d := by
  unfold k0_pay1 k0_pay2
  pointwise
  rfl

/-- The rows a grid point is handed. -/
theorem rows_block (hO : Ok m) (c : Dev nD) (t : Fin (cfgM m hO).N) (r : Fin 256) (k : Fin 1024) :
    iblk m hO c 0 t (ix2 r k) = m (c.tc.loc main_arg0) (ix2 ⟨256 * (pt m t).val + r.val, by omega⟩ k) := by
  blk_ext [iblk, V, idx_rows m hO t, pt]

/-- The matrices and biases it is handed, of the expert its word names. -/
theorem weights_block (hO : Ok m) (c : Dev nD) (t : Fin (cfgM m hO).N) (e : Fin 32) (he : (wordAt m (pt m t)).toNat = e.val) (k f : Fin 1024) :
    iblk m hO c 1 t (ix3 (0 : Fin 1) k f) = m (c.tc.loc main_arg2) (ix3 e k f)
    ∧ iblk m hO c 3 t (ix3 (0 : Fin 1) k f) = m (c.tc.loc main_arg4) (ix3 e k f)
    ∧ iblk m hO c 5 t (ix3 (0 : Fin 1) k f) = m (c.tc.loc main_arg6) (ix3 e k f) := by
  have i1 : ((cfgM m hO).win 1).index t = ![(wordAt m (pt m t)).toNat, 0, 0] := idx_weights m hO t
  have i3 : ((cfgM m hO).win 3).index t = ![(wordAt m (pt m t)).toNat, 0, 0] := idx_weights m hO t
  have i5 : ((cfgM m hO).win 5).index t = ![(wordAt m (pt m t)).toNat, 0, 0] := idx_weights m hO t
  refine ⟨?_, ?_, ?_⟩
  · blk_ext [iblk, V, i1]
  · blk_ext [iblk, V, i3]
  · blk_ext [iblk, V, i5]

theorem bias_block (hO : Ok m) (c : Dev nD) (t : Fin (cfgM m hO).N) (e : Fin 32) (he : (wordAt m (pt m t)).toNat = e.val) (f : Fin 1024) :
    iblk m hO c 2 t (ix3 (0 : Fin 1) (0 : Fin 1) f) = m (c.tc.loc main_arg3) (ix3 e (0 : Fin 1) f)
    ∧ iblk m hO c 4 t (ix3 (0 : Fin 1) (0 : Fin 1) f) = m (c.tc.loc main_arg5) (ix3 e (0 : Fin 1) f)
    ∧ iblk m hO c 6 t (ix3 (0 : Fin 1) (0 : Fin 1) f) = m (c.tc.loc main_arg7) (ix3 e (0 : Fin 1) f) := by
  have i2 : ((cfgM m hO).win 2).index t = ![(wordAt m (pt m t)).toNat, 0, 0] := idx_weights m hO t
  have i4 : ((cfgM m hO).win 4).index t = ![(wordAt m (pt m t)).toNat, 0, 0] := idx_weights m hO t
  have i6 : ((cfgM m hO).win 6).index t = ![(wordAt m (pt m t)).toNat, 0, 0] := idx_weights m hO t
  refine ⟨?_, ?_, ?_⟩
  · blk_ext [iblk, V, i2]
  · blk_ext [iblk, V, i4]
  · blk_ext [iblk, V, i6]

/-- What the body leaves in the output block, on any staging memrefs. -/
theorem body_apply (c : Dev nD) (i : grid0.Coords) (arg2 : Memref sig .tc .vmem S256x1024 .f32) (h2 : arg2.IsWhole) (arg3 : Memref sig .tc .vmem S1x1024x1024 .bf16) (h3 : arg3.IsWhole)
    (arg4 : Memref sig .tc .vmem S1x1x1024 .f32) (h4 : arg4.IsWhole) (arg5 : Memref sig .tc .vmem S1x1024x1024 .bf16) (h5 : arg5.IsWhole) (arg6 : Memref sig .tc .vmem S1x1x1024 .f32) (h6 : arg6.IsWhole)
    (arg7 : Memref sig .tc .vmem S1x1024x1024 .bf16) (h7 : arg7.IsWhole) (arg8 : Memref sig .tc .vmem S1x1x1024 .f32) (h8 : arg8.IsWhole) (arg9 : Memref sig .tc .vmem S256x1024 .f32) (h9 : arg9.IsWhole)
    (x : Vec Ideal S256x1024 .f32) (wg wu wd : Vec Ideal S1x1024x1024 .bf16) (bg bu bd : Vec Ideal S1x1x1024 .f32) (xt : TbBuf0 (F := Ideal) c tbM0_0) (r : Fin 256) (d : Fin 1024) :
    out0_A_7 c i arg2 h2 arg3 h3 arg4 h4 arg5 h5 arg6 h6 arg7 h7 arg8 h8 arg9 h9 x wg bg wu bu wd bd xt (ix2 r d)
      = expertRow (fun k => x (ix2 r k)) (fun k f => wg (ix3 (0 : Fin 1) k f)) (fun k f => wu (ix3 (0 : Fin 1) k f)) (fun k f => wd (ix3 (0 : Fin 1) k f))
        (fun f => bg (ix3 (0 : Fin 1) (0 : Fin 1) f)) (fun f => bu (ix3 (0 : Fin 1) (0 : Fin 1) f)) (fun f => bd (ix3 (0 : Fin 1) (0 : Fin 1) f)) d := by
  frame_out
  exact pay x wg wu wd bg bu bd r d

/-- What a grid point leaves in its output block. -/
theorem point (hO : Ok m) (c : Dev nD) (t : Fin (cfgM m hO).N) (e : Fin 32) (he : (wordAt m (pt m t)).toNat = e.val) (r : Fin 256) (d : Fin 1024) :
    outsAt0 m hO c t (ix2 r d) = expertRow (fun k => m (c.tc.loc main_arg0) (ix2 ⟨256 * (pt m t).val + r.val, by omega⟩ k))
        (fun k f => m (c.tc.loc main_arg2) (ix3 e k f)) (fun k f => m (c.tc.loc main_arg4) (ix3 e k f))
        (fun k f => m (c.tc.loc main_arg6) (ix3 e k f)) (fun f => m (c.tc.loc main_arg3) (ix3 e (0 : Fin 1) f))
        (fun f => m (c.tc.loc main_arg5) (ix3 e (0 : Fin 1) f)) (fun f => m (c.tc.loc main_arg7) (ix3 e (0 : Fin 1) f)) d := by
  unfold outsAt0
  refine (body_apply c _ _ _ _ _ _ _ _ _ _ _ _ _ _ _ _ _ _ _ _ _ _ _ _ _ r d).trans ?_
  simp only [rows_block m hO c t, (weights_block m hO c t e he _ _).1, (weights_block m hO c t e he _ _).2.1, (weights_block m hO c t e he _ _).2.2,
    (bias_block m hO c t e he _).1, (bias_block m hO c t e he _).2.1, (bias_block m hO c t e he _).2.2]

theorem nblk_rows (hO : Ok m) : ((cfgM m hO).win 7).nblk (0 : Fin 2) = 296 := by
  show (75776 + 256 - 1) / 256 = 296
  norm_num

theorem nblk_cols (hO : Ok m) : ((cfgM m hO).win 7).nblk (1 : Fin 2) = 1 := by
  show (1024 + 1024 - 1) / 1024 = 1
  norm_num

theorem covers_out (hO : Ok m) : ((cfgM m hO).win 7).Covers := by
  refine Pipeline.Window.covers_of_indexMap_surj _ rfl (fun (a : Fin 2) => ?_) fun β => ?_
  · fin_cases a <;> exact Nat.succ_pos _
  · have hb : (β (0 : Fin 2)).val < grid0.N := lt_of_lt_of_eq (β (0 : Fin 2)).isLt (nblk_rows m hO)
    refine ⟨grid0.coords ⟨(β (0 : Fin 2)).val, hb⟩, fun (a : Fin 2) => ?_⟩
    have e : ((cfgM m hO).win 7).indexMap (grid0.coords ⟨(β (0 : Fin 2)).val, hb⟩) = ![(β (0 : Fin 2)).val, 0] := idx_out m hO ⟨(β (0 : Fin 2)).val, hb⟩
    rw [e]
    fin_cases a
    · rfl
    · have h1 : (β (1 : Fin 2)).val < 1 := lt_of_lt_of_eq (β (1 : Fin 2)).isLt (nblk_cols m hO)
      show 0 = (β (1 : Fin 2)).val
      omega

/-- What a grid point leaves is its block of any array with those rows. -/
theorem block_eq (hO : Ok m) (hw : ∀ t, (wordAt m t).toNat < 32) (G : S75776x1024.Idx → EReal) (c : Dev nD) (t : Fin (cfgM m hO).N) (y : S256x1024.Idx)
    (hG : ∀ (t : Fin 296) (e : Fin 32) (r : Fin 256) (d : Fin 1024), (wordAt m t).toNat = e.val →
      G (ix2 ⟨256 * t.val + r.val, by omega⟩ d) = expertRow (fun k => m (c.tc.loc main_arg0) (ix2 ⟨256 * t.val + r.val, by omega⟩ k))
        (fun k f => m (c.tc.loc main_arg2) (ix3 e k f)) (fun k f => m (c.tc.loc main_arg4) (ix3 e k f))
        (fun k f => m (c.tc.loc main_arg6) (ix3 e k f)) (fun f => m (c.tc.loc main_arg3) (ix3 e (0 : Fin 1) f))
        (fun f => m (c.tc.loc main_arg5) (ix3 e (0 : Fin 1) f)) (fun f => m (c.tc.loc main_arg7) (ix3 e (0 : Fin 1) f)) d) :
    outsAt0 m hO c t y = G ((((cfgM m hO).win 7).blk t).view.emb y) := by
  idx_vars y
  refine (point m hO c t ⟨_, hw (pt m t)⟩ rfl y0 y1).trans ((hG (pt m t) ⟨_, hw (pt m t)⟩ y0 y1 rfl).symm.trans (congrArg G ?_))
  blk_ext [idx_out m hO t, pt]

/-- The output array after the run is any array with those rows. -/
theorem out_eq (hO : Ok m) (hw : ∀ t, (wordAt m t).toNat < 32) (G : S75776x1024.Idx → EReal) (c : Dev nD)
    (hG : ∀ (t : Fin 296) (e : Fin 32) (r : Fin 256) (d : Fin 1024), (wordAt m t).toNat = e.val →
      G (ix2 ⟨256 * t.val + r.val, by omega⟩ d) = expertRow (fun k => m (c.tc.loc main_arg0) (ix2 ⟨256 * t.val + r.val, by omega⟩ k))
        (fun k f => m (c.tc.loc main_arg2) (ix3 e k f)) (fun k f => m (c.tc.loc main_arg4) (ix3 e k f))
        (fun k f => m (c.tc.loc main_arg6) (ix3 e k f)) (fun f => m (c.tc.loc main_arg3) (ix3 e (0 : Fin 1) f))
        (fun f => m (c.tc.loc main_arg5) (ix3 e (0 : Fin 1) f)) (fun f => m (c.tc.loc main_arg7) (ix3 e (0 : Fin 1) f)) d) :
    (dats m hO 0 c).arrAt 7 (cfgM m hO).N = G := by
  refine (dats m hO 0 c).arrAt_eq_of_covers 7 G (covers_out m hO) fun t _ y => ?_
  blk_simp
  rw [after0_7]
  exact block_eq m hO hw G c t y hG

end Cert.ExpertsProof

end
-- ==== Proof.ExpertsClaims.lean ====
module

public import proofs.«01_k».proof.Proof.ExpertsValue
public import proofs.«01_k».proof.Proof.Gen.Pre_names_experts

@[expose] public section

set_option maxRecDepth 16384

noncomputable section

namespace Cert.ExpertsProof

open Idealize.ShloMosaic Idealize.ShloMosaic.TcCoe Idealize.SL.Sem Idealize.ShloMosaic.ValueKit

instance : Cert.Pre_names_experts.Facts := Cert.Pre_names_experts.Gen.facts

/-- The experts at the machine's floats: under the precondition the table words name experts, so the run is covered. -/
theorem frame_rounded : Cert.quiescent_Kernel2 := fun m ρ h => Cert.Kernel2.Gen.frame m ρ (ok_bits m h)

/-- The same with exact arithmetic. -/
theorem frame_exact : Cert.quiescent_Kernel2Ideal := fun m ρ h => Cert.Kernel2Ideal.Gen.frame m ρ (ok_exact m h)

/-- The reference keeps its arguments; it has no semaphore at all. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- With exact arithmetic the kernel's result is the reference's. -/
theorem value : Cert.algebraic_Kernel2Ideal_Reference2Ideal := by
  intro m ρ m' ρ' hpre hag
  have hO := ok_exact m hpre
  refine ⟨fun c => Cert.Reference2Ideal.Value.res_out0 m' c, ?_, ?_⟩
  · refine (θ_run Cert.Kernel2Ideal.defs _ _).mono (fun r h c => ⟨((h.1 c).1 7).trans ?_, h.2 c⟩)
      (θ_run_and (Cert.Kernel2Ideal.Gen.run_main m ρ hO) (Cert.Kernel2Ideal.Gen.unchanged m ρ hO))
    refine out_eq m hO (fun t => word_exact m hpre _) _ c fun t e i d he => ?_
    obtain ⟨h0, h1, h2, h3, h4, h5, h6, h7⟩ := hag c
    obtain rfl : c = (0 : Dev Cert.Kernel2Ideal.nD) := Subsingleton.elim _ _
    refine (ref_apply m' 0 t i d e ?_).trans ?_
    · rw [h1]; exact he
    · rw [h0, h2, h3, h4, h5, h6, h7]
  · exact (θ_run Cert.Reference2Ideal.defs _ _).mono (fun _ h => h) (Cert.Reference2Ideal.Value.run (F := Ideal) m' ρ')

end Cert.ExpertsProof

end
-- ==== Proof.ProjRef.lean ====
module

public import proofs.«01_k».proof.Defs
public import proofs.«01_k».proof.Proof.Gen.Reference3Ideal.Run
public import Idealize.ShloMosaic.Lib.Pipeline.ValueKit

@[expose] public section

set_option maxRecDepth 16384

noncomputable section

namespace Cert.ProjProof

open Idealize.ShloMosaic Idealize.ShloMosaic.TcCoe Idealize.ShloMosaic.ValueKit Idealize.SL.Sem

section Ref
open Cert.Reference3Ideal Cert.Reference3Ideal.Gen

/-- The rotary frequencies. -/
def freqs : FVec Ideal S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The angles of every position. -/
def angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 freqs))

/-- The angle of one position at one frequency. -/
def angle (p : ℕ) (k : Fin 8) : EReal := FloatOps.sitofp (F := Ideal) FTy.f32 (BitVec.ofNat 32 p) * freqs (ix1 k)

theorem angles_apply (t : Fin 4096) (k : Fin 8) : angles (ix2 t k) = angle t.val k := by
  unfold angles angle
  pointwise

/-- A row turned by its angles: the first sixteen lanes of every sixty-four, in two halves. -/
def roped (Z : Fin 512 → EReal) (A : Fin 8 → EReal) (l : Fin 512) : EReal :=
  if h : l.val % 64 < 8 then Z l * Ideal.cos (A ⟨l.val % 64, h⟩) - Z ⟨l.val + 8, by omega⟩ * Ideal.sin (A ⟨l.val % 64, h⟩)
  else if h' : l.val % 64 < 16 then Z l * Ideal.cos (A ⟨l.val % 64 - 8, by omega⟩) + Z ⟨l.val - 8, by omega⟩ * Ideal.sin (A ⟨l.val % 64 - 8, by omega⟩)
  else Z l

/-- The three tables' lanes at one position: what multiplies a lane itself, the lane eight ahead and the lane eight back. -/
def cosLane (A : Fin 8 → EReal) (l : Fin 128) : EReal :=
  if h : l.val % 64 < 8 then Ideal.cos (A ⟨l.val % 64, h⟩) else if h' : l.val % 64 - 8 < 8 then Ideal.cos (A ⟨l.val % 64 - 8, h'⟩) else 1

def aheadLane (A : Fin 8 → EReal) (l : Fin 128) : EReal :=
  if h : l.val % 64 < 8 then -Ideal.sin (A ⟨l.val % 64, h⟩) else 0

def backLane (A : Fin 8 → EReal) (l : Fin 128) : EReal :=
  if _ : l.val % 64 < 8 then 0 else if h' : l.val % 64 - 8 < 8 then Ideal.sin (A ⟨l.val % 64 - 8, h'⟩) else 0

def spread (A : FVec Ideal S4096x8 .f32) : FVec Ideal S4x4096x8x8 .f32 :=
  broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 A))

theorem spread_apply (A : FVec Ideal S4096x8 .f32) (b : Fin 4) (t : Fin 4096) (h : Fin 8) (k : Fin 8) : spread A (ix4 b t h k) = A (ix2 t k) := by
  unfold spread
  pointwise

def turned (X : FVec Ideal S4x4096x8x64 .f32) : FVec Ideal S4x4096x8x64 .f32 :=
  concatenate S4x4096x8x64 3 [⟨S4x4096x8x16, concatenate S4x4096x8x16 3 [⟨S4x4096x8x8, subf (mulf (extractStridedSlice S4x4096x8x8 ![0, 0, 0, 0] X slices_S4x4096x8x64_S4x4096x8x8_0_0_0_0) (spread (Host.cos angles))) (mulf (extractStridedSlice S4x4096x8x8 ![0, 0, 0, 8] X slices_S4x4096x8x64_S4x4096x8x8_0_0_0_8) (spread (Host.sin angles)))⟩,
    ⟨S4x4096x8x8, addf (mulf (extractStridedSlice S4x4096x8x8 ![0, 0, 0, 8] X slices_S4x4096x8x64_S4x4096x8x8_0_0_0_8) (spread (Host.cos angles))) (mulf (extractStridedSlice S4x4096x8x8 ![0, 0, 0, 0] X slices_S4x4096x8x64_S4x4096x8x8_0_0_0_0) (spread (Host.sin angles)))⟩] concatenates_S4x4096x8x8_S4x4096x8x8_S4x4096x8x16_d3⟩,
    ⟨S4x4096x8x48, extractStridedSlice S4x4096x8x48 ![0, 0, 0, 16] X slices_S4x4096x8x64_S4x4096x8x48_0_0_0_16⟩] concatenates_S4x4096x8x16_S4x4096x8x48_S4x4096x8x64_d3

theorem turned_apply (Y : FVec Ideal S4x4096x512 .f32) (b : Fin 4) (t : Fin 4096) (l : Fin 512) :
    shapeCast S4x4096x512 (turned (shapeCast S4x4096x8x64 Y shapeCasts_S4x4096x512_S4x4096x8x64)) shapeCasts_S4x4096x8x64_S4x4096x512 (ix3 b t l)
      = roped (fun j => Y (ix3 b t j)) (angle t.val) l := by
  unfold turned roped
  pointwise [spread_apply]
  simp only [angles_apply]
  have hl := l.isLt
  by_cases h8 : l.val % 64 < 8
  · refine ((dif_pos (by omega : l.val % 64 < 16)).trans (dif_pos h8)).trans (Eq.trans ?_ (dif_pos h8).symm)
    blk_point
  · by_cases h16 : l.val % 64 < 16
    · refine ((dif_pos h16).trans (dif_neg h8)).trans (Eq.trans ?_ ((dif_neg h8).trans (dif_pos h16)).symm)
      blk_point
    · refine (dif_neg h16).trans (Eq.trans ?_ ((dif_neg h8).trans (dif_neg h16)).symm)
      blk_ext

def product (x : FVec Ideal S4x4096x1024 .f32) (w : FVec Ideal S1024x3072 .f32) : FVec Ideal S4x4096x3072 .f32 :=
  Host.dotGeneral dot_S4x4096x1024_S1024x3072_S4x4096x3072_2_0_01_1_n_n none x w

theorem product_apply (x : FVec Ideal S4x4096x1024 .f32) (w : FVec Ideal S1024x3072 .f32) (b : Fin 4) (t : Fin 4096) (j : Fin 3072) :
    product x w (ix3 b t j) = ∑ k : Fin 1024, x (ix3 b t k) * w (ix2 k j) := by
  unfold product
  pointwise

/-- The scale of the queries. -/
def scale : EReal := Ideal.ofBits .f32 0x3E000000#32

/-- The scaled rows. -/
def scaled (X : FVec Ideal S4x4096x8x64 .f32) : FVec Ideal S4x4096x8x64 .f32 :=
  mulf X (broadcastInDim S4x4096x8x64 ![] bcast_S_S4x4096x8x64 (constant S_ .f32 0x3E000000#32))

theorem scaled_apply (X : FVec Ideal S4x4096x8x64 .f32) (b : Fin 4) (t : Fin 4096) (l : Fin 512) :
    shapeCast S4x4096x512 (scaled X) shapeCasts_S4x4096x8x64_S4x4096x512 (ix3 b t l) = shapeCast S4x4096x512 X shapeCasts_S4x4096x8x64_S4x4096x512 (ix3 b t l) * scale := by
  unfold scaled scale
  pointwise

theorem cast_cast_apply (Y : FVec Ideal S4x4096x512 .f32) (b : Fin 4) (t : Fin 4096) (l : Fin 512) :
    shapeCast S4x4096x512 (shapeCast S4x4096x8x64 Y shapeCasts_S4x4096x512_S4x4096x8x64) shapeCasts_S4x4096x8x64_S4x4096x512 (ix3 b t l) = Y (ix3 b t l) := by
  pointwise
  blk_ext

/-- The two query heads of every pair set apart. -/
def setApart (X : FVec Ideal S4x4096x8x64 .f32) : FVec Ideal S4x4096x4x256 .f32 :=
  concatenate S4x4096x4x256 3
    [⟨S4x4096x4x64, shapeCast S4x4096x4x64 (extractStridedSlice S4x4096x4x1x64 ![0, 0, 0, 0, 0] (shapeCast S4x4096x4x2x64 X shapeCasts_S4x4096x8x64_S4x4096x4x2x64) slices_S4x4096x4x2x64_S4x4096x4x1x64_0_0_0_0_0) shapeCasts_S4x4096x4x1x64_S4x4096x4x64⟩,
     ⟨S4x4096x4x64, broadcastInDim S4x4096x4x64 ![] bcast_S_S4x4096x4x64 (constant S_ .f32 0x00000000#32)⟩,
     ⟨S4x4096x4x64, broadcastInDim S4x4096x4x64 ![] bcast_S_S4x4096x4x64 (constant S_ .f32 0x00000000#32)⟩,
     ⟨S4x4096x4x64, shapeCast S4x4096x4x64 (extractStridedSlice S4x4096x4x1x64 ![0, 0, 0, 1, 0] (shapeCast S4x4096x4x2x64 X shapeCasts_S4x4096x8x64_S4x4096x4x2x64) slices_S4x4096x4x2x64_S4x4096x4x1x64_0_0_0_1_0) shapeCasts_S4x4096x4x1x64_S4x4096x4x64⟩]
    concatenates_S4x4096x4x64_S4x4096x4x64_S4x4096x4x64_S4x4096x4x64_S4x4096x4x256_d3

/-- A row of queries set apart: of two lane groups each query head keeps its own half of one, and the rest is zero. -/
def apart (Z : Fin 512 → EReal) (l : Fin 1024) : EReal :=
  if l.val / 128 % 2 = l.val % 128 / 64 then Z ⟨l.val / 256 * 128 + l.val % 128, by omega⟩ else 0

theorem setApart_apply (X : FVec Ideal S4x4096x8x64 .f32) (b : Fin 4) (t : Fin 4096) (l : Fin 1024) :
    shapeCast S4x4096x1024 (setApart X) shapeCasts_S4x4096x4x256_S4x4096x1024 (ix3 b t l) = apart (fun j => shapeCast S4x4096x512 X shapeCasts_S4x4096x8x64_S4x4096x512 (ix3 b t j)) l := by
  unfold setApart apart
  pointwise
  have hl := l.isLt
  by_cases g0 : l.val % 256 < 64
  · refine (dif_pos g0).trans (Eq.trans ?_ (if_pos (by omega)).symm)
    blk_ext
  · by_cases g1 : l.val % 256 - 64 < 64
    · exact ((dif_neg g0).trans (dif_pos g1)).trans (if_neg (by omega)).symm
    · by_cases g2 : l.val % 256 - 64 - 64 < 64
      · exact ((dif_neg g0).trans ((dif_neg g1).trans (dif_pos g2))).trans (if_neg (by omega)).symm
      · refine ((dif_neg g0).trans ((dif_neg g1).trans (dif_neg g2))).trans (Eq.trans ?_ (if_pos (by omega)).symm)
        blk_ext

/-- One entry of a segment of the product of a row of the inputs with the weights. -/
def entry (X : Fin 1024 → EReal) (w : S1024x3072.Idx → EReal) (o : ℕ) (ho : o ≤ 2560) (j : Fin 512) : EReal :=
  ∑ k : Fin 1024, X k * w (ix2 k ⟨o + j.val, by omega⟩)

/-- What the projection makes of one row `X` at position `p`: the turned keys, the turned and scaled queries, the two value rows, the second pair of queries and keys. -/
def keyEntry (w : S1024x3072.Idx → EReal) (X : Fin 1024 → EReal) (p : ℕ) (l : Fin 512) : EReal := roped (entry X w 512 (by omega)) (angle p) l
def queryEntry (w : S1024x3072.Idx → EReal) (X : Fin 1024 → EReal) (p : ℕ) (l : Fin 512) : EReal := roped (entry X w 0 (by omega)) (angle p) l * scale
def queryApart (w : S1024x3072.Idx → EReal) (X : Fin 1024 → EReal) (p : ℕ) (l : Fin 1024) : EReal := apart (queryEntry w X p) l
def valueEntry (w : S1024x3072.Idx → EReal) (X : Fin 1024 → EReal) (_ : ℕ) (l : Fin 512) : EReal := entry X w 1024 (by omega) l
def query2Entry (w : S1024x3072.Idx → EReal) (X : Fin 1024 → EReal) (_ : ℕ) (l : Fin 512) : EReal := entry X w 1536 (by omega) l * scale
def query2Apart (w : S1024x3072.Idx → EReal) (X : Fin 1024 → EReal) (p : ℕ) (l : Fin 1024) : EReal := apart (query2Entry w X p) l
def key2Entry (w : S1024x3072.Idx → EReal) (X : Fin 1024 → EReal) (_ : ℕ) (l : Fin 512) : EReal := entry X w 2048 (by omega) l
def value2Entry (w : S1024x3072.Idx → EReal) (X : Fin 1024 → EReal) (_ : ℕ) (l : Fin 512) : EReal := entry X w 2560 (by omega) l

/-- A result laid out by rows, and one laid out by lanes. -/
def along {n : ℕ} (f : (Fin 1024 → EReal) → ℕ → Fin n → EReal) (x : S4x4096x1024.Idx → EReal) : (⟨3, ![4, 4096, n]⟩ : Shape).Idx → EReal :=
  fun i => f (fun k => x (ix3 (i 0) (i 1) k)) (i 1).val (i 2)
def across (f : (Fin 1024 → EReal) → ℕ → Fin 512 → EReal) (x : S4x4096x1024.Idx → EReal) : S4x512x4096.Idx → EReal :=
  fun i => f (fun k => x (ix3 (i 0) (i 2) k)) (i 2).val (i 1)

section Results
variable (x : FVec Ideal S4x4096x1024 .f32) (w : FVec Ideal S1024x3072 .f32)

theorem segment_apply (o : ℕ) (ho : o ≤ 2560) (h : S4x4096x3072.Slices ![0, 0, o] S4x4096x512) (b : Fin 4) (t : Fin 4096) (l : Fin 512) :
    (extractStridedSlice S4x4096x512 ![0, 0, o] (product x w) h : FVec Ideal S4x4096x512 .f32) (ix3 b t l) = entry (fun k => x (ix3 b t k)) w o ho l := by
  unfold entry
  refine (extractStridedSlice_apply ![0, 0, o] _ h _ (ix3 b t ⟨o + l.val, by omega⟩) (by intro a; fin_cases a <;> simp [ix3])).trans (product_apply x w b t _)

def segment (o : ℕ) (h : S4x4096x3072.Slices ![0, 0, o] S4x4096x512) : FVec Ideal S4x4096x512 .f32 := extractStridedSlice S4x4096x512 ![0, 0, o] (product x w) h

def heads (o : ℕ) (h : S4x4096x3072.Slices ![0, 0, o] S4x4096x512) : FVec Ideal S4x4096x8x64 .f32 := shapeCast S4x4096x8x64 (segment x w o h) shapeCasts_S4x4096x512_S4x4096x8x64

theorem keys_ref : (shapeCast S4x4096x512 (turned (heads x w 512 slices_S4x4096x3072_S4x4096x512_0_0_512)) shapeCasts_S4x4096x8x64_S4x4096x512 : FVec Ideal S4x4096x512 .f32) = along (keyEntry w) x := by
  funext i
  idx_vars i
  refine (turned_apply _ _ _ _).trans ?_
  exact congrArg (fun Z => roped Z (angle i1.val) i2) (funext fun j => segment_apply x w 512 (by omega) _ _ _ _)

theorem queries_ref : (shapeCast S4x4096x512 (scaled (turned (heads x w 0 slices_S4x4096x3072_S4x4096x512_0_0_0))) shapeCasts_S4x4096x8x64_S4x4096x512 : FVec Ideal S4x4096x512 .f32) = along (queryEntry w) x := by
  funext i
  idx_vars i
  refine (scaled_apply _ _ _ _).trans (congrArg (· * scale) ((turned_apply _ _ _ _).trans ?_))
  exact congrArg (fun Z => roped Z (angle i1.val) i2) (funext fun j => segment_apply x w 0 (by omega) _ _ _ _)

theorem queries2_ref : (shapeCast S4x4096x512 (scaled (heads x w 1536 slices_S4x4096x3072_S4x4096x512_0_0_1536)) shapeCasts_S4x4096x8x64_S4x4096x512 : FVec Ideal S4x4096x512 .f32) = along (query2Entry w) x := by
  funext i
  idx_vars i
  exact (scaled_apply _ _ _ _).trans (congrArg (· * scale) ((cast_cast_apply _ _ _ _).trans (segment_apply x w 1536 (by omega) _ _ _ _)))

theorem queriesApart_ref : (shapeCast S4x4096x1024 (setApart (scaled (turned (heads x w 0 slices_S4x4096x3072_S4x4096x512_0_0_0)))) shapeCasts_S4x4096x4x256_S4x4096x1024 : FVec Ideal S4x4096x1024 .f32) = along (queryApart w) x := by
  funext i
  idx_vars i
  refine (setApart_apply _ _ _ _).trans ?_
  exact congrArg (fun Z => apart Z i2) (funext fun j => congrFun (queries_ref x w) (ix3 i0 i1 j))

theorem queries2Apart_ref : (shapeCast S4x4096x1024 (setApart (scaled (heads x w 1536 slices_S4x4096x3072_S4x4096x512_0_0_1536))) shapeCasts_S4x4096x4x256_S4x4096x1024 : FVec Ideal S4x4096x1024 .f32) = along (query2Apart w) x := by
  funext i
  idx_vars i
  refine (setApart_apply _ _ _ _).trans ?_
  exact congrArg (fun Z => apart Z i2) (funext fun j => congrFun (queries2_ref x w) (ix3 i0 i1 j))

theorem across_ref (o : ℕ) (ho : o ≤ 2560) (h : S4x4096x3072.Slices ![0, 0, o] S4x4096x512) :
    (transpose S4x512x4096 [0, 2, 1] (segment x w o h) transposes_S4x4096x512_S4x512x4096_0_2_1 : FVec Ideal S4x512x4096 .f32) = across (fun X _ l => entry X w o ho l) x := by
  funext i
  idx_vars i
  pointwise
  exact segment_apply x w o ho h _ _ _

theorem along_ref (o : ℕ) (ho : o ≤ 2560) (h : S4x4096x3072.Slices ![0, 0, o] S4x4096x512) :
    segment x w o h = along (fun X _ l => entry X w o ho l) x := by
  funext i
  idx_vars i
  exact segment_apply x w o ho h _ _ _

end Results

end Ref

end Cert.ProjProof

end
-- ==== Proof.ProjBody.lean ====
module

public import proofs.«01_k».proof.Defs
public import proofs.«01_k».proof.Proof.Gen.Kernel3Ideal.Value
public import Idealize.ShloMosaic.Lib.KernelVsHost
public import proofs.«01_k».proof.Proof.ProjRef
public import Idealize.ShloMosaic.Lib.Pipeline.ValueKit

@[expose] public section

set_option maxRecDepth 16384

noncomputable section

namespace Cert.ProjProof

open Idealize.ShloMosaic Idealize.ShloMosaic.TcCoe Idealize.ShloMosaic.ValueKit Idealize.SL.Sem

open Cert.Kernel3Ideal Cert.Kernel3Ideal.Gen

/-- A lane rotation by 120 reads eight lanes ahead, around the end. -/
theorem roll_ahead (V : FVec Ideal S512x128 .f32) (h : S512x128.Rotates 1 none) (r : Fin 512) (l : Fin 128) :
    dynamicRotate 1 120#32 none V h (ix2 r l) = V (ix2 r ⟨(l.val + 8) % 128, by omega⟩) :=
  dynamicRotate_apply 1 120#32 V h (ix2 r l) _ (by intro b; fin_cases b <;> simp [ix2])

/-- A lane rotation by 8 reads eight lanes back, around the start. -/
theorem roll_back (V : FVec Ideal S512x128 .f32) (h : S512x128.Rotates 1 none) (r : Fin 512) (l : Fin 128) :
    dynamicRotate 1 8#32 none V h (ix2 r l) = V (ix2 r ⟨(l.val + 120) % 128, by omega⟩) :=
  dynamicRotate_apply 1 8#32 V h (ix2 r l) _ (by intro b; fin_cases b <;> simp [ix2])

theorem prod_q (x : Vec Ideal S1x512x1024 .f32) (w : Vec Ideal S1024x512 .bf16) (r l : Fin 512) :
    k0_pay11 x w (ix2 r l) = ∑ k : Fin 1024, x (ix3 0 r k) * w (ix2 k l) := by
  unfold k0_pay11 k0_pay7
  pointwise

theorem prod_k (x : FVec Ideal S512x1024 .bf16) (w : Vec Ideal S1024x512 .bf16) (r l : Fin 512) :
    k0_pay30 x w (ix2 r l) = ∑ k : Fin 1024, x (ix2 r k) * w (ix2 k l) := by
  unfold k0_pay30
  pointwise

/-- A value turned by the tables, as the kernel forms it: its own lane, the lane eight ahead and the lane eight back. -/
def mixed (Z : Fin 512 → EReal) (C A B : Fin 128 → EReal) (l : Fin 512) : EReal :=
  Z l * C ⟨l.val % 128, by omega⟩ + Z ⟨l.val / 128 * 128 + (l.val % 128 + 8) % 128, by omega⟩ * A ⟨l.val % 128, by omega⟩
    + Z ⟨l.val / 128 * 128 + (l.val % 128 + 120) % 128, by omega⟩ * B ⟨l.val % 128, by omega⟩

theorem turned_k (C A B : FVec Ideal S512x128 .f32) (V : FVec Ideal S512x512 .f32) (r l : Fin 512) :
    k0_pay33 C A B V (extractStridedSlice S512x128 ![0, 0] V slices_S512x512_o0_0_S512x128) (mulf (extractStridedSlice S512x128 ![0, 0] V slices_S512x512_o0_0_S512x128) C) (ix2 r l)
      = mixed (fun j => V (ix2 r j)) (fun j => C (ix2 r j)) (fun j => A (ix2 r j)) (fun j => B (ix2 r j)) l := by
  unfold k0_pay33 mixed
  pointwise
  split_ifs <;> blk_point

theorem turned_q (x : Vec Ideal S1x512x1024 .f32) (w : Vec Ideal S1024x512 .bf16) (C A B : FVec Ideal S512x128 .f32) (r l : Fin 512) :
    k0_pay18 (k0_pay9 A) (k0_pay10 B) (k0_pay12 x C A B w) (k0_pay13 x C A B w) (k0_pay14 x C A B w) (k0_pay15 x w) (k0_pay16 x C w) (k0_pay17 x w) (ix2 r l)
      = mixed (fun j => k0_pay11 x w (ix2 r j)) (fun j => C (ix2 r j)) (fun j => A (ix2 r j)) (fun j => B (ix2 r j)) l * Ideal.ofBits .f32 0x3E000000#32 := by
  unfold k0_pay18 k0_pay9 k0_pay10 k0_pay12 k0_pay13 k0_pay14 k0_pay16 k0_pay17 k0_pay15 k0_pay8 k0_pay9 k0_pay10 mixed
  pointwise
  split_ifs <;> blk_point

/-- One entry of the product with the columns from `o` on. -/
def row (x : Vec Ideal S1x512x1024 .f32) (w : Vec Ideal S1024x2560 .bf16) (r : Fin 512) (o : ℕ) (ho : o ≤ 2048) (j : Fin 512) : EReal :=
  ∑ k : Fin 1024, x (ix3 0 r k) * w (ix2 k ⟨o + j.val, by omega⟩)

theorem out8 (x0 : Vec Ideal S1x512x1024 .f32) (x1 : Vec Ideal S1024x2560 .bf16) (x2 : Vec Ideal S1536x1024 .bf16) (x3 x4 x5 : Vec Ideal S512x128 .f32) (y : S1x512x512.Idx) :
    out0_8 x0 x1 x2 x3 x4 x5 y = mixed (row x0 x1 (y 1) 512 (by omega))
      (fun j => x3 (ix2 (y 1) j)) (fun j => x4 (ix2 (y 1) j)) (fun j => x5 (ix2 (y 1) j)) (y 2) := by
  idx_vars y
  unfold_out out0_8
  canon_tiles z h
  idx_vars z
  obtain rfl : y1 = z1 := Fin.ext h1
  obtain rfl : y2 = z2 := Fin.ext h2
  unfold k0_pay34 k0_pay31 k0_pay32
  pointwise
  refine (turned_k _ _ _ _ y1 y2).trans ?_
  unfold mixed row
  simp only [prod_k]
  unfold k0_pay7 k0_pay8 k0_pay9 k0_pay10
  pointwise

theorem out7 (x0 : Vec Ideal S1x512x1024 .f32) (x1 : Vec Ideal S1024x2560 .bf16) (x2 : Vec Ideal S1536x1024 .bf16) (x3 x4 x5 : Vec Ideal S512x128 .f32) (y : S1x512x512.Idx) :
    out0_7 x0 x1 x2 x3 x4 x5 y = mixed (row x0 x1 (y 1) 0 (by omega))
      (fun j => x3 (ix2 (y 1) j)) (fun j => x4 (ix2 (y 1) j)) (fun j => x5 (ix2 (y 1) j)) (y 2) * Ideal.ofBits .f32 0x3E000000#32 := by
  idx_vars y
  unfold_out out0_7
  canon_tiles z h
  idx_vars z
  obtain rfl : y1 = z1 := Fin.ext h1
  obtain rfl : y2 = z2 := Fin.ext h2
  unfold k0_pay29
  pointwise
  refine (turned_q _ _ _ _ _ y1 y2).trans ?_
  unfold mixed row
  simp only [prod_q]
  pointwise

/-- One entry of the transposed product: row `o` on of the transposed weights against a row of the inputs. -/
def col (x : Vec Ideal S1x512x1024 .f32) (w : Vec Ideal S1536x1024 .bf16) (r : Fin 512) (o : ℕ) (ho : o ≤ 1024) (j : Fin 512) : EReal :=
  ∑ k : Fin 1024, w (ix2 ⟨o + j.val, by omega⟩ k) * x (ix3 0 r k)

theorem out9 (x0 : Vec Ideal S1x512x1024 .f32) (x1 : Vec Ideal S1024x2560 .bf16) (x2 : Vec Ideal S1536x1024 .bf16) (x3 x4 x5 : Vec Ideal S512x128 .f32) (y : S1x512x512.Idx) :
    out0_9 x0 x1 x2 x3 x4 x5 y = mixed (row x0 x1 (y 1) 512 (by omega))
      (fun j => x3 (ix2 (y 1) j)) (fun j => x4 (ix2 (y 1) j)) (fun j => x5 (ix2 (y 1) j)) (y 2) := by
  refine Eq.trans ?_ (out8 x0 x1 x2 x3 x4 x5 y)
  idx_vars y
  unfold out0_9 out0_8
  canon_tiles z h
  idx_vars z
  obtain rfl : y1 = z1 := Fin.ext h1
  obtain rfl : y2 = z2 := Fin.ext h2
  symm
  canon_tiles z h
  idx_vars z
  obtain rfl : y1 = z1 := Fin.ext (by omega)
  obtain rfl : y2 = z2 := Fin.ext (by omega)
  unfold k0_pay34 k0_pay35
  pointwise

theorem out10 (x0 : Vec Ideal S1x512x1024 .f32) (x1 : Vec Ideal S1024x2560 .bf16) (x2 : Vec Ideal S1536x1024 .bf16) (x3 x4 x5 : Vec Ideal S512x128 .f32) (y : S1x512x512.Idx) :
    out0_10 x0 x1 x2 x3 x4 x5 y = row x0 x1 (y 1) 1024 (by omega) (y 2) := by
  idx_vars y
  unfold_out out0_10
  canon_tiles z h
  idx_vars z
  obtain rfl : y1 = z1 := Fin.ext h1
  obtain rfl : y2 = z2 := Fin.ext h2
  unfold k0_pay37 k0_pay36 k0_pay7 row
  pointwise

theorem out14 (x0 : Vec Ideal S1x512x1024 .f32) (x1 : Vec Ideal S1024x2560 .bf16) (x2 : Vec Ideal S1536x1024 .bf16) (x3 x4 x5 : Vec Ideal S512x128 .f32) (y : S1x512x512.Idx) :
    out0_14 x0 x1 x2 x3 x4 x5 y = row x0 x1 (y 1) 2048 (by omega) (y 2) := by
  idx_vars y
  unfold_out out0_14
  canon_tiles z h
  idx_vars z
  obtain rfl : y1 = z1 := Fin.ext h1
  obtain rfl : y2 = z2 := Fin.ext h2
  unfold k0_pay1 k0_pay7 row
  pointwise

theorem out13 (x0 : Vec Ideal S1x512x1024 .f32) (x1 : Vec Ideal S1024x2560 .bf16) (x2 : Vec Ideal S1536x1024 .bf16) (x3 x4 x5 : Vec Ideal S512x128 .f32) (y : S1x512x512.Idx) :
    out0_13 x0 x1 x2 x3 x4 x5 y = row x0 x1 (y 1) 1536 (by omega) (y 2) * Ideal.ofBits .f32 0x3E000000#32 := by
  idx_vars y
  unfold_out out0_13
  canon_tiles z h
  idx_vars z
  obtain rfl : y1 = z1 := Fin.ext h1
  obtain rfl : y2 = z2 := Fin.ext h2
  unfold k0_pay47 k0_pay38 k0_pay7 row
  pointwise

theorem out11 (x0 : Vec Ideal S1x512x1024 .f32) (x1 : Vec Ideal S1024x2560 .bf16) (x2 : Vec Ideal S1536x1024 .bf16) (x3 x4 x5 : Vec Ideal S512x128 .f32) (y : S1x512x512.Idx) :
    out0_11 x0 x1 x2 x3 x4 x5 y = col x0 x2 (y 2) 0 (by omega) (y 1) := by
  idx_vars y
  unfold_out out0_11
  canon_tiles z h
  idx_vars z
  obtain rfl : y1 = z1 := Fin.ext h1
  obtain rfl : y2 = z2 := Fin.ext h2
  unfold k0_pay3 k0_pay2 k0_pay7 col
  pointwise

theorem out15 (x0 : Vec Ideal S1x512x1024 .f32) (x1 : Vec Ideal S1024x2560 .bf16) (x2 : Vec Ideal S1536x1024 .bf16) (x3 x4 x5 : Vec Ideal S512x128 .f32) (y : S1x512x512.Idx) :
    out0_15 x0 x1 x2 x3 x4 x5 y = col x0 x2 (y 2) 512 (by omega) (y 1) := by
  idx_vars y
  unfold_out out0_15
  canon_tiles z h
  idx_vars z
  obtain rfl : y1 = z1 := Fin.ext h1
  obtain rfl : y2 = z2 := Fin.ext h2
  unfold k0_pay4 k0_pay2 k0_pay7 col
  pointwise

theorem out16 (x0 : Vec Ideal S1x512x1024 .f32) (x1 : Vec Ideal S1024x2560 .bf16) (x2 : Vec Ideal S1536x1024 .bf16) (x3 x4 x5 : Vec Ideal S512x128 .f32) (y : S1x512x512.Idx) :
    out0_16 x0 x1 x2 x3 x4 x5 y = col x0 x2 (y 2) 1024 (by omega) (y 1) := by
  idx_vars y
  unfold_out out0_16
  canon_tiles z h
  idx_vars z
  obtain rfl : y1 = z1 := Fin.ext h1
  obtain rfl : y2 = z2 := Fin.ext h2
  unfold k0_pay5 k0_pay2 k0_pay7 col
  pointwise

theorem out17 (x0 : Vec Ideal S1x512x1024 .f32) (x1 : Vec Ideal S1024x2560 .bf16) (x2 : Vec Ideal S1536x1024 .bf16) (x3 x4 x5 : Vec Ideal S512x128 .f32) (y : S1x512x512.Idx) :
    out0_17 x0 x1 x2 x3 x4 x5 y = col x0 x2 (y 2) 1024 (by omega) (y 1) := by
  idx_vars y
  unfold_out out0_17
  canon_tiles z h
  idx_vars z
  obtain rfl : y1 = z1 := Fin.ext h1
  obtain rfl : y2 = z2 := Fin.ext h2
  unfold k0_pay6 k0_pay2 k0_pay7 col
  pointwise

theorem low_bit : ∀ n : Fin 128, IntOp.andi (IntOp.cmpi .sge (BitVec.ofNat 32 n.val) 0#32) (IntOp.cmpi .slt (BitVec.ofNat 32 n.val) 64#32) = if n.val / 64 = 0 then 1#1 else 0#1 := by
  decide +kernel

theorem high_bit : ∀ n : Fin 128, IntOp.andi (IntOp.cmpi .sge (BitVec.ofNat 32 n.val) 64#32) (IntOp.cmpi .slt (BitVec.ofNat 32 n.val) 128#32) = if n.val / 64 = 1 then 1#1 else 0#1 := by
  decide +kernel

theorem keep_low (n : ℕ) (h : n < 128) (a : EReal) : Scalar.select (IntOp.andi (IntOp.cmpi .sge (BitVec.ofNat 32 n) 0#32) (IntOp.cmpi .slt (BitVec.ofNat 32 n) 64#32)) a 0
    = if n / 64 = 0 then a else 0 := by
  rw [low_bit ⟨n, h⟩]
  split_ifs <;> rfl

theorem keep_high (n : ℕ) (h : n < 128) (a : EReal) : Scalar.select (IntOp.andi (IntOp.cmpi .sge (BitVec.ofNat 32 n) 64#32) (IntOp.cmpi .slt (BitVec.ofNat 32 n) 128#32)) a 0
    = if n / 64 = 1 then a else 0 := by
  rw [high_bit ⟨n, h⟩]
  split_ifs <;> rfl

theorem kept (V : FVec Ideal S512x512 .f32) (r : Fin 512) (p q : Prop) [Decidable p] [Decidable q] (i j : Fin 512) (hpq : p ↔ q) (hij : i = j) :
    (if p then V (ix2 r i) else 0) = if q then V (ix2 r j) else 0 := by
  subst hij
  exact if_congr hpq rfl rfl

theorem apart_s (V : FVec Ideal S512x1024 .bf16) (w : Vec Ideal S1024x512 .bf16) (r : Fin 512) (l : Fin 1024) :
    k0_pay46 (k0_pay38 V w) (iota .tc S512x128 32 [1] iota_S512x128_d1_w32) (k0_pay40 V w) (k0_pay41 V w) (k0_pay43 V w) (k0_pay44 V w) (k0_pay45 V w) (ix3 0 r l)
      = apart (fun j => k0_pay38 V w (ix2 r j)) l := by
  unfold k0_pay46 k0_pay40 k0_pay41 k0_pay43 k0_pay44 k0_pay45 k0_pay42 k0_pay39 apart
  pointwise
  have hl := l.isLt
  split_ifs with g0 g1 g2 g3 g4 g5 g6 <;> first
    | (rw [keep_low _ (by omega)]; exact kept _ r _ _ _ _ (by omega) (Fin.ext (by dsimp only; omega)))
    | (rw [keep_high _ (by omega)]; exact kept _ r _ _ _ _ (by omega) (Fin.ext (by dsimp only; omega)))

theorem apart_d (V : FVec Ideal S512x512 .f32) (v6 v8 v19 v27 v35 v36 v37 v38 : FVec Ideal S512x128 .f32) (hV : V = k0_pay18 v6 v8 v19 v27 v35 v36 v37 v38) (r : Fin 512) (l : Fin 1024) :
    k0_pay28 V (iota .tc S512x128 32 [1] iota_S512x128_d1_w32) (k0_pay20 v6 v8 v19 v27 v35 v36 v37 v38) (k0_pay21 v6 v8 v19 v27 v35 v36 v37 v38) (k0_pay23 v6 v8 v19 v27 v35 v36 v37 v38) (k0_pay24 v6 v8 v19 v27 v35 v36 v37 v38)
      (k0_pay25 v6 v8 v19 v27 v35 v36 v37 v38) k0_pay26 k0_pay27 (ix3 0 r l)
      = apart (fun j => V (ix2 r j)) l := by
  unfold k0_pay28 k0_pay20 k0_pay21 k0_pay23 k0_pay24 k0_pay25 k0_pay26 k0_pay27 k0_pay22 k0_pay19 apart
  rw [← hV]
  pointwise
  have hl := l.isLt
  split_ifs with g0 g1 g2 g3 g4 g5 g6 <;> first
    | (rw [keep_low _ (by omega)]; exact kept _ r _ _ _ _ (by omega) (Fin.ext (by dsimp only; omega)))
    | (rw [keep_high _ (by omega)]; exact kept _ r _ _ _ _ (by omega) (Fin.ext (by dsimp only; omega)))

theorem out12 (x0 : Vec Ideal S1x512x1024 .f32) (x1 : Vec Ideal S1024x2560 .bf16) (x2 : Vec Ideal S1536x1024 .bf16) (x3 x4 x5 : Vec Ideal S512x128 .f32) (y : S1x512x1024.Idx) :
    out0_12 x0 x1 x2 x3 x4 x5 y = apart (fun j => row x0 x1 (y 1) 1536 (by omega) j * Ideal.ofBits .f32 0x3E000000#32) (y 2) := by
  idx_vars y
  unfold_out out0_12
  canon_tiles z h
  idx_vars z
  obtain rfl : y1 = z1 := Fin.ext h1
  obtain rfl : y2 = z2 := Fin.ext h2
  obtain rfl : z0 = 0 := Subsingleton.elim _ _
  refine (apart_s _ _ y1 y2).trans ?_
  refine congrArg (fun Z => apart Z y2) (funext fun j => ?_)
  unfold k0_pay38 k0_pay7 row
  pointwise

theorem out6 (x0 : Vec Ideal S1x512x1024 .f32) (x1 : Vec Ideal S1024x2560 .bf16) (x2 : Vec Ideal S1536x1024 .bf16) (x3 x4 x5 : Vec Ideal S512x128 .f32) (y : S1x512x1024.Idx) :
    out0_6 x0 x1 x2 x3 x4 x5 y = apart (fun j => mixed (row x0 x1 (y 1) 0 (by omega))
      (fun j => x3 (ix2 (y 1) j)) (fun j => x4 (ix2 (y 1) j)) (fun j => x5 (ix2 (y 1) j)) j * Ideal.ofBits .f32 0x3E000000#32) (y 2) := by
  idx_vars y
  unfold_out out0_6
  canon_tiles z h
  idx_vars z
  obtain rfl : y1 = z1 := Fin.ext h1
  obtain rfl : y2 = z2 := Fin.ext h2
  obtain rfl : z0 = 0 := Subsingleton.elim _ _
  refine (apart_d _ _ _ _ _ _ _ _ _ rfl y1 y2).trans ?_
  refine congrArg (fun Z => apart Z y2) (funext fun j => ?_)
  refine (turned_q _ _ _ _ _ y1 j).trans ?_
  unfold mixed row
  simp only [prod_q]
  pointwise

end Cert.ProjProof

end
-- ==== Proof.ProjHost.lean ====
module

public import proofs.«01_k».proof.Defs
public import proofs.«01_k».proof.Proof.ProjBody
public import proofs.«01_k».proof.Proof.ProjRef

@[expose] public section

set_option maxRecDepth 16384

noncomputable section

namespace Cert.ProjProof

open Idealize.ShloMosaic Idealize.ShloMosaic.TcCoe Idealize.ShloMosaic.ValueKit Idealize.SL.Sem
open Cert.Kernel3Ideal Cert.Kernel3Ideal.Gen

variable (m : (ℓ : Loc nD τ sig) → Buf (Elt Ideal) ℓ) (c : Dev nD)

/-- The angles of every row of the prompt. -/
def rowAngles : FVec Ideal S16384x8 .f32 :=
  mulf (broadcastInDim S16384x8 ![0, 1] bcast_S16384x1_S16384x8_0_1 (broadcastInDim S16384x1 ![0] bcast_S16384_S16384x1_0
      (sitofp .f32 (shapeCast S16384 (broadcastInDim S4x4096 ![0, 1] bcast_S1x4096_S4x4096_0_1 (shapeCast S1x4096 (iotaInDim S4096 32 0) shapeCasts_S4096_S1x4096)) shapeCasts_S4x4096_S16384))))
    (broadcastInDim S16384x8 ![0, 1] bcast_S1x8_S16384x8_0_1 (broadcastInDim S1x8 ![1] bcast_S8_S1x8_1 freqs))

/-- A table of sixty-four lanes laid out twice along a row of lanes. -/
def twice (T : FVec Ideal S16384x64 .f32) : FVec Ideal S16384x128 .f32 :=
  shapeCast S16384x128 (broadcastInDim S1x16384x2x64 ![0, 1, 2, 3] bcast_S1x16384x1x64_S1x16384x2x64_0_1_2_3 (shapeCast S1x16384x1x64 T shapeCasts_S16384x64_S1x16384x1x64)) shapeCasts_S1x16384x2x64_S16384x128

def tableC : FVec Ideal S16384x128 .f32 :=
  twice (concatenate S16384x64 1 [⟨S16384x8, Host.cos rowAngles⟩, ⟨S16384x8, Host.cos rowAngles⟩, ⟨S16384x48, broadcastInDim S16384x48 ![] bcast_S_S16384x48 (constant S_ .f32 0x3F800000#32)⟩] concatenates_S16384x8_S16384x8_S16384x48_S16384x64_d1)

def tableA : FVec Ideal S16384x128 .f32 :=
  twice (concatenate S16384x64 1 [⟨S16384x8, Host.negf (Host.sin rowAngles)⟩, ⟨S16384x56, broadcastInDim S16384x56 ![] bcast_S_S16384x56 (constant S_ .f32 0x00000000#32)⟩] concatenates_S16384x8_S16384x56_S16384x64_d1)

def tableB : FVec Ideal S16384x128 .f32 :=
  twice (concatenate S16384x64 1 [⟨S16384x8, broadcastInDim S16384x8 ![] bcast_S_S16384x8 (constant S_ .f32 0x00000000#32)⟩, ⟨S16384x8, Host.sin rowAngles⟩, ⟨S16384x48, broadcastInDim S16384x48 ![] bcast_S_S16384x48 (constant S_ .f32 0x00000000#32)⟩] concatenates_S16384x8_S16384x8_S16384x48_S16384x64_d1)

theorem tableC_apply (p : Fin 16384) (l : Fin 128) : tableC (ix2 p l) = cosLane (angle (p.val % 4096)) l := by
  unfold tableC twice
  pointwise
  unfold rowAngles cosLane angle
  pointwise

theorem tableA_apply (p : Fin 16384) (l : Fin 128) : tableA (ix2 p l) = aheadLane (angle (p.val % 4096)) l := by
  unfold tableA twice
  pointwise
  unfold rowAngles aheadLane angle
  pointwise

theorem tableB_apply (p : Fin 16384) (l : Fin 128) : tableB (ix2 p l) = backLane (angle (p.val % 4096)) l := by
  unfold tableB twice
  pointwise
  unfold rowAngles backLane angle
  pointwise

theorem table_c : (V m c main_v39 : FVec Ideal S16384x128 .f32) = tableC := rfl

theorem table_a : (V m c main_v42 : FVec Ideal S16384x128 .f32) = tableA := rfl

theorem table_b : (V m c main_v45 : FVec Ideal S16384x128 .f32) = tableB := rfl

/-- The five segments of the weights that are used as they stand. -/
def plainW (w : FVec Ideal S1024x3072 .f32) : FVec Ideal S1024x2560 .bf16 :=
  truncf .bf16 (extractStridedSlice S1024x2560 ![0, 0] w slices_S1024x3072_S1024x2560_0_0) bitsLt_bf16_f32

/-- The three segments that are used transposed. -/
def acrossW (w : FVec Ideal S1024x3072 .f32) : FVec Ideal S1536x1024 .bf16 :=
  truncf .bf16 (transpose S1536x1024 [1, 0] (concatenate S1024x1536 1
    [⟨S1024x512, extractStridedSlice S1024x512 ![0, 1024] w slices_S1024x3072_S1024x512_0_1024⟩,
     ⟨S1024x1024, extractStridedSlice S1024x1024 ![0, 2048] w slices_S1024x3072_S1024x1024_0_2048⟩]
    concatenates_S1024x512_S1024x1024_S1024x1536_d1) transposes_S1024x1536_S1536x1024_1_0) bitsLt_bf16_f32

theorem plainW_eq : (V m c main_v5 : FVec Ideal S1024x2560 .bf16) = plainW (m ((c : Thread nD τ).loc main_arg1)) := rfl

theorem acrossW_eq : (V m c main_v10 : FVec Ideal S1536x1024 .bf16) = acrossW (m ((c : Thread nD τ).loc main_arg1)) := rfl

theorem plainW_apply (w : FVec Ideal S1024x3072 .f32) (k : Fin 1024) (j : Fin 2560) : plainW w (ix2 k j) = w (ix2 k ⟨j.val, by omega⟩) := by
  unfold plainW
  pointwise

/-- The column of the weights that stands in row `j` of the transposed ones. -/
def acrossCol (j : Fin 1536) : Fin 3072 := ⟨if j.val < 512 then 1024 + j.val else 1536 + j.val, by split_ifs <;> omega⟩

theorem acrossW_apply (w : FVec Ideal S1024x3072 .f32) (j : Fin 1536) (k : Fin 1024) : acrossW w (ix2 j k) = w (ix2 k (acrossCol j)) := by
  unfold acrossW acrossCol
  pointwise
  have hj := j.isLt
  by_cases h : j.val < 512
  · refine (dif_pos h).trans ?_
    blk_ext
    rw [if_pos h]
  · refine (dif_neg h).trans ?_
    blk_ext
    rw [if_neg h]; omega

theorem idx : ∀ t : Fin grid0.N, win0_0.index t = ![t.val / 8, t.val % 8, 0] ∧ win0_1.index t = ![0, 0] ∧ win0_2.index t = ![0, 0] ∧ win0_3.index t = ![t.val, 0] ∧ win0_4.index t = ![t.val, 0] ∧ win0_5.index t = ![t.val, 0]
    ∧ t.val < 32 := by decide +kernel

theorem outs : ∀ t : Fin grid0.N, win0_6.index t = ![t.val / 8, t.val % 8, 0] ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0] ∧ win0_11.index t = ![t.val / 8, 0, t.val % 8]
    ∧ win0_12.index t = ![t.val / 8, t.val % 8, 0] ∧ win0_13.index t = ![t.val / 8, t.val % 8, 0] ∧ win0_14.index t = ![t.val / 8, t.val % 8, 0]
    ∧ win0_15.index t = ![t.val / 8, 0, t.val % 8] ∧ win0_16.index t = ![t.val / 8, 0, t.val % 8] ∧ win0_17.index t = ![t.val / 8, 0, t.val % 8] := by decide +kernel

theorem blk_c (t : Fin grid0.N) (r : Fin 512) (j : Fin 128) : iblk m c 3 t (ix2 r j) = cosLane (angle (t.val % 8 * 512 + r.val)) j := by
  have ht := (idx t).2.2.2.2.2.2
  refine Eq.trans (b := tableC (ix2 ⟨t.val * 512 + r.val, by omega⟩ j)) ?_ ?_
  · rw [← table_c m c]
    blk_ext [iblk, (idx t).2.2.2.1]
  · rw [tableC_apply]
    exact congrArg (fun p => cosLane (angle p) j) (by dsimp only; omega)

theorem blk_a (t : Fin grid0.N) (r : Fin 512) (j : Fin 128) : iblk m c 4 t (ix2 r j) = aheadLane (angle (t.val % 8 * 512 + r.val)) j := by
  have ht := (idx t).2.2.2.2.2.2
  refine Eq.trans (b := tableA (ix2 ⟨t.val * 512 + r.val, by omega⟩ j)) ?_ ?_
  · rw [← table_a m c]
    blk_ext [iblk, (idx t).2.2.2.2.1]
  · rw [tableA_apply]
    exact congrArg (fun p => aheadLane (angle p) j) (by dsimp only; omega)

theorem blk_b (t : Fin grid0.N) (r : Fin 512) (j : Fin 128) : iblk m c 5 t (ix2 r j) = backLane (angle (t.val % 8 * 512 + r.val)) j := by
  have ht := (idx t).2.2.2.2.2.2
  refine Eq.trans (b := tableB (ix2 ⟨t.val * 512 + r.val, by omega⟩ j)) ?_ ?_
  · rw [← table_b m c]
    blk_ext [iblk, (idx t).2.2.2.2.2.1]
  · rw [tableB_apply]
    exact congrArg (fun p => backLane (angle p) j) (by dsimp only; omega)

/-- The row of the prompt that stands in row `r` of the block of point `t`. -/
def rowOf (t : Fin grid0.N) (r : Fin 512) (k : Fin 1024) : EReal :=
  (m ((c : Thread nD τ).loc main_arg0) : FVec Ideal S4x4096x1024 .f32) (ix3 ⟨t.val / 8, by have := (idx t).2.2.2.2.2.2; omega⟩ ⟨t.val % 8 * 512 + r.val, by omega⟩ k)

theorem row_eq (t : Fin grid0.N) (r : Fin 512) (o : ℕ) (ho : o ≤ 2048) :
    row (iblk m c 0 t) (iblk m c 1 t) r o ho = entry (rowOf m c t r) (m ((c : Thread nD τ).loc main_arg1)) o (by omega) := by
  funext j
  unfold row entry
  refine Finset.sum_congr rfl fun k _ => ?_
  congr 1
  · unfold rowOf
    blk_ext [iblk, V, (idx t).1]
  · refine Eq.trans (b := plainW (m ((c : Thread nD τ).loc main_arg1)) (ix2 k ⟨o + j.val, by omega⟩)) ?_ (plainW_apply _ _ _)
    rw [← plainW_eq m c]
    blk_ext [iblk, (idx t).2.1]

theorem col_eq (t : Fin grid0.N) (r : Fin 512) (o : ℕ) (ho : o ≤ 1024) (o' : ℕ) (ho' : o' ≤ 2560) (h : o' = if o < 512 then 1024 + o else 1536 + o) (ha : o < 512 → o = 0) :
    col (iblk m c 0 t) (iblk m c 2 t) r o ho = entry (rowOf m c t r) (m ((c : Thread nD τ).loc main_arg1)) o' ho' := by
  funext j
  unfold col entry
  refine Finset.sum_congr rfl fun k _ => ?_
  rw [mul_comm]
  congr 1
  · unfold rowOf
    blk_ext [iblk, V, (idx t).1]
  · refine Eq.trans (b := acrossW (m ((c : Thread nD τ).loc main_arg1)) (ix2 ⟨o + j.val, by omega⟩ k)) ?_ ((acrossW_apply _ _ _).trans ?_)
    · rw [← acrossW_eq m c]
      blk_ext [iblk, (idx t).2.2.1]
    · refine congrArg (fun q => (m ((c : Thread nD τ).loc main_arg1) : FVec Ideal S1024x3072 .f32) (ix2 k q)) (Fin.ext ?_)
      have hj := j.isLt
      unfold acrossCol
      dsimp only
      split_ifs at h ⊢ <;> omega

end Cert.ProjProof

end
-- ==== Proof.ProjPrompt.lean ====
module

public import proofs.«01_k».proof.Defs
public import proofs.«01_k».proof.Proof.Gen.Kernel3.Frame
public import proofs.«01_k».proof.Proof.ProjHost

@[expose] public section

set_option maxRecDepth 16384

noncomputable section

namespace Cert.ProjProof

open Idealize.ShloMosaic Idealize.ShloMosaic.TcCoe Idealize.ShloMosaic.ValueKit Idealize.SL.Sem

/-- Mixing with the tables' lanes turns the row. -/
theorem mixed_eq (Z : Fin 512 → EReal) (A : Fin 8 → EReal) (l : Fin 512) : mixed Z (cosLane A) (aheadLane A) (backLane A) l = roped Z A l := by
  have hl := l.isLt
  have e : l.val % 128 % 64 = l.val % 64 := by omega
  unfold mixed cosLane aheadLane backLane roped
  simp only [e]
  by_cases h8 : l.val % 64 < 8
  · have i : (⟨l.val / 128 * 128 + (l.val % 128 + 8) % 128, by omega⟩ : Fin 512) = ⟨l.val + 8, by omega⟩ := Fin.ext (by dsimp only; omega)
    simp only [h8, dite_true, i, mul_zero, add_zero, mul_neg, ← sub_eq_add_neg]
  · by_cases h16 : l.val % 64 < 16
    · have i : (⟨l.val / 128 * 128 + (l.val % 128 + 120) % 128, by omega⟩ : Fin 512) = ⟨l.val - 8, by omega⟩ := Fin.ext (by dsimp only; omega)
      have g : l.val % 64 - 8 < 8 := by omega
      simp only [h8, h16, g, dite_true, dite_false, i, mul_zero, add_zero]
    · have g : ¬ l.val % 64 - 8 < 8 := by omega
      simp only [h8, h16, g, dite_false, mul_zero, add_zero, mul_one]

theorem mixed_roped {Z Z' : Fin 512 → EReal} {C A B : Fin 128 → EReal} {N : Fin 8 → EReal} (l : Fin 512) (hZ : Z = Z') (hC : ∀ j, C j = cosLane N j) (hA : ∀ j, A j = aheadLane N j)
    (hB : ∀ j, B j = backLane N j) : mixed Z C A B l = roped Z' N l := by
  obtain rfl : C = cosLane N := funext hC
  obtain rfl : A = aheadLane N := funext hA
  obtain rfl : B = backLane N := funext hB
  rw [hZ]
  exact mixed_eq Z' N l

theorem elt_congr {n : ℕ} (f : (Fin 1024 → EReal) → ℕ → Fin n → EReal) {X X' : Fin 1024 → EReal} {p p' : ℕ} {l l' : Fin n} (hX : ∀ k, X k = X' k) (hp : p = p') (hl : l.val = l'.val) :
    f X p l = f X' p' l' := by
  rw [funext hX, hp, Fin.ext hl]

section Prompt
open Cert.Kernel3Ideal Cert.Kernel3Ideal.Gen

variable (m : (ℓ : Loc nD τ sig) → Buf (Elt Ideal) ℓ) (c : Dev nD)

theorem turned_point (t : Fin grid0.N) (r : Fin 512) (o : ℕ) (ho : o ≤ 2048) (l : Fin 512) :
    mixed (row (iblk m c 0 t) (iblk m c 1 t) r o ho) (fun j => iblk m c 3 t (ix2 r j)) (fun j => iblk m c 4 t (ix2 r j)) (fun j => iblk m c 5 t (ix2 r j)) l
      = roped (entry (rowOf m c t r) (m ((c : Thread nD τ).loc main_arg1)) o (by omega)) (angle (t.val % 8 * 512 + r.val)) l :=
  mixed_roped l (row_eq m c t r o ho) (blk_c m c t r) (blk_a m c t r) (blk_b m c t r)

theorem point6 (t : Fin grid0.N) (y : S1x512x1024.Idx) : out0_6 (iblk m c 0 t) (iblk m c 1 t) (iblk m c 2 t) (iblk m c 3 t) (iblk m c 4 t) (iblk m c 5 t) y
    = queryApart (m ((c : Thread nD τ).loc main_arg1)) (rowOf m c t (y 1)) (t.val % 8 * 512 + (y 1).val) (y 2) :=
  (out6 _ _ _ _ _ _ y).trans (congrArg (fun Z => apart Z (y 2)) (funext fun j => congrArg (· * scale) (turned_point m c t (y 1) 0 (by omega) j)))

theorem array6 : (dats m 0 c).arrAt 6 cfg0.N = along (queryApart (m ((c : Thread nD τ).loc main_arg1))) (m ((c : Thread nD τ).loc main_arg0)) := by
  refine (dats m 0 c).arrAt_eq_of_covers 6 _ (by decide +kernel) fun t hf y => ?_
  blk_simp
  rw [after0_6]
  refine (point6 m c t y).trans (elt_congr _ (fun k => ?_) ?_ ?_)
  · unfold rowOf
    blk_ext [(outs t).1]
  · blk_simp [(outs t).1]
  · blk_simp [(outs t).1]

theorem point7 (t : Fin grid0.N) (y : S1x512x512.Idx) : out0_7 (iblk m c 0 t) (iblk m c 1 t) (iblk m c 2 t) (iblk m c 3 t) (iblk m c 4 t) (iblk m c 5 t) y
    = queryEntry (m ((c : Thread nD τ).loc main_arg1)) (rowOf m c t (y 1)) (t.val % 8 * 512 + (y 1).val) (y 2) :=
  (out7 _ _ _ _ _ _ y).trans (congrArg (· * scale) (turned_point m c t (y 1) 0 (by omega) (y 2)))

theorem array7 : (dats m 0 c).arrAt 7 cfg0.N = along (queryEntry (m ((c : Thread nD τ).loc main_arg1))) (m ((c : Thread nD τ).loc main_arg0)) := by
  refine (dats m 0 c).arrAt_eq_of_covers 7 _ (by decide +kernel) fun t hf y => ?_
  blk_simp
  rw [after0_7]
  refine (point7 m c t y).trans (elt_congr _ (fun k => ?_) ?_ ?_)
  · unfold rowOf
    blk_ext [(outs t).2.1]
  · blk_simp [(outs t).2.1]
  · blk_simp [(outs t).2.1]

theorem point8 (t : Fin grid0.N) (y : S1x512x512.Idx) : out0_8 (iblk m c 0 t) (iblk m c 1 t) (iblk m c 2 t) (iblk m c 3 t) (iblk m c 4 t) (iblk m c 5 t) y
    = keyEntry (m ((c : Thread nD τ).loc main_arg1)) (rowOf m c t (y 1)) (t.val % 8 * 512 + (y 1).val) (y 2) :=
  (out8 _ _ _ _ _ _ y).trans (turned_point m c t (y 1) 512 (by omega) (y 2))

theorem array8 : (dats m 0 c).arrAt 8 cfg0.N = along (keyEntry (m ((c : Thread nD τ).loc main_arg1))) (m ((c : Thread nD τ).loc main_arg0)) := by
  refine (dats m 0 c).arrAt_eq_of_covers 8 _ (by decide +kernel) fun t hf y => ?_
  blk_simp
  rw [after0_8]
  refine (point8 m c t y).trans (elt_congr _ (fun k => ?_) ?_ ?_)
  · unfold rowOf
    blk_ext [(outs t).2.2.1]
  · blk_simp [(outs t).2.2.1]
  · blk_simp [(outs t).2.2.1]

theorem point9 (t : Fin grid0.N) (y : S1x512x512.Idx) : out0_9 (iblk m c 0 t) (iblk m c 1 t) (iblk m c 2 t) (iblk m c 3 t) (iblk m c 4 t) (iblk m c 5 t) y
    = keyEntry (m ((c : Thread nD τ).loc main_arg1)) (rowOf m c t (y 1)) (t.val % 8 * 512 + (y 1).val) (y 2) :=
  (out9 _ _ _ _ _ _ y).trans (turned_point m c t (y 1) 512 (by omega) (y 2))

theorem array9 : (dats m 0 c).arrAt 9 cfg0.N = along (keyEntry (m ((c : Thread nD τ).loc main_arg1))) (m ((c : Thread nD τ).loc main_arg0)) := by
  refine (dats m 0 c).arrAt_eq_of_covers 9 _ (by decide +kernel) fun t hf y => ?_
  blk_simp
  rw [after0_9]
  refine (point9 m c t y).trans (elt_congr _ (fun k => ?_) ?_ ?_)
  · unfold rowOf
    blk_ext [(outs t).2.2.2.1]
  · blk_simp [(outs t).2.2.2.1]
  · blk_simp [(outs t).2.2.2.1]

theorem point10 (t : Fin grid0.N) (y : S1x512x512.Idx) : out0_10 (iblk m c 0 t) (iblk m c 1 t) (iblk m c 2 t) (iblk m c 3 t) (iblk m c 4 t) (iblk m c 5 t) y
    = valueEntry (m ((c : Thread nD τ).loc main_arg1)) (rowOf m c t (y 1)) (t.val % 8 * 512 + (y 1).val) (y 2) :=
  (out10 _ _ _ _ _ _ y).trans (congrFun (row_eq m c t (y 1) 1024 (by omega)) (y 2))

theorem array10 : (dats m 0 c).arrAt 10 cfg0.N = along (valueEntry (m ((c : Thread nD τ).loc main_arg1))) (m ((c : Thread nD τ).loc main_arg0)) := by
  refine (dats m 0 c).arrAt_eq_of_covers 10 _ (by decide +kernel) fun t hf y => ?_
  blk_simp
  rw [after0_10]
  refine (point10 m c t y).trans (elt_congr _ (fun k => ?_) ?_ ?_)
  · unfold rowOf
    blk_ext [(outs t).2.2.2.2.1]
  · blk_simp [(outs t).2.2.2.2.1]
  · blk_simp [(outs t).2.2.2.2.1]

theorem point11 (t : Fin grid0.N) (y : S1x512x512.Idx) : out0_11 (iblk m c 0 t) (iblk m c 1 t) (iblk m c 2 t) (iblk m c 3 t) (iblk m c 4 t) (iblk m c 5 t) y
    = valueEntry (m ((c : Thread nD τ).loc main_arg1)) (rowOf m c t (y 2)) (t.val % 8 * 512 + (y 2).val) (y 1) :=
  (out11 _ _ _ _ _ _ y).trans (congrFun (col_eq m c t (y 2) 0 (by omega) 1024 (by omega) (by simp) (by omega)) (y 1))

theorem array11 : (dats m 0 c).arrAt 11 cfg0.N = across (valueEntry (m ((c : Thread nD τ).loc main_arg1))) (m ((c : Thread nD τ).loc main_arg0)) := by
  refine (dats m 0 c).arrAt_eq_of_covers 11 _ (by decide +kernel) fun t hf y => ?_
  blk_simp
  rw [after0_11]
  refine (point11 m c t y).trans (elt_congr _ (fun k => ?_) ?_ ?_)
  · unfold rowOf
    blk_ext [(outs t).2.2.2.2.2.1]
  · blk_simp [(outs t).2.2.2.2.2.1]
  · blk_simp [(outs t).2.2.2.2.2.1]

theorem point12 (t : Fin grid0.N) (y : S1x512x1024.Idx) : out0_12 (iblk m c 0 t) (iblk m c 1 t) (iblk m c 2 t) (iblk m c 3 t) (iblk m c 4 t) (iblk m c 5 t) y
    = query2Apart (m ((c : Thread nD τ).loc main_arg1)) (rowOf m c t (y 1)) (t.val % 8 * 512 + (y 1).val) (y 2) :=
  (out12 _ _ _ _ _ _ y).trans (congrArg (fun Z => apart Z (y 2)) (funext fun j => congrArg (· * scale) (congrFun (row_eq m c t (y 1) 1536 (by omega)) j)))

theorem array12 : (dats m 0 c).arrAt 12 cfg0.N = along (query2Apart (m ((c : Thread nD τ).loc main_arg1))) (m ((c : Thread nD τ).loc main_arg0)) := by
  refine (dats m 0 c).arrAt_eq_of_covers 12 _ (by decide +kernel) fun t hf y => ?_
  blk_simp
  rw [after0_12]
  refine (point12 m c t y).trans (elt_congr _ (fun k => ?_) ?_ ?_)
  · unfold rowOf
    blk_ext [(outs t).2.2.2.2.2.2.1]
  · blk_simp [(outs t).2.2.2.2.2.2.1]
  · blk_simp [(outs t).2.2.2.2.2.2.1]

theorem point13 (t : Fin grid0.N) (y : S1x512x512.Idx) : out0_13 (iblk m c 0 t) (iblk m c 1 t) (iblk m c 2 t) (iblk m c 3 t) (iblk m c 4 t) (iblk m c 5 t) y
    = query2Entry (m ((c : Thread nD τ).loc main_arg1)) (rowOf m c t (y 1)) (t.val % 8 * 512 + (y 1).val) (y 2) :=
  (out13 _ _ _ _ _ _ y).trans (congrArg (· * scale) (congrFun (row_eq m c t (y 1) 1536 (by omega)) (y 2)))

theorem array13 : (dats m 0 c).arrAt 13 cfg0.N = along (query2Entry (m ((c : Thread nD τ).loc main_arg1))) (m ((c : Thread nD τ).loc main_arg0)) := by
  refine (dats m 0 c).arrAt_eq_of_covers 13 _ (by decide +kernel) fun t hf y => ?_
  blk_simp
  rw [after0_13]
  refine (point13 m c t y).trans (elt_congr _ (fun k => ?_) ?_ ?_)
  · unfold rowOf
    blk_ext [(outs t).2.2.2.2.2.2.2.1]
  · blk_simp [(outs t).2.2.2.2.2.2.2.1]
  · blk_simp [(outs t).2.2.2.2.2.2.2.1]

theorem point14 (t : Fin grid0.N) (y : S1x512x512.Idx) : out0_14 (iblk m c 0 t) (iblk m c 1 t) (iblk m c 2 t) (iblk m c 3 t) (iblk m c 4 t) (iblk m c 5 t) y
    = key2Entry (m ((c : Thread nD τ).loc main_arg1)) (rowOf m c t (y 1)) (t.val % 8 * 512 + (y 1).val) (y 2) :=
  (out14 _ _ _ _ _ _ y).trans (congrFun (row_eq m c t (y 1) 2048 (by omega)) (y 2))

theorem array14 : (dats m 0 c).arrAt 14 cfg0.N = along (key2Entry (m ((c : Thread nD τ).loc main_arg1))) (m ((c : Thread nD τ).loc main_arg0)) := by
  refine (dats m 0 c).arrAt_eq_of_covers 14 _ (by decide +kernel) fun t hf y => ?_
  blk_simp
  rw [after0_14]
  refine (point14 m c t y).trans (elt_congr _ (fun k => ?_) ?_ ?_)
  · unfold rowOf
    blk_ext [(outs t).2.2.2.2.2.2.2.2.1]
  · blk_simp [(outs t).2.2.2.2.2.2.2.2.1]
  · blk_simp [(outs t).2.2.2.2.2.2.2.2.1]

theorem point15 (t : Fin grid0.N) (y : S1x512x512.Idx) : out0_15 (iblk m c 0 t) (iblk m c 1 t) (iblk m c 2 t) (iblk m c 3 t) (iblk m c 4 t) (iblk m c 5 t) y
    = key2Entry (m ((c : Thread nD τ).loc main_arg1)) (rowOf m c t (y 2)) (t.val % 8 * 512 + (y 2).val) (y 1) :=
  (out15 _ _ _ _ _ _ y).trans (congrFun (col_eq m c t (y 2) 512 (by omega) 2048 (by omega) (by simp) (by omega)) (y 1))

theorem array15 : (dats m 0 c).arrAt 15 cfg0.N = across (key2Entry (m ((c : Thread nD τ).loc main_arg1))) (m ((c : Thread nD τ).loc main_arg0)) := by
  refine (dats m 0 c).arrAt_eq_of_covers 15 _ (by decide +kernel) fun t hf y => ?_
  blk_simp
  rw [after0_15]
  refine (point15 m c t y).trans (elt_congr _ (fun k => ?_) ?_ ?_)
  · unfold rowOf
    blk_ext [(outs t).2.2.2.2.2.2.2.2.2.1]
  · blk_simp [(outs t).2.2.2.2.2.2.2.2.2.1]
  · blk_simp [(outs t).2.2.2.2.2.2.2.2.2.1]

theorem point16 (t : Fin grid0.N) (y : S1x512x512.Idx) : out0_16 (iblk m c 0 t) (iblk m c 1 t) (iblk m c 2 t) (iblk m c 3 t) (iblk m c 4 t) (iblk m c 5 t) y
    = value2Entry (m ((c : Thread nD τ).loc main_arg1)) (rowOf m c t (y 2)) (t.val % 8 * 512 + (y 2).val) (y 1) :=
  (out16 _ _ _ _ _ _ y).trans (congrFun (col_eq m c t (y 2) 1024 (by omega) 2560 (by omega) (by simp) (by omega)) (y 1))

theorem array16 : (dats m 0 c).arrAt 16 cfg0.N = across (value2Entry (m ((c : Thread nD τ).loc main_arg1))) (m ((c : Thread nD τ).loc main_arg0)) := by
  refine (dats m 0 c).arrAt_eq_of_covers 16 _ (by decide +kernel) fun t hf y => ?_
  blk_simp
  rw [after0_16]
  refine (point16 m c t y).trans (elt_congr _ (fun k => ?_) ?_ ?_)
  · unfold rowOf
    blk_ext [(outs t).2.2.2.2.2.2.2.2.2.2.1]
  · blk_simp [(outs t).2.2.2.2.2.2.2.2.2.2.1]
  · blk_simp [(outs t).2.2.2.2.2.2.2.2.2.2.1]

theorem point17 (t : Fin grid0.N) (y : S1x512x512.Idx) : out0_17 (iblk m c 0 t) (iblk m c 1 t) (iblk m c 2 t) (iblk m c 3 t) (iblk m c 4 t) (iblk m c 5 t) y
    = value2Entry (m ((c : Thread nD τ).loc main_arg1)) (rowOf m c t (y 2)) (t.val % 8 * 512 + (y 2).val) (y 1) :=
  (out17 _ _ _ _ _ _ y).trans (congrFun (col_eq m c t (y 2) 1024 (by omega) 2560 (by omega) (by simp) (by omega)) (y 1))

theorem array17 : (dats m 0 c).arrAt 17 cfg0.N = across (value2Entry (m ((c : Thread nD τ).loc main_arg1))) (m ((c : Thread nD τ).loc main_arg0)) := by
  refine (dats m 0 c).arrAt_eq_of_covers 17 _ (by decide +kernel) fun t hf y => ?_
  blk_simp
  rw [after0_17]
  refine (point17 m c t y).trans (elt_congr _ (fun k => ?_) ?_ ?_)
  · unfold rowOf
    blk_ext [(outs t).2.2.2.2.2.2.2.2.2.2.2]
  · blk_simp [(outs t).2.2.2.2.2.2.2.2.2.2.2]
  · blk_simp [(outs t).2.2.2.2.2.2.2.2.2.2.2]

end Prompt

end Cert.ProjProof

end
-- ==== Proof.ProjClaims.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.ProjPrompt

@[expose] public section

set_option maxRecDepth 16384

noncomputable section

namespace Cert.ProjProof

open Idealize Idealize.ShloMosaic

theorem frame_rounded : Cert.quiescent_Kernel3 := fun m ρ _ => Cert.Kernel3.Gen.frame m ρ

theorem frame_exact : Cert.quiescent_Kernel3Ideal := fun m ρ _ => Cert.Kernel3Ideal.Gen.frame m ρ

theorem frame_ref : Cert.quiescent_Reference3Ideal := fun m ρ _ =>
  (θ_run Cert.Reference3Ideal.defs _ _).mono (fun r h => ⟨fun c => (h c).2.2.2.2.2.2.2.2.2.2.2.2, sem_eq_zero_of_no_sems (by decide) r.2⟩)
    (Cert.Reference3Ideal.Value.run (F := Ideal) m ρ)

section Results
open Cert.Reference3Ideal Cert.Reference3Ideal.Gen

/-- The two arguments. -/
abbrev ref_inputs (m : (ℓ : Loc nD τ sig) → Buf (Elt Ideal) ℓ) (c : Dev nD) : FVec Ideal S4x4096x1024 .f32 := m ((c.tc : Thread nD τ).loc main_arg0)
abbrev ref_weights (m : (ℓ : Loc nD τ sig) → Buf (Elt Ideal) ℓ) (c : Dev nD) : FVec Ideal S1024x3072 .f32 := m ((c.tc : Thread nD τ).loc main_arg1)

/-- The twelve results of the reference, each an entry of a row at a position. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v101) = along (queryApart (ref_weights m c)) (ref_inputs m c)
      ∧ r.2.mem ((c.tc : Thread nD τ).loc main_v103) = along (queryEntry (ref_weights m c)) (ref_inputs m c)
      ∧ r.2.mem ((c.tc : Thread nD τ).loc main_v104) = along (keyEntry (ref_weights m c)) (ref_inputs m c)
      ∧ r.2.mem ((c.tc : Thread nD τ).loc main_v106) = along (keyEntry (ref_weights m c)) (ref_inputs m c)
      ∧ r.2.mem ((c.tc : Thread nD τ).loc main_v4) = along (valueEntry (ref_weights m c)) (ref_inputs m c)
      ∧ r.2.mem ((c.tc : Thread nD τ).loc main_v108) = across (valueEntry (ref_weights m c)) (ref_inputs m c)
      ∧ r.2.mem ((c.tc : Thread nD τ).loc main_v117) = along (query2Apart (ref_weights m c)) (ref_inputs m c)
      ∧ r.2.mem ((c.tc : Thread nD τ).loc main_v119) = along (query2Entry (ref_weights m c)) (ref_inputs m c)
      ∧ r.2.mem ((c.tc : Thread nD τ).loc main_v120) = along (key2Entry (ref_weights m c)) (ref_inputs m c)
      ∧ r.2.mem ((c.tc : Thread nD τ).loc main_v121) = across (key2Entry (ref_weights m c)) (ref_inputs m c)
      ∧ r.2.mem ((c.tc : Thread nD τ).loc main_v122) = across (value2Entry (ref_weights m c)) (ref_inputs m c)
      ∧ r.2.mem ((c.tc : Thread nD τ).loc main_v124) = across (value2Entry (ref_weights m c)) (ref_inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  refine ⟨(h c).1.trans ?_,
    (h c).2.1.trans ?_,
    (h c).2.2.1.trans ?_,
    (h c).2.2.2.1.trans ?_,
    (h c).2.2.2.2.1.trans ?_,
    (h c).2.2.2.2.2.1.trans ?_,
    (h c).2.2.2.2.2.2.1.trans ?_,
    (h c).2.2.2.2.2.2.2.1.trans ?_,
    (h c).2.2.2.2.2.2.2.2.1.trans ?_,
    (h c).2.2.2.2.2.2.2.2.2.1.trans ?_,
    (h c).2.2.2.2.2.2.2.2.2.2.1.trans ?_,
    (h c).2.2.2.2.2.2.2.2.2.2.2.1.trans ?_, (h c).2.2.2.2.2.2.2.2.2.2.2.2⟩
  · exact queriesApart_ref (ref_inputs m c) (ref_weights m c)
  · exact queries_ref (ref_inputs m c) (ref_weights m c)
  · exact keys_ref (ref_inputs m c) (ref_weights m c)
  · exact keys_ref (ref_inputs m c) (ref_weights m c)
  · exact along_ref (ref_inputs m c) (ref_weights m c) 1024 (by omega) slices_S4x4096x3072_S4x4096x512_0_0_1024
  · exact across_ref (ref_inputs m c) (ref_weights m c) 1024 (by omega) slices_S4x4096x3072_S4x4096x512_0_0_1024
  · exact queries2Apart_ref (ref_inputs m c) (ref_weights m c)
  · exact queries2_ref (ref_inputs m c) (ref_weights m c)
  · exact along_ref (ref_inputs m c) (ref_weights m c) 2048 (by omega) slices_S4x4096x3072_S4x4096x512_0_0_2048
  · exact across_ref (ref_inputs m c) (ref_weights m c) 2048 (by omega) slices_S4x4096x3072_S4x4096x512_0_0_2048
  · exact across_ref (ref_inputs m c) (ref_weights m c) 2560 (by omega) slices_S4x4096x3072_S4x4096x512_0_0_2560
  · exact across_ref (ref_inputs m c) (ref_weights m c) 2560 (by omega) slices_S4x4096x3072_S4x4096x512_0_0_2560

end Results

section Prompt
open Cert.Kernel3Ideal Cert.Kernel3Ideal.Gen

/-- The two arguments. -/
abbrev inputs (m : (ℓ : Loc nD τ sig) → Buf (Elt Ideal) ℓ) (c : Dev nD) : FVec Ideal S4x4096x1024 .f32 := m ((c.tc : Thread nD τ).loc main_arg0)
abbrev weights (m : (ℓ : Loc nD τ sig) → Buf (Elt Ideal) ℓ) (c : Dev nD) : FVec Ideal S1024x3072 .f32 := m ((c.tc : Thread nD τ).loc main_arg1)

/-- With exact arithmetic the prompt's projections are the reference's. -/
theorem value : Cert.algebraic_Kernel3Ideal_Reference3Ideal := by
  intro m ρ m' ρ' hpre hag
  refine ⟨fun (c : Dev nD) => along (queryApart (weights m c)) (inputs m c),
    fun (c : Dev nD) => along (queryEntry (weights m c)) (inputs m c),
    fun (c : Dev nD) => along (keyEntry (weights m c)) (inputs m c),
    fun (c : Dev nD) => along (keyEntry (weights m c)) (inputs m c),
    fun (c : Dev nD) => along (valueEntry (weights m c)) (inputs m c),
    fun (c : Dev nD) => across (valueEntry (weights m c)) (inputs m c),
    fun (c : Dev nD) => along (query2Apart (weights m c)) (inputs m c),
    fun (c : Dev nD) => along (query2Entry (weights m c)) (inputs m c),
    fun (c : Dev nD) => along (key2Entry (weights m c)) (inputs m c),
    fun (c : Dev nD) => across (key2Entry (weights m c)) (inputs m c),
    fun (c : Dev nD) => across (value2Entry (weights m c)) (inputs m c),
    fun (c : Dev nD) => across (value2Entry (weights m c)) (inputs m c), ?_, ?_⟩
  · exact (θ_run defs _ _).mono (fun r h c => ⟨(h c).1.trans (array6 m c),
      (h c).2.1.trans (array7 m c),
      (h c).2.2.1.trans (array8 m c),
      (h c).2.2.2.1.trans (array9 m c),
      (h c).2.2.2.2.1.trans (array10 m c),
      (h c).2.2.2.2.2.1.trans (array11 m c),
      (h c).2.2.2.2.2.2.1.trans (array12 m c),
      (h c).2.2.2.2.2.2.2.1.trans (array13 m c),
      (h c).2.2.2.2.2.2.2.2.1.trans (array14 m c),
      (h c).2.2.2.2.2.2.2.2.2.1.trans (array15 m c),
      (h c).2.2.2.2.2.2.2.2.2.2.1.trans (array16 m c),
      (h c).2.2.2.2.2.2.2.2.2.2.2.1.trans (array17 m c), (h c).2.2.2.2.2.2.2.2.2.2.2.2⟩)
      (Cert.Kernel3Ideal.Value.run_blocks (F := Ideal) m ρ)
  · refine (θ_run Cert.Reference3Ideal.defs _ _).mono (fun r h c => ?_) (ref_run m' ρ')
    obtain ⟨h0, h1⟩ := hag c
    have e0 : ref_inputs m' c = inputs m c := h0
    have e1 : ref_weights m' c = weights m c := h1
    have h := h c
    rw [e0, e1] at h
    exact h

end Prompt

end Cert.ProjProof

end
-- ==== Proof.SampleRef.lean ====
module

public import proofs.«01_k».proof.Defs
public import proofs.«01_k».proof.Proof.Gen.Reference4Ideal.Run
public import proofs.«01_k».proof.Proof.ProjRef

@[expose] public section

set_option maxRecDepth 16384

noncomputable section

namespace Cert.SampleProof

open Idealize.ShloMosaic Idealize.ShloMosaic.TcCoe Idealize.ShloMosaic.ValueKit Idealize.SL.Sem

section Ref
open Cert.ProjProof (freqs angle roped scale apart entry keyEntry queryEntry queryApart valueEntry query2Entry query2Apart key2Entry value2Entry)
open Cert.Reference4Ideal Cert.Reference4Ideal.Gen

/-- The angles of every position. -/
def angles : FVec Ideal S4x8 .f32 :=
  mulf (broadcastInDim S4x8 ![0, 1] bcast_S4x1_S4x8_0_1 (broadcastInDim S4x1 ![0] bcast_S4_S4x1_0 (sitofp .f32 (addi (broadcastInDim S4 ![] bcast_S_S4 (constantI S_ 32 8192#32)) (iotaInDim S4 32 0))))) (broadcastInDim S4x8 ![0, 1] bcast_S1x8_S4x8_0_1 (broadcastInDim S1x8 ![1] bcast_S8_S1x8_1 freqs))

theorem angles_apply (t : Fin 4) (k : Fin 8) : angles (ix2 t k) = angle (8192 + t.val) k := by
  unfold angles angle
  pointwise
  rw [show IntOp.addi (8192#32) (BitVec.ofNat 32 t.val) = BitVec.ofNat 32 (8192 + t.val) from (BitVec.ofNat_add 8192 t.val).symm]

def spread (A : FVec Ideal S4x8 .f32) : FVec Ideal S128x4x8x8 .f32 :=
  broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 A))

theorem spread_apply (A : FVec Ideal S4x8 .f32) (b : Fin 128) (t : Fin 4) (h : Fin 8) (k : Fin 8) : spread A (ix4 b t h k) = A (ix2 t k) := by
  unfold spread
  pointwise

def turned (X : FVec Ideal S128x4x8x64 .f32) : FVec Ideal S128x4x8x64 .f32 :=
  concatenate S128x4x8x64 3 [⟨S128x4x8x16, concatenate S128x4x8x16 3 [⟨S128x4x8x8, subf (mulf (extractStridedSlice S128x4x8x8 ![0, 0, 0, 0] X slices_S128x4x8x64_S128x4x8x8_0_0_0_0) (spread (Host.cos angles))) (mulf (extractStridedSlice S128x4x8x8 ![0, 0, 0, 8] X slices_S128x4x8x64_S128x4x8x8_0_0_0_8) (spread (Host.sin angles)))⟩,
    ⟨S128x4x8x8, addf (mulf (extractStridedSlice S128x4x8x8 ![0, 0, 0, 8] X slices_S128x4x8x64_S128x4x8x8_0_0_0_8) (spread (Host.cos angles))) (mulf (extractStridedSlice S128x4x8x8 ![0, 0, 0, 0] X slices_S128x4x8x64_S128x4x8x8_0_0_0_0) (spread (Host.sin angles)))⟩] concatenates_S128x4x8x8_S128x4x8x8_S128x4x8x16_d3⟩,
    ⟨S128x4x8x48, extractStridedSlice S128x4x8x48 ![0, 0, 0, 16] X slices_S128x4x8x64_S128x4x8x48_0_0_0_16⟩] concatenates_S128x4x8x16_S128x4x8x48_S128x4x8x64_d3

theorem turned_apply (Y : FVec Ideal S128x4x512 .f32) (b : Fin 1) (t : Fin 512) (l : Fin 512) :
    shapeCast S1x512x512 (turned (shapeCast S128x4x8x64 Y shapeCasts_S128x4x512_S128x4x8x64)) shapeCasts_S128x4x8x64_S1x512x512 (ix3 b t l)
      = roped (fun j => Y (ix3 ⟨t.val / 4, by omega⟩ ⟨t.val % 4, by omega⟩ j)) (angle (8192 + t.val % 4)) l := by
  unfold turned roped
  pointwise [spread_apply]
  simp only [angles_apply]
  have hl := l.isLt
  by_cases h8 : l.val % 64 < 8
  · refine ((dif_pos (by omega : l.val % 64 < 16)).trans (dif_pos h8)).trans (Eq.trans ?_ (dif_pos h8).symm)
    blk_point
  · by_cases h16 : l.val % 64 < 16
    · refine ((dif_pos h16).trans (dif_neg h8)).trans (Eq.trans ?_ ((dif_neg h8).trans (dif_pos h16)).symm)
      blk_point
    · refine (dif_neg h16).trans (Eq.trans ?_ ((dif_neg h8).trans (dif_neg h16)).symm)
      blk_ext

def product (x : FVec Ideal S128x4x1024 .f32) (w : FVec Ideal S1024x3072 .f32) : FVec Ideal S128x4x3072 .f32 :=
  Host.dotGeneral dot_S128x4x1024_S1024x3072_S128x4x3072_2_0_01_1_n_n none x w

theorem product_apply (x : FVec Ideal S128x4x1024 .f32) (w : FVec Ideal S1024x3072 .f32) (b : Fin 128) (t : Fin 4) (j : Fin 3072) :
    product x w (ix3 b t j) = ∑ k : Fin 1024, x (ix3 b t k) * w (ix2 k j) := by
  unfold product
  pointwise

/-- The scaled rows. -/
def scaled (X : FVec Ideal S128x4x8x64 .f32) : FVec Ideal S128x4x8x64 .f32 :=
  mulf X (broadcastInDim S128x4x8x64 ![] bcast_S_S128x4x8x64 (constant S_ .f32 0x3E000000#32))

theorem scaled_apply (X : FVec Ideal S128x4x8x64 .f32) (b : Fin 1) (t : Fin 512) (l : Fin 512) :
    shapeCast S1x512x512 (scaled X) shapeCasts_S128x4x8x64_S1x512x512 (ix3 b t l) = shapeCast S1x512x512 X shapeCasts_S128x4x8x64_S1x512x512 (ix3 b t l) * scale := by
  unfold scaled scale
  pointwise

theorem cast_cast_apply (Y : FVec Ideal S128x4x512 .f32) (b : Fin 1) (t : Fin 512) (l : Fin 512) :
    shapeCast S1x512x512 (shapeCast S128x4x8x64 Y shapeCasts_S128x4x512_S128x4x8x64) shapeCasts_S128x4x8x64_S1x512x512 (ix3 b t l) = Y (ix3 ⟨t.val / 4, by omega⟩ ⟨t.val % 4, by omega⟩ l) := by
  pointwise
  blk_ext

/-- The two query heads of every pair set apart. -/
def setApart (X : FVec Ideal S128x4x8x64 .f32) : FVec Ideal S128x4x4x256 .f32 :=
  concatenate S128x4x4x256 3
    [⟨S128x4x4x64, shapeCast S128x4x4x64 (extractStridedSlice S128x4x4x1x64 ![0, 0, 0, 0, 0] (shapeCast S128x4x4x2x64 X shapeCasts_S128x4x8x64_S128x4x4x2x64) slices_S128x4x4x2x64_S128x4x4x1x64_0_0_0_0_0) shapeCasts_S128x4x4x1x64_S128x4x4x64⟩,
     ⟨S128x4x4x64, broadcastInDim S128x4x4x64 ![] bcast_S_S128x4x4x64 (constant S_ .f32 0x00000000#32)⟩,
     ⟨S128x4x4x64, broadcastInDim S128x4x4x64 ![] bcast_S_S128x4x4x64 (constant S_ .f32 0x00000000#32)⟩,
     ⟨S128x4x4x64, shapeCast S128x4x4x64 (extractStridedSlice S128x4x4x1x64 ![0, 0, 0, 1, 0] (shapeCast S128x4x4x2x64 X shapeCasts_S128x4x8x64_S128x4x4x2x64) slices_S128x4x4x2x64_S128x4x4x1x64_0_0_0_1_0) shapeCasts_S128x4x4x1x64_S128x4x4x64⟩]
    concatenates_S128x4x4x64_S128x4x4x64_S128x4x4x64_S128x4x4x64_S128x4x4x256_d3

theorem setApart_apply (X : FVec Ideal S128x4x8x64 .f32) (b : Fin 1) (t : Fin 512) (l : Fin 1024) :
    shapeCast S1x512x1024 (setApart X) shapeCasts_S128x4x4x256_S1x512x1024 (ix3 b t l) = apart (fun j => shapeCast S1x512x512 X shapeCasts_S128x4x8x64_S1x512x512 (ix3 b t j)) l := by
  unfold setApart apart
  pointwise
  have hl := l.isLt
  by_cases g0 : l.val % 256 < 64
  · refine (dif_pos g0).trans (Eq.trans ?_ (if_pos (by omega)).symm)
    blk_ext
  · by_cases g1 : l.val % 256 - 64 < 64
    · exact ((dif_neg g0).trans (dif_pos g1)).trans (if_neg (by omega)).symm
    · by_cases g2 : l.val % 256 - 64 - 64 < 64
      · exact ((dif_neg g0).trans ((dif_neg g1).trans (dif_pos g2))).trans (if_neg (by omega)).symm
      · refine ((dif_neg g0).trans ((dif_neg g1).trans (dif_neg g2))).trans (Eq.trans ?_ (if_pos (by omega)).symm)
        blk_ext

/-- The sequence and the place in it of a row. -/
abbrev seqOf (r : Fin 512) : Fin 128 := ⟨r.val / 4, by omega⟩
abbrev placeOf (r : Fin 512) : Fin 4 := ⟨r.val % 4, by omega⟩

/-- A result laid out by rows, and one laid out by lanes; the rows of all sequences stand in one block, behind the past. -/
def along {n : ℕ} (f : (Fin 1024 → EReal) → ℕ → Fin n → EReal) (x : S128x4x1024.Idx → EReal) : (⟨3, ![1, 512, n]⟩ : Shape).Idx → EReal :=
  fun i => f (fun k => x (ix3 (seqOf (i 1)) (placeOf (i 1)) k)) (8192 + (i 1).val % 4) (i 2)
def across (f : (Fin 1024 → EReal) → ℕ → Fin 512 → EReal) (x : S128x4x1024.Idx → EReal) : S1x512x512.Idx → EReal :=
  fun i => f (fun k => x (ix3 (seqOf (i 2)) (placeOf (i 2)) k)) (8192 + (i 2).val % 4) (i 1)

section Results
variable (x : FVec Ideal S128x4x1024 .f32) (w : FVec Ideal S1024x3072 .f32)

theorem segment_apply (o : ℕ) (ho : o ≤ 2560) (h : S128x4x3072.Slices ![0, 0, o] S128x4x512) (b : Fin 128) (t : Fin 4) (l : Fin 512) :
    (extractStridedSlice S128x4x512 ![0, 0, o] (product x w) h : FVec Ideal S128x4x512 .f32) (ix3 b t l) = entry (fun k => x (ix3 b t k)) w o ho l := by
  unfold entry
  refine (extractStridedSlice_apply ![0, 0, o] _ h _ (ix3 b t ⟨o + l.val, by omega⟩) (by intro a; fin_cases a <;> simp [ix3])).trans (product_apply x w b t _)

def segment (o : ℕ) (h : S128x4x3072.Slices ![0, 0, o] S128x4x512) : FVec Ideal S128x4x512 .f32 := extractStridedSlice S128x4x512 ![0, 0, o] (product x w) h

def heads (o : ℕ) (h : S128x4x3072.Slices ![0, 0, o] S128x4x512) : FVec Ideal S128x4x8x64 .f32 := shapeCast S128x4x8x64 (segment x w o h) shapeCasts_S128x4x512_S128x4x8x64

theorem keys_ref : (shapeCast S1x512x512 (turned (heads x w 512 slices_S128x4x3072_S128x4x512_0_0_512)) shapeCasts_S128x4x8x64_S1x512x512 : FVec Ideal S1x512x512 .f32) = along (keyEntry w) x := by
  funext i
  idx_vars i
  refine (turned_apply _ _ _ _).trans ?_
  exact congrArg (fun Z => roped Z (angle (8192 + i1.val % 4)) i2) (funext fun j => segment_apply x w 512 (by omega) _ _ _ _)

theorem queries_ref : (shapeCast S1x512x512 (scaled (turned (heads x w 0 slices_S128x4x3072_S128x4x512_0_0_0))) shapeCasts_S128x4x8x64_S1x512x512 : FVec Ideal S1x512x512 .f32) = along (queryEntry w) x := by
  funext i
  idx_vars i
  refine (scaled_apply _ _ _ _).trans (congrArg (· * scale) ((turned_apply _ _ _ _).trans ?_))
  exact congrArg (fun Z => roped Z (angle (8192 + i1.val % 4)) i2) (funext fun j => segment_apply x w 0 (by omega) _ _ _ _)

theorem queries2_ref : (shapeCast S1x512x512 (scaled (heads x w 1536 slices_S128x4x3072_S128x4x512_0_0_1536)) shapeCasts_S128x4x8x64_S1x512x512 : FVec Ideal S1x512x512 .f32) = along (query2Entry w) x := by
  funext i
  idx_vars i
  exact (scaled_apply _ _ _ _).trans (congrArg (· * scale) ((cast_cast_apply _ _ _ _).trans (segment_apply x w 1536 (by omega) _ _ _ _)))

theorem queriesApart_ref : (shapeCast S1x512x1024 (setApart (scaled (turned (heads x w 0 slices_S128x4x3072_S128x4x512_0_0_0)))) shapeCasts_S128x4x4x256_S1x512x1024 : FVec Ideal S1x512x1024 .f32) = along (queryApart w) x := by
  funext i
  idx_vars i
  refine (setApart_apply _ _ _ _).trans ?_
  exact congrArg (fun Z => apart Z i2) (funext fun j => congrFun (queries_ref x w) (ix3 i0 i1 j))

theorem queries2Apart_ref : (shapeCast S1x512x1024 (setApart (scaled (heads x w 1536 slices_S128x4x3072_S128x4x512_0_0_1536))) shapeCasts_S128x4x4x256_S1x512x1024 : FVec Ideal S1x512x1024 .f32) = along (query2Apart w) x := by
  funext i
  idx_vars i
  refine (setApart_apply _ _ _ _).trans ?_
  exact congrArg (fun Z => apart Z i2) (funext fun j => congrFun (queries2_ref x w) (ix3 i0 i1 j))

theorem along_ref (o : ℕ) (ho : o ≤ 2560) (h : S128x4x3072.Slices ![0, 0, o] S128x4x512) :
    (shapeCast S1x512x512 (segment x w o h) shapeCasts_S128x4x512_S1x512x512 : FVec Ideal S1x512x512 .f32) = along (fun X _ l => entry X w o ho l) x := by
  funext i
  idx_vars i
  pointwise
  exact segment_apply x w o ho h _ _ _

theorem across_ref (o : ℕ) (ho : o ≤ 2560) (h : S128x4x3072.Slices ![0, 0, o] S128x4x512) :
    (transpose S1x512x512 [0, 2, 1] (shapeCast S1x512x512 (segment x w o h) shapeCasts_S128x4x512_S1x512x512) transposes_S1x512x512_S1x512x512_0_2_1 : FVec Ideal S1x512x512 .f32) = across (fun X _ l => entry X w o ho l) x := by
  funext i
  idx_vars i
  pointwise
  exact segment_apply x w o ho h _ _ _

end Results

end Ref

end Cert.SampleProof

end
-- ==== Proof.SampleHost.lean ====
module

public import proofs.«01_k».proof.Defs
public import proofs.«01_k».proof.Proof.Gen.Kernel4Ideal.Value
public import proofs.«01_k».proof.Proof.ProjHost
public import proofs.«01_k».proof.Proof.SampleRef

@[expose] public section

set_option maxRecDepth 16384

noncomputable section

namespace Cert.SampleProof

open Idealize.ShloMosaic Idealize.ShloMosaic.TcCoe Idealize.ShloMosaic.ValueKit Idealize.SL.Sem
open Cert.ProjProof (freqs angle roped scale apart entry keyEntry queryEntry queryApart valueEntry query2Entry query2Apart key2Entry value2Entry cosLane aheadLane backLane mixed row col plainW acrossW acrossCol plainW_apply acrossW_apply)
open Cert.Kernel4Ideal Cert.Kernel4Ideal.Gen

variable (m : (ℓ : Loc nD τ sig) → Buf (Elt Ideal) ℓ) (c : Dev nD)

/-- The angles of every row of the prompt. -/
def rowAngles : FVec Ideal S512x8 .f32 :=
  mulf (broadcastInDim S512x8 ![0, 1] bcast_S512x1_S512x8_0_1 (broadcastInDim S512x1 ![0] bcast_S512_S512x1_0
      (sitofp .f32 (shapeCast S512 (broadcastInDim S128x4 ![0, 1] bcast_S1x4_S128x4_0_1 (shapeCast S1x4 (addi (broadcastInDim S4 ![] bcast_S_S4 (constantI S_ 32 8192#32)) (iotaInDim S4 32 0)) shapeCasts_S4_S1x4)) shapeCasts_S128x4_S512))))
    (broadcastInDim S512x8 ![0, 1] bcast_S1x8_S512x8_0_1 (broadcastInDim S1x8 ![1] bcast_S8_S1x8_1 freqs))

/-- A table of sixty-four lanes laid out twice along a row of lanes. -/
def twice (T : FVec Ideal S512x64 .f32) : FVec Ideal S512x128 .f32 :=
  shapeCast S512x128 (broadcastInDim S1x512x2x64 ![0, 1, 2, 3] bcast_S1x512x1x64_S1x512x2x64_0_1_2_3 (shapeCast S1x512x1x64 T shapeCasts_S512x64_S1x512x1x64)) shapeCasts_S1x512x2x64_S512x128

def tableC : FVec Ideal S512x128 .f32 :=
  twice (concatenate S512x64 1 [⟨S512x8, Host.cos rowAngles⟩, ⟨S512x8, Host.cos rowAngles⟩, ⟨S512x48, broadcastInDim S512x48 ![] bcast_S_S512x48 (constant S_ .f32 0x3F800000#32)⟩] concatenates_S512x8_S512x8_S512x48_S512x64_d1)

def tableA : FVec Ideal S512x128 .f32 :=
  twice (concatenate S512x64 1 [⟨S512x8, Host.negf (Host.sin rowAngles)⟩, ⟨S512x56, broadcastInDim S512x56 ![] bcast_S_S512x56 (constant S_ .f32 0x00000000#32)⟩] concatenates_S512x8_S512x56_S512x64_d1)

def tableB : FVec Ideal S512x128 .f32 :=
  twice (concatenate S512x64 1 [⟨S512x8, broadcastInDim S512x8 ![] bcast_S_S512x8 (constant S_ .f32 0x00000000#32)⟩, ⟨S512x8, Host.sin rowAngles⟩, ⟨S512x48, broadcastInDim S512x48 ![] bcast_S_S512x48 (constant S_ .f32 0x00000000#32)⟩] concatenates_S512x8_S512x8_S512x48_S512x64_d1)

theorem tableC_apply (p : Fin 512) (l : Fin 128) : tableC (ix2 p l) = cosLane (angle (8192 + p.val % 4)) l := by
  unfold tableC twice
  pointwise
  unfold rowAngles cosLane angle
  pointwise
  rw [show IntOp.addi (8192#32) (BitVec.ofNat 32 (p.val % 4)) = BitVec.ofNat 32 (8192 + p.val % 4) from (BitVec.ofNat_add 8192 (p.val % 4)).symm]

theorem tableA_apply (p : Fin 512) (l : Fin 128) : tableA (ix2 p l) = aheadLane (angle (8192 + p.val % 4)) l := by
  unfold tableA twice
  pointwise
  unfold rowAngles aheadLane angle
  pointwise
  rw [show IntOp.addi (8192#32) (BitVec.ofNat 32 (p.val % 4)) = BitVec.ofNat 32 (8192 + p.val % 4) from (BitVec.ofNat_add 8192 (p.val % 4)).symm]

theorem tableB_apply (p : Fin 512) (l : Fin 128) : tableB (ix2 p l) = backLane (angle (8192 + p.val % 4)) l := by
  unfold tableB twice
  pointwise
  unfold rowAngles backLane angle
  pointwise
  rw [show IntOp.addi (8192#32) (BitVec.ofNat 32 (p.val % 4)) = BitVec.ofNat 32 (8192 + p.val % 4) from (BitVec.ofNat_add 8192 (p.val % 4)).symm]

theorem table_c : (V m c main_v42 : FVec Ideal S512x128 .f32) = tableC := rfl

theorem table_a : (V m c main_v45 : FVec Ideal S512x128 .f32) = tableA := rfl

theorem table_b : (V m c main_v48 : FVec Ideal S512x128 .f32) = tableB := rfl

theorem plainW_eq : (V m c main_v8 : FVec Ideal S1024x2560 .bf16) = plainW (m ((c : Thread nD τ).loc main_arg1)) := rfl

theorem acrossW_eq : (V m c main_v13 : FVec Ideal S1536x1024 .bf16) = acrossW (m ((c : Thread nD τ).loc main_arg1)) := rfl

/-- There is one point, and every window stands at its start. -/
theorem idx : ∀ t : Fin grid0.N, win0_0.index t = ![0, 0, 0] ∧ win0_1.index t = ![0, 0] ∧ win0_2.index t = ![0, 0] ∧ win0_3.index t = ![0, 0] ∧ win0_4.index t = ![0, 0] ∧ win0_5.index t = ![0, 0] := by decide +kernel

theorem outs : ∀ t : Fin grid0.N, win0_6.index t = ![0, 0, 0] ∧ win0_7.index t = ![0, 0, 0] ∧ win0_8.index t = ![0, 0, 0] ∧ win0_9.index t = ![0, 0, 0]
    ∧ win0_10.index t = ![0, 0, 0] ∧ win0_11.index t = ![0, 0, 0] ∧ win0_12.index t = ![0, 0, 0] ∧ win0_13.index t = ![0, 0, 0]
    ∧ win0_14.index t = ![0, 0, 0] ∧ win0_15.index t = ![0, 0, 0] ∧ win0_16.index t = ![0, 0, 0] ∧ win0_17.index t = ![0, 0, 0] := by decide +kernel

theorem blk_c (t : Fin grid0.N) (r : Fin 512) (j : Fin 128) : iblk m c 3 t (ix2 r j) = cosLane (angle (8192 + r.val % 4)) j := by
  refine Eq.trans (b := tableC (ix2 r j)) ?_ ?_
  · rw [← table_c m c]
    blk_ext [iblk, (idx t).2.2.2.1]
  · rw [tableC_apply]

theorem blk_a (t : Fin grid0.N) (r : Fin 512) (j : Fin 128) : iblk m c 4 t (ix2 r j) = aheadLane (angle (8192 + r.val % 4)) j := by
  refine Eq.trans (b := tableA (ix2 r j)) ?_ ?_
  · rw [← table_a m c]
    blk_ext [iblk, (idx t).2.2.2.2.1]
  · rw [tableA_apply]

theorem blk_b (t : Fin grid0.N) (r : Fin 512) (j : Fin 128) : iblk m c 5 t (ix2 r j) = backLane (angle (8192 + r.val % 4)) j := by
  refine Eq.trans (b := tableB (ix2 r j)) ?_ ?_
  · rw [← table_b m c]
    blk_ext [iblk, (idx t).2.2.2.2.2]
  · rw [tableB_apply]

/-- The row of the samples that stands in row `r` of the block. -/
def rowOf (r : Fin 512) (k : Fin 1024) : EReal :=
  (m ((c : Thread nD τ).loc main_arg0) : FVec Ideal S128x4x1024 .f32) (ix3 (seqOf r) (placeOf r) k)

/-- All rows in one block. -/
def rows (x : FVec Ideal S128x4x1024 .f32) : FVec Ideal S1x512x1024 .f32 := shapeCast S1x512x1024 x shapeCasts_S128x4x1024_S1x512x1024

theorem rows_eq : (V m c main_v0 : FVec Ideal S1x512x1024 .f32) = rows (m ((c : Thread nD τ).loc main_arg0)) := rfl

theorem rows_apply (r : Fin 512) (k : Fin 1024) : rows (m ((c : Thread nD τ).loc main_arg0)) (ix3 0 r k) = rowOf m c r k := by
  unfold rows rowOf
  pointwise

theorem row_eq (t : Fin grid0.N) (r : Fin 512) (o : ℕ) (ho : o ≤ 2048) :
    row (iblk m c 0 t) (iblk m c 1 t) r o ho = entry (rowOf m c r) (m ((c : Thread nD τ).loc main_arg1)) o (by omega) := by
  funext j
  unfold row entry
  refine Finset.sum_congr rfl fun k _ => ?_
  congr 1
  · rw [← rows_apply m c, ← rows_eq m c]
    blk_ext [iblk, (idx t).1]
  · refine Eq.trans (b := plainW (m ((c : Thread nD τ).loc main_arg1)) (ix2 k ⟨o + j.val, by omega⟩)) ?_ (plainW_apply _ _ _)
    rw [← plainW_eq m c]
    blk_ext [iblk, (idx t).2.1]

theorem col_eq (t : Fin grid0.N) (r : Fin 512) (o : ℕ) (ho : o ≤ 1024) (o' : ℕ) (ho' : o' ≤ 2560) (h : o' = if o < 512 then 1024 + o else 1536 + o) (ha : o < 512 → o = 0) :
    col (iblk m c 0 t) (iblk m c 2 t) r o ho = entry (rowOf m c r) (m ((c : Thread nD τ).loc main_arg1)) o' ho' := by
  funext j
  unfold col entry
  refine Finset.sum_congr rfl fun k _ => ?_
  rw [mul_comm]
  congr 1
  · rw [← rows_apply m c, ← rows_eq m c]
    blk_ext [iblk, (idx t).1]
  · refine Eq.trans (b := acrossW (m ((c : Thread nD τ).loc main_arg1)) (ix2 ⟨o + j.val, by omega⟩ k)) ?_ ((acrossW_apply _ _ _).trans ?_)
    · rw [← acrossW_eq m c]
      blk_ext [iblk, (idx t).2.2.1]
    · refine congrArg (fun q => (m ((c : Thread nD τ).loc main_arg1) : FVec Ideal S1024x3072 .f32) (ix2 k q)) (Fin.ext ?_)
      have hj := j.isLt
      unfold acrossCol
      dsimp only
      split_ifs at h ⊢ <;> omega

end Cert.SampleProof

end
-- ==== Proof.SampleArrays.lean ====
module

public import proofs.«01_k».proof.Defs
public import proofs.«01_k».proof.Proof.ProjPrompt
public import proofs.«01_k».proof.Proof.SampleHost

@[expose] public section

set_option maxRecDepth 16384

noncomputable section

namespace Cert.SampleProof

open Idealize.ShloMosaic Idealize.ShloMosaic.TcCoe Idealize.ShloMosaic.ValueKit Idealize.SL.Sem
open Cert.ProjProof (angle roped scale apart entry keyEntry queryEntry queryApart valueEntry query2Entry query2Apart key2Entry value2Entry mixed row col mixed_roped elt_congr)

section Sample
open Cert.Kernel4Ideal Cert.Kernel4Ideal.Gen

variable (m : (ℓ : Loc nD τ sig) → Buf (Elt Ideal) ℓ) (c : Dev nD)

theorem turned_point (t : Fin grid0.N) (r : Fin 512) (o : ℕ) (ho : o ≤ 2048) (l : Fin 512) :
    mixed (row (iblk m c 0 t) (iblk m c 1 t) r o ho) (fun j => iblk m c 3 t (ix2 r j)) (fun j => iblk m c 4 t (ix2 r j)) (fun j => iblk m c 5 t (ix2 r j)) l
      = roped (entry (rowOf m c r) (m ((c : Thread nD τ).loc main_arg1)) o (by omega)) (angle (8192 + r.val % 4)) l :=
  mixed_roped l (row_eq m c t r o ho) (blk_c m c t r) (blk_a m c t r) (blk_b m c t r)

theorem point6 (t : Fin grid0.N) (y : S1x512x1024.Idx) : out0_6 (iblk m c 0 t) (iblk m c 1 t) (iblk m c 2 t) (iblk m c 3 t) (iblk m c 4 t) (iblk m c 5 t) y
    = queryApart (m ((c : Thread nD τ).loc main_arg1)) (rowOf m c (y 1)) (8192 + (y 1).val % 4) (y 2) :=
  (Cert.ProjProof.out6 (iblk m c 0 t) (iblk m c 1 t) (iblk m c 2 t) (iblk m c 3 t) (iblk m c 4 t) (iblk m c 5 t) y).trans (congrArg (fun Z => apart Z (y 2)) (funext fun j => congrArg (· * scale) (turned_point m c t (y 1) 0 (by omega) j)))

theorem array6 : (dats m 0 c).arrAt 6 cfg0.N = along (queryApart (m ((c : Thread nD τ).loc main_arg1))) (m ((c : Thread nD τ).loc main_arg0)) := by
  refine (dats m 0 c).arrAt_eq_of_covers 6 _ (by decide +kernel) fun t hf y => ?_
  blk_simp
  rw [after0_6]
  refine (point6 m c t y).trans (elt_congr _ (fun k => ?_) ?_ ?_)
  · exact congrArg (fun r : Fin 512 => rowOf m c r k) (Fin.ext (by blk_simp [(outs t).1]))
  · exact congrArg (fun n => 8192 + n % 4) (by blk_simp [(outs t).1])
  · blk_simp [(outs t).1]

theorem point7 (t : Fin grid0.N) (y : S1x512x512.Idx) : out0_7 (iblk m c 0 t) (iblk m c 1 t) (iblk m c 2 t) (iblk m c 3 t) (iblk m c 4 t) (iblk m c 5 t) y
    = queryEntry (m ((c : Thread nD τ).loc main_arg1)) (rowOf m c (y 1)) (8192 + (y 1).val % 4) (y 2) :=
  (Cert.ProjProof.out7 (iblk m c 0 t) (iblk m c 1 t) (iblk m c 2 t) (iblk m c 3 t) (iblk m c 4 t) (iblk m c 5 t) y).trans (congrArg (· * scale) (turned_point m c t (y 1) 0 (by omega) (y 2)))

theorem array7 : (dats m 0 c).arrAt 7 cfg0.N = along (queryEntry (m ((c : Thread nD τ).loc main_arg1))) (m ((c : Thread nD τ).loc main_arg0)) := by
  refine (dats m 0 c).arrAt_eq_of_covers 7 _ (by decide +kernel) fun t hf y => ?_
  blk_simp
  rw [after0_7]
  refine (point7 m c t y).trans (elt_congr _ (fun k => ?_) ?_ ?_)
  · exact congrArg (fun r : Fin 512 => rowOf m c r k) (Fin.ext (by blk_simp [(outs t).2.1]))
  · exact congrArg (fun n => 8192 + n % 4) (by blk_simp [(outs t).2.1])
  · blk_simp [(outs t).2.1]

theorem point8 (t : Fin grid0.N) (y : S1x512x512.Idx) : out0_8 (iblk m c 0 t) (iblk m c 1 t) (iblk m c 2 t) (iblk m c 3 t) (iblk m c 4 t) (iblk m c 5 t) y
    = keyEntry (m ((c : Thread nD τ).loc main_arg1)) (rowOf m c (y 1)) (8192 + (y 1).val % 4) (y 2) :=
  (Cert.ProjProof.out8 (iblk m c 0 t) (iblk m c 1 t) (iblk m c 2 t) (iblk m c 3 t) (iblk m c 4 t) (iblk m c 5 t) y).trans (turned_point m c t (y 1) 512 (by omega) (y 2))

theorem array8 : (dats m 0 c).arrAt 8 cfg0.N = along (keyEntry (m ((c : Thread nD τ).loc main_arg1))) (m ((c : Thread nD τ).loc main_arg0)) := by
  refine (dats m 0 c).arrAt_eq_of_covers 8 _ (by decide +kernel) fun t hf y => ?_
  blk_simp
  rw [after0_8]
  refine (point8 m c t y).trans (elt_congr _ (fun k => ?_) ?_ ?_)
  · exact congrArg (fun r : Fin 512 => rowOf m c r k) (Fin.ext (by blk_simp [(outs t).2.2.1]))
  · exact congrArg (fun n => 8192 + n % 4) (by blk_simp [(outs t).2.2.1])
  · blk_simp [(outs t).2.2.1]

theorem point9 (t : Fin grid0.N) (y : S1x512x512.Idx) : out0_9 (iblk m c 0 t) (iblk m c 1 t) (iblk m c 2 t) (iblk m c 3 t) (iblk m c 4 t) (iblk m c 5 t) y
    = keyEntry (m ((c : Thread nD τ).loc main_arg1)) (rowOf m c (y 1)) (8192 + (y 1).val % 4) (y 2) :=
  (Cert.ProjProof.out9 (iblk m c 0 t) (iblk m c 1 t) (iblk m c 2 t) (iblk m c 3 t) (iblk m c 4 t) (iblk m c 5 t) y).trans (turned_point m c t (y 1) 512 (by omega) (y 2))

theorem array9 : (dats m 0 c).arrAt 9 cfg0.N = along (keyEntry (m ((c : Thread nD τ).loc main_arg1))) (m ((c : Thread nD τ).loc main_arg0)) := by
  refine (dats m 0 c).arrAt_eq_of_covers 9 _ (by decide +kernel) fun t hf y => ?_
  blk_simp
  rw [after0_9]
  refine (point9 m c t y).trans (elt_congr _ (fun k => ?_) ?_ ?_)
  · exact congrArg (fun r : Fin 512 => rowOf m c r k) (Fin.ext (by blk_simp [(outs t).2.2.2.1]))
  · exact congrArg (fun n => 8192 + n % 4) (by blk_simp [(outs t).2.2.2.1])
  · blk_simp [(outs t).2.2.2.1]

theorem point10 (t : Fin grid0.N) (y : S1x512x512.Idx) : out0_10 (iblk m c 0 t) (iblk m c 1 t) (iblk m c 2 t) (iblk m c 3 t) (iblk m c 4 t) (iblk m c 5 t) y
    = valueEntry (m ((c : Thread nD τ).loc main_arg1)) (rowOf m c (y 1)) (8192 + (y 1).val % 4) (y 2) :=
  (Cert.ProjProof.out10 (iblk m c 0 t) (iblk m c 1 t) (iblk m c 2 t) (iblk m c 3 t) (iblk m c 4 t) (iblk m c 5 t) y).trans (congrFun (row_eq m c t (y 1) 1024 (by omega)) (y 2))

theorem array10 : (dats m 0 c).arrAt 10 cfg0.N = along (valueEntry (m ((c : Thread nD τ).loc main_arg1))) (m ((c : Thread nD τ).loc main_arg0)) := by
  refine (dats m 0 c).arrAt_eq_of_covers 10 _ (by decide +kernel) fun t hf y => ?_
  blk_simp
  rw [after0_10]
  refine (point10 m c t y).trans (elt_congr _ (fun k => ?_) ?_ ?_)
  · exact congrArg (fun r : Fin 512 => rowOf m c r k) (Fin.ext (by blk_simp [(outs t).2.2.2.2.1]))
  · exact congrArg (fun n => 8192 + n % 4) (by blk_simp [(outs t).2.2.2.2.1])
  · blk_simp [(outs t).2.2.2.2.1]

theorem point11 (t : Fin grid0.N) (y : S1x512x512.Idx) : out0_11 (iblk m c 0 t) (iblk m c 1 t) (iblk m c 2 t) (iblk m c 3 t) (iblk m c 4 t) (iblk m c 5 t) y
    = valueEntry (m ((c : Thread nD τ).loc main_arg1)) (rowOf m c (y 2)) (8192 + (y 2).val % 4) (y 1) :=
  (Cert.ProjProof.out11 (iblk m c 0 t) (iblk m c 1 t) (iblk m c 2 t) (iblk m c 3 t) (iblk m c 4 t) (iblk m c 5 t) y).trans (congrFun (col_eq m c t (y 2) 0 (by omega) 1024 (by omega) (by simp) (by omega)) (y 1))

theorem array11 : (dats m 0 c).arrAt 11 cfg0.N = across (valueEntry (m ((c : Thread nD τ).loc main_arg1))) (m ((c : Thread nD τ).loc main_arg0)) := by
  refine (dats m 0 c).arrAt_eq_of_covers 11 _ (by decide +kernel) fun t hf y => ?_
  blk_simp
  rw [after0_11]
  refine (point11 m c t y).trans (elt_congr _ (fun k => ?_) ?_ ?_)
  · exact congrArg (fun r : Fin 512 => rowOf m c r k) (Fin.ext (by blk_simp [(outs t).2.2.2.2.2.1]))
  · exact congrArg (fun n => 8192 + n % 4) (by blk_simp [(outs t).2.2.2.2.2.1])
  · blk_simp [(outs t).2.2.2.2.2.1]

theorem point12 (t : Fin grid0.N) (y : S1x512x1024.Idx) : out0_12 (iblk m c 0 t) (iblk m c 1 t) (iblk m c 2 t) (iblk m c 3 t) (iblk m c 4 t) (iblk m c 5 t) y
    = query2Apart (m ((c : Thread nD τ).loc main_arg1)) (rowOf m c (y 1)) (8192 + (y 1).val % 4) (y 2) :=
  (Cert.ProjProof.out12 (iblk m c 0 t) (iblk m c 1 t) (iblk m c 2 t) (iblk m c 3 t) (iblk m c 4 t) (iblk m c 5 t) y).trans (congrArg (fun Z => apart Z (y 2)) (funext fun j => congrArg (· * scale) (congrFun (row_eq m c t (y 1) 1536 (by omega)) j)))

theorem array12 : (dats m 0 c).arrAt 12 cfg0.N = along (query2Apart (m ((c : Thread nD τ).loc main_arg1))) (m ((c : Thread nD τ).loc main_arg0)) := by
  refine (dats m 0 c).arrAt_eq_of_covers 12 _ (by decide +kernel) fun t hf y => ?_
  blk_simp
  rw [after0_12]
  refine (point12 m c t y).trans (elt_congr _ (fun k => ?_) ?_ ?_)
  · exact congrArg (fun r : Fin 512 => rowOf m c r k) (Fin.ext (by blk_simp [(outs t).2.2.2.2.2.2.1]))
  · exact congrArg (fun n => 8192 + n % 4) (by blk_simp [(outs t).2.2.2.2.2.2.1])
  · blk_simp [(outs t).2.2.2.2.2.2.1]

theorem point13 (t : Fin grid0.N) (y : S1x512x512.Idx) : out0_13 (iblk m c 0 t) (iblk m c 1 t) (iblk m c 2 t) (iblk m c 3 t) (iblk m c 4 t) (iblk m c 5 t) y
    = query2Entry (m ((c : Thread nD τ).loc main_arg1)) (rowOf m c (y 1)) (8192 + (y 1).val % 4) (y 2) :=
  (Cert.ProjProof.out13 (iblk m c 0 t) (iblk m c 1 t) (iblk m c 2 t) (iblk m c 3 t) (iblk m c 4 t) (iblk m c 5 t) y).trans (congrArg (· * scale) (congrFun (row_eq m c t (y 1) 1536 (by omega)) (y 2)))

theorem array13 : (dats m 0 c).arrAt 13 cfg0.N = along (query2Entry (m ((c : Thread nD τ).loc main_arg1))) (m ((c : Thread nD τ).loc main_arg0)) := by
  refine (dats m 0 c).arrAt_eq_of_covers 13 _ (by decide +kernel) fun t hf y => ?_
  blk_simp
  rw [after0_13]
  refine (point13 m c t y).trans (elt_congr _ (fun k => ?_) ?_ ?_)
  · exact congrArg (fun r : Fin 512 => rowOf m c r k) (Fin.ext (by blk_simp [(outs t).2.2.2.2.2.2.2.1]))
  · exact congrArg (fun n => 8192 + n % 4) (by blk_simp [(outs t).2.2.2.2.2.2.2.1])
  · blk_simp [(outs t).2.2.2.2.2.2.2.1]

theorem point14 (t : Fin grid0.N) (y : S1x512x512.Idx) : out0_14 (iblk m c 0 t) (iblk m c 1 t) (iblk m c 2 t) (iblk m c 3 t) (iblk m c 4 t) (iblk m c 5 t) y
    = key2Entry (m ((c : Thread nD τ).loc main_arg1)) (rowOf m c (y 1)) (8192 + (y 1).val % 4) (y 2) :=
  (Cert.ProjProof.out14 (iblk m c 0 t) (iblk m c 1 t) (iblk m c 2 t) (iblk m c 3 t) (iblk m c 4 t) (iblk m c 5 t) y).trans (congrFun (row_eq m c t (y 1) 2048 (by omega)) (y 2))

theorem array14 : (dats m 0 c).arrAt 14 cfg0.N = along (key2Entry (m ((c : Thread nD τ).loc main_arg1))) (m ((c : Thread nD τ).loc main_arg0)) := by
  refine (dats m 0 c).arrAt_eq_of_covers 14 _ (by decide +kernel) fun t hf y => ?_
  blk_simp
  rw [after0_14]
  refine (point14 m c t y).trans (elt_congr _ (fun k => ?_) ?_ ?_)
  · exact congrArg (fun r : Fin 512 => rowOf m c r k) (Fin.ext (by blk_simp [(outs t).2.2.2.2.2.2.2.2.1]))
  · exact congrArg (fun n => 8192 + n % 4) (by blk_simp [(outs t).2.2.2.2.2.2.2.2.1])
  · blk_simp [(outs t).2.2.2.2.2.2.2.2.1]

theorem point15 (t : Fin grid0.N) (y : S1x512x512.Idx) : out0_15 (iblk m c 0 t) (iblk m c 1 t) (iblk m c 2 t) (iblk m c 3 t) (iblk m c 4 t) (iblk m c 5 t) y
    = key2Entry (m ((c : Thread nD τ).loc main_arg1)) (rowOf m c (y 2)) (8192 + (y 2).val % 4) (y 1) :=
  (Cert.ProjProof.out15 (iblk m c 0 t) (iblk m c 1 t) (iblk m c 2 t) (iblk m c 3 t) (iblk m c 4 t) (iblk m c 5 t) y).trans (congrFun (col_eq m c t (y 2) 512 (by omega) 2048 (by omega) (by simp) (by omega)) (y 1))

theorem array15 : (dats m 0 c).arrAt 15 cfg0.N = across (key2Entry (m ((c : Thread nD τ).loc main_arg1))) (m ((c : Thread nD τ).loc main_arg0)) := by
  refine (dats m 0 c).arrAt_eq_of_covers 15 _ (by decide +kernel) fun t hf y => ?_
  blk_simp
  rw [after0_15]
  refine (point15 m c t y).trans (elt_congr _ (fun k => ?_) ?_ ?_)
  · exact congrArg (fun r : Fin 512 => rowOf m c r k) (Fin.ext (by blk_simp [(outs t).2.2.2.2.2.2.2.2.2.1]))
  · exact congrArg (fun n => 8192 + n % 4) (by blk_simp [(outs t).2.2.2.2.2.2.2.2.2.1])
  · blk_simp [(outs t).2.2.2.2.2.2.2.2.2.1]

theorem point16 (t : Fin grid0.N) (y : S1x512x512.Idx) : out0_16 (iblk m c 0 t) (iblk m c 1 t) (iblk m c 2 t) (iblk m c 3 t) (iblk m c 4 t) (iblk m c 5 t) y
    = value2Entry (m ((c : Thread nD τ).loc main_arg1)) (rowOf m c (y 2)) (8192 + (y 2).val % 4) (y 1) :=
  (Cert.ProjProof.out16 (iblk m c 0 t) (iblk m c 1 t) (iblk m c 2 t) (iblk m c 3 t) (iblk m c 4 t) (iblk m c 5 t) y).trans (congrFun (col_eq m c t (y 2) 1024 (by omega) 2560 (by omega) (by simp) (by omega)) (y 1))

theorem array16 : (dats m 0 c).arrAt 16 cfg0.N = across (value2Entry (m ((c : Thread nD τ).loc main_arg1))) (m ((c : Thread nD τ).loc main_arg0)) := by
  refine (dats m 0 c).arrAt_eq_of_covers 16 _ (by decide +kernel) fun t hf y => ?_
  blk_simp
  rw [after0_16]
  refine (point16 m c t y).trans (elt_congr _ (fun k => ?_) ?_ ?_)
  · exact congrArg (fun r : Fin 512 => rowOf m c r k) (Fin.ext (by blk_simp [(outs t).2.2.2.2.2.2.2.2.2.2.1]))
  · exact congrArg (fun n => 8192 + n % 4) (by blk_simp [(outs t).2.2.2.2.2.2.2.2.2.2.1])
  · blk_simp [(outs t).2.2.2.2.2.2.2.2.2.2.1]

theorem point17 (t : Fin grid0.N) (y : S1x512x512.Idx) : out0_17 (iblk m c 0 t) (iblk m c 1 t) (iblk m c 2 t) (iblk m c 3 t) (iblk m c 4 t) (iblk m c 5 t) y
    = value2Entry (m ((c : Thread nD τ).loc main_arg1)) (rowOf m c (y 2)) (8192 + (y 2).val % 4) (y 1) :=
  (Cert.ProjProof.out17 (iblk m c 0 t) (iblk m c 1 t) (iblk m c 2 t) (iblk m c 3 t) (iblk m c 4 t) (iblk m c 5 t) y).trans (congrFun (col_eq m c t (y 2) 1024 (by omega) 2560 (by omega) (by simp) (by omega)) (y 1))

theorem array17 : (dats m 0 c).arrAt 17 cfg0.N = across (value2Entry (m ((c : Thread nD τ).loc main_arg1))) (m ((c : Thread nD τ).loc main_arg0)) := by
  refine (dats m 0 c).arrAt_eq_of_covers 17 _ (by decide +kernel) fun t hf y => ?_
  blk_simp
  rw [after0_17]
  refine (point17 m c t y).trans (elt_congr _ (fun k => ?_) ?_ ?_)
  · exact congrArg (fun r : Fin 512 => rowOf m c r k) (Fin.ext (by blk_simp [(outs t).2.2.2.2.2.2.2.2.2.2.2]))
  · exact congrArg (fun n => 8192 + n % 4) (by blk_simp [(outs t).2.2.2.2.2.2.2.2.2.2.2])
  · blk_simp [(outs t).2.2.2.2.2.2.2.2.2.2.2]

end Sample

end Cert.SampleProof

end
-- ==== Proof.SampleClaims.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.SampleArrays

@[expose] public section

set_option maxRecDepth 16384

noncomputable section

namespace Cert.SampleProof

open Idealize Idealize.ShloMosaic
open Cert.ProjProof (keyEntry queryEntry queryApart valueEntry query2Entry query2Apart key2Entry value2Entry)

theorem frame_rounded : Cert.quiescent_Kernel4 := fun m ρ _ => Cert.Kernel4.Gen.frame m ρ

theorem frame_exact : Cert.quiescent_Kernel4Ideal := fun m ρ _ => Cert.Kernel4Ideal.Gen.frame m ρ

theorem frame_ref : Cert.quiescent_Reference4Ideal := fun m ρ _ =>
  (θ_run Cert.Reference4Ideal.defs _ _).mono (fun r h => ⟨fun c => (h c).2.2.2.2.2.2.2.2.2.2.2.2, sem_eq_zero_of_no_sems (by decide) r.2⟩)
    (Cert.Reference4Ideal.Value.run (F := Ideal) m ρ)

section Results
open Cert.Reference4Ideal Cert.Reference4Ideal.Gen

/-- The two arguments. -/
abbrev ref_inputs (m : (ℓ : Loc nD τ sig) → Buf (Elt Ideal) ℓ) (c : Dev nD) : FVec Ideal S128x4x1024 .f32 := m ((c.tc : Thread nD τ).loc main_arg0)
abbrev ref_weights (m : (ℓ : Loc nD τ sig) → Buf (Elt Ideal) ℓ) (c : Dev nD) : FVec Ideal S1024x3072 .f32 := m ((c.tc : Thread nD τ).loc main_arg1)

/-- The twelve results of the reference. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v103) = along (queryApart (ref_weights m c)) (ref_inputs m c)
      ∧ r.2.mem ((c.tc : Thread nD τ).loc main_v105) = along (queryEntry (ref_weights m c)) (ref_inputs m c)
      ∧ r.2.mem ((c.tc : Thread nD τ).loc main_v106) = along (keyEntry (ref_weights m c)) (ref_inputs m c)
      ∧ r.2.mem ((c.tc : Thread nD τ).loc main_v108) = along (keyEntry (ref_weights m c)) (ref_inputs m c)
      ∧ r.2.mem ((c.tc : Thread nD τ).loc main_v109) = along (valueEntry (ref_weights m c)) (ref_inputs m c)
      ∧ r.2.mem ((c.tc : Thread nD τ).loc main_v112) = across (valueEntry (ref_weights m c)) (ref_inputs m c)
      ∧ r.2.mem ((c.tc : Thread nD τ).loc main_v121) = along (query2Apart (ref_weights m c)) (ref_inputs m c)
      ∧ r.2.mem ((c.tc : Thread nD τ).loc main_v123) = along (query2Entry (ref_weights m c)) (ref_inputs m c)
      ∧ r.2.mem ((c.tc : Thread nD τ).loc main_v125) = along (key2Entry (ref_weights m c)) (ref_inputs m c)
      ∧ r.2.mem ((c.tc : Thread nD τ).loc main_v127) = across (key2Entry (ref_weights m c)) (ref_inputs m c)
      ∧ r.2.mem ((c.tc : Thread nD τ).loc main_v129) = across (value2Entry (ref_weights m c)) (ref_inputs m c)
      ∧ r.2.mem ((c.tc : Thread nD τ).loc main_v132) = across (value2Entry (ref_weights m c)) (ref_inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  refine ⟨(h c).1.trans ?_,
    (h c).2.1.trans ?_,
    (h c).2.2.1.trans ?_,
    (h c).2.2.2.1.trans ?_,
    (h c).2.2.2.2.1.trans ?_,
    (h c).2.2.2.2.2.1.trans ?_,
    (h c).2.2.2.2.2.2.1.trans ?_,
    (h c).2.2.2.2.2.2.2.1.trans ?_,
    (h c).2.2.2.2.2.2.2.2.1.trans ?_,
    (h c).2.2.2.2.2.2.2.2.2.1.trans ?_,
    (h c).2.2.2.2.2.2.2.2.2.2.1.trans ?_,
    (h c).2.2.2.2.2.2.2.2.2.2.2.1.trans ?_, (h c).2.2.2.2.2.2.2.2.2.2.2.2⟩
  · exact queriesApart_ref (ref_inputs m c) (ref_weights m c)
  · exact queries_ref (ref_inputs m c) (ref_weights m c)
  · exact keys_ref (ref_inputs m c) (ref_weights m c)
  · exact keys_ref (ref_inputs m c) (ref_weights m c)
  · exact along_ref (ref_inputs m c) (ref_weights m c) 1024 (by omega) slices_S128x4x3072_S128x4x512_0_0_1024
  · exact across_ref (ref_inputs m c) (ref_weights m c) 1024 (by omega) slices_S128x4x3072_S128x4x512_0_0_1024
  · exact queries2Apart_ref (ref_inputs m c) (ref_weights m c)
  · exact queries2_ref (ref_inputs m c) (ref_weights m c)
  · exact along_ref (ref_inputs m c) (ref_weights m c) 2048 (by omega) slices_S128x4x3072_S128x4x512_0_0_2048
  · exact across_ref (ref_inputs m c) (ref_weights m c) 2048 (by omega) slices_S128x4x3072_S128x4x512_0_0_2048
  · exact across_ref (ref_inputs m c) (ref_weights m c) 2560 (by omega) slices_S128x4x3072_S128x4x512_0_0_2560
  · exact across_ref (ref_inputs m c) (ref_weights m c) 2560 (by omega) slices_S128x4x3072_S128x4x512_0_0_2560

end Results

section Sample
open Cert.Kernel4Ideal Cert.Kernel4Ideal.Gen

/-- The two arguments. -/
abbrev inputs (m : (ℓ : Loc nD τ sig) → Buf (Elt Ideal) ℓ) (c : Dev nD) : FVec Ideal S128x4x1024 .f32 := m ((c.tc : Thread nD τ).loc main_arg0)
abbrev weights (m : (ℓ : Loc nD τ sig) → Buf (Elt Ideal) ℓ) (c : Dev nD) : FVec Ideal S1024x3072 .f32 := m ((c.tc : Thread nD τ).loc main_arg1)

/-- With exact arithmetic the samples' projections are the reference's. -/
theorem value : Cert.algebraic_Kernel4Ideal_Reference4Ideal := by
  intro m ρ m' ρ' hpre hag
  refine ⟨fun (c : Dev nD) => along (queryApart (weights m c)) (inputs m c),
    fun (c : Dev nD) => along (queryEntry (weights m c)) (inputs m c),
    fun (c : Dev nD) => along (keyEntry (weights m c)) (inputs m c),
    fun (c : Dev nD) => along (keyEntry (weights m c)) (inputs m c),
    fun (c : Dev nD) => along (valueEntry (weights m c)) (inputs m c),
    fun (c : Dev nD) => across (valueEntry (weights m c)) (inputs m c),
    fun (c : Dev nD) => along (query2Apart (weights m c)) (inputs m c),
    fun (c : Dev nD) => along (query2Entry (weights m c)) (inputs m c),
    fun (c : Dev nD) => along (key2Entry (weights m c)) (inputs m c),
    fun (c : Dev nD) => across (key2Entry (weights m c)) (inputs m c),
    fun (c : Dev nD) => across (value2Entry (weights m c)) (inputs m c),
    fun (c : Dev nD) => across (value2Entry (weights m c)) (inputs m c), ?_, ?_⟩
  · exact (θ_run defs _ _).mono (fun r h c => ⟨(h c).1.trans (array6 m c),
      (h c).2.1.trans (array7 m c),
      (h c).2.2.1.trans (array8 m c),
      (h c).2.2.2.1.trans (array9 m c),
      (h c).2.2.2.2.1.trans (array10 m c),
      (h c).2.2.2.2.2.1.trans (array11 m c),
      (h c).2.2.2.2.2.2.1.trans (array12 m c),
      (h c).2.2.2.2.2.2.2.1.trans (array13 m c),
      (h c).2.2.2.2.2.2.2.2.1.trans (array14 m c),
      (h c).2.2.2.2.2.2.2.2.2.1.trans (array15 m c),
      (h c).2.2.2.2.2.2.2.2.2.2.1.trans (array16 m c),
      (h c).2.2.2.2.2.2.2.2.2.2.2.1.trans (array17 m c), (h c).2.2.2.2.2.2.2.2.2.2.2.2⟩)
      (Cert.Kernel4Ideal.Value.run_blocks (F := Ideal) m ρ)
  · refine (θ_run Cert.Reference4Ideal.defs _ _).mono (fun r h c => ?_) (ref_run m' ρ')
    obtain ⟨h0, h1⟩ := hag c
    have e0 : ref_inputs m' c = inputs m c := h0
    have e1 : ref_weights m' c = weights m c := h1
    have h := h c
    rw [e0, e1] at h
    exact h

end Sample

end Cert.SampleProof

end
-- ==== Proof.MemKv.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.MemKvProof

open Idealize.ShloMosaic Idealize.ShloMosaic.TcCoe Idealize.ShloMosaic.ValueKit Idealize.SL.Sem

section Ref
open Cert.Reference5Ideal Cert.Reference5Ideal.Gen

/-- The column of the product that stands at column `j` of the memory's rows: head and half exchanged. -/
def colOf (j : Fin 1024) : Fin 1024 := ⟨j.val / 128 % 4 * 256 + j.val / 512 * 128 + j.val % 128, by omega⟩

/-- One entry of the memory's keys or values, in the layout of the rows. -/
def memEntry (x w : S1024x1024.Idx → EReal) (i j : Fin 1024) : EReal := ∑ k : Fin 1024, x (ix2 i k) * w (ix2 k (colOf j))

/-- The reference's keys, or its values, at an entry. -/
theorem ref_entry (x w : FVec Ideal S1024x1024 .f32) : (shapeCast S1024x1024 (transpose S1024x2x4x128 [0, 2, 1, 3] (shapeCast S1024x4x2x128
      (Host.dotGeneral dot_S1024x1024_S1024x1024_S1024x1024_1_0_0_1_n_n none x w) shapeCasts_S1024x1024_S1024x4x2x128)
      transposes_S1024x4x2x128_S1024x2x4x128_0_2_1_3) shapeCasts_S1024x2x4x128_S1024x1024 : FVec Ideal S1024x1024 .f32)
    = fun i => memEntry x w (i 0) (i 1) := by
  funext y
  idx_vars y
  unfold memEntry
  pointwise
  refine Finset.sum_congr rfl fun k _ => ?_
  congr 1 <;> blk_ext [colOf]

end Ref

open Cert.Kernel5Ideal Cert.Kernel5Ideal.Gen

theorem product (x : Vec Ideal S256x1024 .f32) (w : Vec Ideal S1024x1024 .bf16) (r : Fin 256) (d : Fin 1024) :
    k0_pay9 x w (ix2 r d) = ∑ k : Fin 1024, x (ix2 r k) * w (ix2 k d) := by
  unfold k0_pay9 k0_pay8
  pointwise

theorem product_values (x : Vec Ideal S256x1024 .f32) (w : Vec Ideal S1024x1024 .bf16) (r : Fin 256) (d : Fin 1024) :
    k0_pay18 x w (ix2 r d) = ∑ k : Fin 1024, x (ix2 r k) * w (ix2 k d) := by
  unfold k0_pay18 k0_pay8
  pointwise

theorem body_keys (x : Vec Ideal S256x1024 .f32) (wk wv : Vec Ideal S1024x1024 .bf16) (y : S256x1024.Idx) :
    out0_3 x wk wv y = ∑ k : Fin 1024, x (ix2 (y 0) k) * wk (ix2 k (colOf (y 1))) := by
  idx_vars y
  unfold out0_3
  canon_tiles z h
  all_goals open_payloads
  all_goals
    idx_vars z
    pointwise
    refine Finset.sum_congr rfl fun k _ => ?_
    congr 1 <;> blk_ext [colOf]

theorem body_values (x : Vec Ideal S256x1024 .f32) (wk wv : Vec Ideal S1024x1024 .bf16) (y : S256x1024.Idx) :
    out0_4 x wk wv y = ∑ k : Fin 1024, x (ix2 (y 0) k) * wv (ix2 k (colOf (y 1))) := by
  idx_vars y
  unfold out0_4
  canon_tiles z h
  all_goals open_payloads
  all_goals
    idx_vars z
    pointwise
    refine Finset.sum_congr rfl fun k _ => ?_
    congr 1 <;> blk_ext [colOf]

variable (m : (ℓ : Loc nD τ sig) → Buf (Elt Ideal) ℓ)

theorem idx : ∀ t : Fin grid0.N, win0_0.index t = ![t.val, 0] ∧ win0_1.index t = ![0, 0] ∧ win0_2.index t = ![0, 0] ∧ win0_3.index t = ![t.val, 0]
    ∧ win0_4.index t = ![t.val, 0] := by decide +kernel

theorem keys_eq (c : Dev nD) : (dats m 0 c).arrAt 3 cfg0.N = fun i => memEntry (m ((c : Thread nD τ).loc main_arg0)) (m ((c : Thread nD τ).loc main_arg1)) (i 0) (i 1) := by
  refine (dats m 0 c).arrAt_eq_of_covers 3 _ (by decide +kernel) fun t hf y => ?_
  blk_simp
  rw [after0_3]
  refine (body_keys _ _ _ y).trans ?_
  unfold memEntry
  refine Finset.sum_congr rfl fun k _ => ?_
  congr 1
  · blk_ext [iblk, V, (idx t).1, (idx t).2.2.2.1]
  · blk_ext [iblk, V, (idx t).2.1, (idx t).2.2.2.1]
    exact congrArg (fun z => (colOf z).val) (Fin.ext (by blk_simp [(idx t).2.2.2.1]))

theorem values_eq (c : Dev nD) : (dats m 0 c).arrAt 4 cfg0.N = fun i => memEntry (m ((c : Thread nD τ).loc main_arg0)) (m ((c : Thread nD τ).loc main_arg2)) (i 0) (i 1) := by
  refine (dats m 0 c).arrAt_eq_of_covers 4 _ (by decide +kernel) fun t hf y => ?_
  blk_simp
  rw [after0_4]
  refine (body_values _ _ _ y).trans ?_
  unfold memEntry
  refine Finset.sum_congr rfl fun k _ => ?_
  congr 1
  · blk_ext [iblk, V, (idx t).1, (idx t).2.2.2.2]
  · blk_ext [iblk, V, (idx t).2.2.1, (idx t).2.2.2.2]
    exact congrArg (fun z => (colOf z).val) (Fin.ext (by blk_simp [(idx t).2.2.2.2]))

/-- With the machine's floats, and with exact arithmetic, the run is covered and keeps its arguments. -/
theorem frame_rounded : Cert.quiescent_Kernel5 := fun m ρ _ => Cert.Kernel5.Gen.frame m ρ

theorem frame_exact : Cert.quiescent_Kernel5Ideal := fun m ρ _ => Cert.Kernel5Ideal.Gen.frame m ρ

theorem frame_ref : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- With exact arithmetic the memory's keys and values are the reference's. -/
theorem value : Cert.algebraic_Kernel5Ideal_Reference5Ideal := by
  intro m ρ m' ρ' hpre hag
  refine ⟨fun c => fun i => memEntry (m ((c : Thread nD τ).loc main_arg0)) (m ((c : Thread nD τ).loc main_arg1)) (i 0) (i 1),
    fun c => fun i => memEntry (m ((c : Thread nD τ).loc main_arg0)) (m ((c : Thread nD τ).loc main_arg2)) (i 0) (i 1), ?_, ?_⟩
  · exact (θ_run Cert.Kernel5Ideal.defs _ _).mono (fun r h c => ⟨(h c).1.trans (keys_eq m c), (h c).2.1.trans (values_eq m c), (h c).2.2⟩)
      (Cert.Kernel5Ideal.Value.run_blocks (F := Ideal) m ρ)
  · refine (θ_run Cert.Reference5Ideal.defs _ _).mono (fun r h c => ?_) (Cert.Reference5Ideal.Value.run (F := Ideal) m' ρ')
    obtain ⟨h0, h1, h2⟩ := hag c
    refine ⟨(h c).1.trans ?_, (h c).2.1.trans ?_, (h c).2.2⟩
    · rw [h0, h1]; exact ref_entry _ _
    · rw [h0, h2]; exact ref_entry _ _

end Cert.MemKvProof

end
-- ==== Proof.PostRow.lean ====
module

public import proofs.«01_k».proof.Defs
public import Idealize.ShloMosaic.Lib.Pipeline.ValueKit

@[expose] public section

set_option maxRecDepth 16384

noncomputable section

namespace Cert.PostProof

open Idealize.ShloMosaic Idealize.ShloMosaic.TcCoe Idealize.ShloMosaic.ValueKit Idealize.SL.Sem

/-- The mean of a row. -/
def meanOf (v : Fin 1024 → EReal) : EReal := Ideal.div (∑ k, v k) (Ideal.ofBits .f32 0x44800000#32)

/-- A row normalised: its mean taken off, divided by its deviation, scaled and shifted. -/
def lnRow (v g b : Fin 1024 → EReal) (j : Fin 1024) : EReal :=
  (v j - meanOf v) * Ideal.rsqrt (Ideal.div (∑ k, (v k - meanOf v) * (v k - meanOf v)) (Ideal.ofBits .f32 0x44800000#32) + Ideal.ofBits .f32 0x3727C5AC#32) * g j + b j

/-- A row normalised by the root mean square of every 128 lanes, and of every 64. -/
def rms128 (Z g : Fin 512 → EReal) (l : Fin 512) : EReal :=
  Z l * Ideal.rsqrt (Ideal.div (∑ k : Fin 128, Z ⟨l.val / 128 * 128 + k.val, by omega⟩ * Z ⟨l.val / 128 * 128 + k.val, by omega⟩) (Ideal.ofBits .f32 0x43000000#32) + Ideal.ofBits .f32 0x358637BD#32) * g l

def rms64 (Z g : Fin 512 → EReal) (l : Fin 512) : EReal :=
  Z l * Ideal.rsqrt (Ideal.div (∑ k : Fin 64, Z ⟨l.val / 64 * 64 + k.val, by omega⟩ * Z ⟨l.val / 64 * 64 + k.val, by omega⟩) (Ideal.ofBits .f32 0x42800000#32) + Ideal.ofBits .f32 0x358637BD#32) * g l

/-- The two attentions' rows, normalised and side by side. -/
def mixRow (D S gd gs : Fin 512 → EReal) (l : Fin 1024) : EReal :=
  if h : l.val < 512 then rms128 D gd ⟨l.val, h⟩ * Ideal.ofBits .f32 0x3F4CCCCD#32 else rms64 S gs ⟨l.val - 512, by omega⟩

/-- A row against the columns of a matrix. -/
def proj (v : Fin 1024 → EReal) (w : (⟨2, ![1024, 1024]⟩ : Shape).Idx → EReal) (j : Fin 1024) : EReal := ∑ k : Fin 1024, v k * w (ix2 k j)

/-- A row carried along and what is added to it. -/
def carried (x z : Fin 1024 → EReal) (j : Fin 1024) : EReal := Ideal.ofBits .f32 0x3F9837F0#32 * x j + z j

/-- The scores of one head of a row of queries against the memory's keys. -/
def score (q : Fin 1024 → EReal) (M : Fin 2048 → Fin 128 → EReal) (h : Fin 4) (k : Fin 256) : EReal :=
  (∑ d : Fin 256, q ⟨h.val * 256 + d.val, by omega⟩ * M ⟨k.val * 8 + d.val / 128 * 4 + h.val, by omega⟩ ⟨d.val % 128, by omega⟩) * Ideal.ofBits .f32 0x3D800000#32

def top (s : Fin 256 → EReal) : EReal := Finset.univ.fold max (Ideal.ofBits .f32 0xFF800000#32) s

/-- The scores' softmax. -/
def soft (s : Fin 256 → EReal) (k : Fin 256) : EReal := Ideal.div (Ideal.exp (s k - top s)) (∑ j, Ideal.exp (s j - top s))

/-- The memory's values, weighted. -/
def attended (q : Fin 1024 → EReal) (M N : Fin 2048 → Fin 128 → EReal) (l : Fin 1024) : EReal :=
  ∑ k : Fin 256, soft (score q M ⟨l.val / 256, by omega⟩) k * N ⟨k.val * 8 + l.val % 256 / 128 * 4 + l.val / 256, by omega⟩ ⟨l.val % 128, by omega⟩

/-- The row after the attention, and after the memory. -/
def mid (x : Fin 1024 → EReal) (D S gd gs : Fin 512 → EReal) (wo : (⟨2, ![1024, 1024]⟩ : Shape).Idx → EReal) (g1 b1 : Fin 1024 → EReal) : Fin 1024 → EReal :=
  lnRow (carried x (proj (mixRow D S gd gs) wo)) g1 b1

def final (y : Fin 1024 → EReal) (wq wc : (⟨2, ![1024, 1024]⟩ : Shape).Idx → EReal) (M N : Fin 2048 → Fin 128 → EReal) (g2 b2 : Fin 1024 → EReal) : Fin 1024 → EReal :=
  lnRow (carried y (proj (attended (proj y wq) M N) wc)) g2 b2

theorem bits_128 : Ideal.ofBits .f32 0x43000000#32 = ((128 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

theorem bits_128th : Ideal.ofBits .f32 0x3C000000#32 = ((1 / 128 : ℝ) : EReal) := by
  simp [Ideal.ofBits, Ideal.ieee, -EReal.coe_mul]; norm_num

theorem bits_64th : Ideal.ofBits .f32 0x3C800000#32 = ((1 / 64 : ℝ) : EReal) := by
  simp [Ideal.ofBits, Ideal.ieee, -EReal.coe_mul]; norm_num

theorem bits_16th : Ideal.ofBits .f32 0x3D800000#32 = ((1 / 16 : ℝ) : EReal) := by
  simp [Ideal.ofBits, Ideal.ieee, -EReal.coe_mul]; norm_num

theorem over_128 (a : EReal) : a * Ideal.ofBits .f32 0x3C000000#32 = Ideal.div a (Ideal.ofBits .f32 0x43000000#32) := by
  rw [bits_128, bits_128th, Ideal.div_coe (by norm_num)]

theorem over_64 (a : EReal) : a * Ideal.ofBits .f32 0x3C800000#32 = Ideal.div a (Ideal.ofBits .f32 0x42800000#32) := by
  rw [bits_64, bits_64th, Ideal.div_coe (by norm_num)]

theorem sum_mul_real {n : ℕ} (f : Fin n → EReal) (c : ℝ) (hc : 0 ≤ c) : (∑ k, f k) * (c : EReal) = ∑ k, f k * (c : EReal) := by
  induction n with
  | zero => simp
  | succ n ih =>
    rw [Fin.sum_univ_succ, Fin.sum_univ_succ, EReal.right_distrib_of_nonneg_of_ne_top (by exact_mod_cast hc) (EReal.coe_ne_top c), ih]

/-- The scores in two halves of scaled queries. -/
theorem score_halves (q : Fin 1024 → EReal) (M : Fin 2048 → Fin 128 → EReal) (h : Fin 4) (k : Fin 256) :
    0 + (∑ d : Fin 128, q ⟨h.val * 256 + d.val, by omega⟩ * Ideal.ofBits .f32 0x3D800000#32 * M ⟨k.val * 8 + h.val, by omega⟩ d)
      + (∑ d : Fin 128, q ⟨h.val * 256 + 128 + d.val, by omega⟩ * Ideal.ofBits .f32 0x3D800000#32 * M ⟨k.val * 8 + 4 + h.val, by omega⟩ d)
      = score q M h k := by
  unfold score
  rw [bits_16th, sum_mul_real _ _ (by norm_num), zero_add]
  refine Eq.trans ?_ (Fin.sum_univ_add (a := 128) (b := 128) _).symm
  refine congrArg₂ (· + ·) (Finset.sum_congr rfl fun d _ => ?_) (Finset.sum_congr rfl fun d _ => ?_)
  · rw [mul_right_comm]
    refine congrArg (· * _) (congrArg₂ (· * ·) (congrArg q (Fin.ext ?_)) (congrArg₂ M (Fin.ext ?_) (Fin.ext ?_))) <;> simp <;> omega
  · rw [mul_right_comm]
    refine congrArg (· * _) (congrArg₂ (· * ·) (congrArg q (Fin.ext ?_)) (congrArg₂ M (Fin.ext ?_) (Fin.ext ?_))) <;> simp <;> omega

theorem sum_low (f : Fin 128 → EReal) : (∑ k : Fin 128, if k.val < 64 then f k else 0) = ∑ k : Fin 64, f ⟨k.val, by omega⟩ := by
  refine (Fin.sum_univ_add (a := 64) (b := 64) _).trans ?_
  simp
  rfl

theorem sum_high (f : Fin 128 → EReal) : (∑ k : Fin 128, if k.val < 64 then 0 else f k) = ∑ k : Fin 64, f ⟨64 + k.val, by omega⟩ := by
  refine (Fin.sum_univ_add (a := 64) (b := 64) _).trans ?_
  simp
  exact Finset.sum_congr rfl fun k _ => congrArg f (Fin.ext (by simp; omega))

end Cert.PostProof

end
-- ==== Proof.PostRef.lean ====
module

public import proofs.«01_k».proof.Defs
public import proofs.«01_k».proof.Proof.Gen.Reference6Ideal.Run
public import proofs.«01_k».proof.Proof.PostRow

@[expose] public section

set_option maxRecDepth 16384

noncomputable section

namespace Cert.PostProof

open Idealize.ShloMosaic Idealize.ShloMosaic.TcCoe Idealize.ShloMosaic.ValueKit Idealize.SL.Sem

section Ref
open Cert.Reference6Ideal Cert.Reference6Ideal.Gen Cert.Reference6Ideal.Value

variable (W : Valuation τ sig (Elt Ideal))

abbrev gx : FVec Ideal S16384x1024 .f32 := W (Proc.devRef .tc main_arg0)
abbrev gD : FVec Ideal S16384x512 .f32 := W (Proc.devRef .tc main_arg1)
abbrev gS : FVec Ideal S16384x512 .f32 := W (Proc.devRef .tc main_arg2)
abbrev gM : FVec Ideal S4x2048x128 .f32 := W (Proc.devRef .tc main_arg3)
abbrev gN : FVec Ideal S4x2048x128 .f32 := W (Proc.devRef .tc main_arg4)
abbrev ggd : FVec Ideal S1x512 .f32 := W (Proc.devRef .tc main_arg5)
abbrev ggs : FVec Ideal S1x512 .f32 := W (Proc.devRef .tc main_arg6)
abbrev gwo : FVec Ideal S1024x1024 .f32 := W (Proc.devRef .tc main_arg7)
abbrev gg1 : FVec Ideal S1x1024 .f32 := W (Proc.devRef .tc main_arg8)
abbrev gb1 : FVec Ideal S1x1024 .f32 := W (Proc.devRef .tc main_arg9)
abbrev gwq : FVec Ideal S1024x1024 .f32 := W (Proc.devRef .tc main_arg10)
abbrev gwc : FVec Ideal S1024x1024 .f32 := W (Proc.devRef .tc main_arg11)
abbrev gg2 : FVec Ideal S1x1024 .f32 := W (Proc.devRef .tc main_arg12)
abbrev gb2 : FVec Ideal S1x1024 .f32 := W (Proc.devRef .tc main_arg13)

theorem sum_both (f : Fin 1024 → EReal) : ∑ k : Fin 1024, f k = (∑ x : Fin 512, f ⟨x.val, by omega⟩) + ∑ x : Fin 512, f ⟨512 + x.val, by omega⟩ := Fin.sum_univ_add (a := 512) (b := 512) f

theorem add_right {a b c : EReal} (h : b = c) : a + b = a + c := by rw [h]

theorem mul_right {a b c : EReal} (h : b = c) : a * b = a * c := by rw [h]

theorem mul_left {a b c : EReal} (h : a = b) : a * c = b * c := by rw [h]

theorem low_entry (D S gd gs : Fin 512 → EReal) (x : Fin 512) (h : x.val < 1024) : mixRow D S gd gs ⟨x.val, h⟩
    = D ⟨x.val / 128 * 128 + x.val % 128, by omega⟩ * Ideal.rsqrt (Ideal.div (∑ k : Fin 128, D ⟨x.val / 128 * 128 + k.val, by omega⟩ * D ⟨x.val / 128 * 128 + k.val, by omega⟩) (Ideal.ofBits .f32 0x43000000#32) + Ideal.ofBits .f32 0x358637BD#32)
      * gd ⟨x.val / 128 * 128 + x.val % 128, by omega⟩ * Ideal.ofBits .f32 0x3F4CCCCD#32 := by
  refine (dif_pos x.isLt).trans ?_
  simp only [Nat.div_add_mod', Fin.eta]
  rfl

theorem high_entry (D S gd gs : Fin 512 → EReal) (x : Fin 512) (h : 512 + x.val < 1024) : mixRow D S gd gs ⟨512 + x.val, h⟩
    = S ⟨x.val / 64 * 64 + x.val % 64, by omega⟩ * Ideal.rsqrt (Ideal.div (∑ k : Fin 64, S ⟨x.val / 64 * 64 + k.val, by omega⟩ * S ⟨x.val / 64 * 64 + k.val, by omega⟩) (Ideal.ofBits .f32 0x42800000#32) + Ideal.ofBits .f32 0x358637BD#32)
      * gs ⟨x.val / 64 * 64 + x.val % 64, by omega⟩ := by
  refine (dif_neg (by simp)).trans ?_
  rw [show (⟨512 + x.val - 512, by omega⟩ : Fin 512) = x from Fin.ext (by simp)]
  simp only [Nat.div_add_mod', Fin.eta]
  rfl

theorem ref_sum (p : Fin 16384) (j : Fin 1024) : res_main_v38 W (ix2 p j)
    = carried (fun k => gx W (ix2 p k)) (proj (mixRow (fun k => gD W (ix2 p k)) (fun k => gS W (ix2 p k)) (fun k => ggd W (ix2 0 k)) (fun k => ggs W (ix2 0 k))) (gwo W)) j := by
  unfold res_main_v38 res_main_v0 res_main_v17 carried proj
  pointwise
  rw [sum_both]
  simp only [low_entry, high_entry]

theorem ref_norm (p : Fin 16384) (j : Fin 1024) : res_main_v60 W (ix2 p j) = lnRow (fun k => res_main_v38 W (ix2 p k)) (fun k => gg1 W (ix2 0 k)) (fun k => gb1 W (ix2 0 k)) j := by
  unfold res_main_v60 res_main_v44 res_main_v42 lnRow meanOf
  pointwise

theorem reduces_keys : S4x4x4096x256.Reduces [3] S4x4x4096 := by decide

theorem lift_keys (g h : Fin 4) (q : Fin 4096) (k : Fin 256) : reduces_keys.lift (ix3 g h q) k = ix4 g h q k := by
  funext d
  refine Fin.ext ((Shape.Reduces.lift_val _ _ _ _).trans ?_)
  fin_cases d <;> rfl

theorem fold_keys (X : FVec Ideal S4x4x4096x256 .f32) (g h : Fin 4) (q : Fin 4096) :
    Host.reduce FloatOps.maximumf X (constant S_ .f32 0xFF800000#32) reducesTo_S4x4x4096x256_S4x4x4096_d3 h_S_ (ix3 g h q) = top fun k => X (ix4 g h q k) := by
  rw [Host.reduce_eq_fold_single FloatOps.maximumf X _ _ reduces_keys _ _]
  have e : (X ∘ reduces_keys.lift (ix3 g h q)) = fun k => X (ix4 g h q k) := funext fun k => congrArg X (lift_keys g h q k)
  rw [e]
  rfl

theorem over_floor (R : FVec Ideal S4x4x4096 .f32) (g h : Fin 4) (q : Fin 4096) :
    maximumf (broadcastInDim S4x4x4096 ![] bcast_S_S4x4x4096 (constant S_ .f32 0xFF800000#32 : FVec Ideal S_ .f32)) R (ix3 g h q) = max (Ideal.ofBits .f32 0xFF800000#32) (R (ix3 g h q)) := by
  pointwise

/-- The largest of the scores along the memory. -/
theorem ref_top (X : FVec Ideal S4x4x4096x256 .f32) (g h : Fin 4) (q : Fin 4096) :
    maximumf (broadcastInDim S4x4x4096 ![] bcast_S_S4x4x4096 (constant S_ .f32 0xFF800000#32 : FVec Ideal S_ .f32)) (Host.reduce FloatOps.maximumf X (constant S_ .f32 0xFF800000#32) reducesTo_S4x4x4096x256_S4x4x4096_d3 h_S_) (ix3 g h q)
      = top fun k => X (ix4 g h q k) := by
  rw [over_floor, fold_keys]
  exact max_eq_right ((Finset.le_fold_max _).2 (Or.inl le_rfl))

theorem exp_from (X : FVec Ideal S4x4x4096x256 .f32) (T : FVec Ideal S4x4x4096 .f32) (g h : Fin 4) (q : Fin 4096) (k : Fin 256) :
    Host.exp (subf X (broadcastInDim S4x4x4096x256 ![0, 1, 2, 3] bcast_S4x4x4096x1_S4x4x4096x256_0_1_2_3 (broadcastInDim S4x4x4096x1 ![0, 1, 2] bcast_S4x4x4096_S4x4x4096x1_0_1_2 T))) (ix4 g h q k)
      = Ideal.exp (X (ix4 g h q k) - T (ix3 g h q)) := by
  pointwise

theorem ref_exp (g h : Fin 4) (q : Fin 4096) (s : Fin 256 → EReal) (hs : ∀ k, res_main_v68 W (ix4 g h q k) = s k) (k : Fin 256) : res_main_v75 W (ix4 g h q k) = Ideal.exp (s k - top s) := by
  unfold res_main_v75
  refine (exp_from _ _ g h q k).trans ?_
  rw [ref_top, hs]
  exact congrArg (fun f => Ideal.exp (s k - top f)) (funext hs)

theorem ref_score (g h : Fin 4) (q : Fin 4096) (k : Fin 256) : res_main_v68 W (ix4 g h q k)
    = score (proj (fun k => res_main_v60 W (ix2 ⟨g.val * 4096 + q.val, by omega⟩ k)) (gwq W)) (fun i d => gM W (ix3 g i d)) h k := by
  unfold res_main_v68 score proj
  pointwise

theorem ref_last (p : Fin 16384) (j : Fin 1024) : res_main_v89 W (ix2 p j)
    = carried (fun k => res_main_v60 W (ix2 p k)) (proj (fun l => ∑ k : Fin 256, Ideal.div (res_main_v75 W (ix4 ⟨p.val / 4096, by omega⟩ ⟨l.val / 256, by omega⟩ ⟨p.val % 4096, by omega⟩ k))
        (∑ k : Fin 256, res_main_v75 W (ix4 ⟨p.val / 4096, by omega⟩ ⟨l.val / 256, by omega⟩ ⟨p.val % 4096, by omega⟩ k)) * gN W (ix3 ⟨p.val / 4096, by omega⟩ ⟨k.val * 8 + l.val % 256 / 128 * 4 + l.val / 256, by omega⟩ ⟨l.val % 128, by omega⟩)) (gwc W)) j := by
  unfold res_main_v89 carried proj
  pointwise
  refine add_right (Finset.sum_congr rfl fun x _ => mul_left (Finset.sum_congr rfl fun k _ => (mul_comm _ _).trans (mul_right ?_)))
  have e : x.val % 256 % 128 = x.val % 128 := by omega
  simp only [e]

theorem ref_memory (p : Fin 16384) (j : Fin 1024) (y : Fin 1024 → EReal) (hy : ∀ k, res_main_v60 W (ix2 p k) = y k) : res_main_v89 W (ix2 p j)
    = carried y (proj (attended (proj y (gwq W)) (fun i d => gM W (ix3 ⟨p.val / 4096, by omega⟩ i d)) (fun i d => gN W (ix3 ⟨p.val / 4096, by omega⟩ i d))) (gwc W)) j := by
  have hp : (⟨p.val / 4096 * 4096 + p.val % 4096, by omega⟩ : Fin 16384) = p := Fin.ext (Nat.div_add_mod' _ _)
  have hs : ∀ (h : Fin 4) (k : Fin 256), res_main_v68 W (ix4 ⟨p.val / 4096, by omega⟩ h ⟨p.val % 4096, by omega⟩ k)
      = score (proj y (gwq W)) (fun i d => gM W (ix3 ⟨p.val / 4096, by omega⟩ i d)) h k := fun h k => by
    rw [ref_score]
    dsimp only
    rw [hp]
    simp only [hy]
  rw [ref_last]
  simp only [ref_exp W _ _ _ _ (hs _), hy]
  rfl

/-- The layer's normalised rows. -/
def out : FVec Ideal S16384x1024 .f32 :=
  addf (mulf (mulf (subf (res_main_v89 W) (broadcastInDim S16384x1024 ![0, 1] bcast_S16384x1_S16384x1024_0_1 (res_main_v93 W))) (broadcastInDim S16384x1024 ![0, 1] bcast_S16384x1_S16384x1024_0_1 (Host.rsqrt (addf (Host.divf (broadcastInDim S16384x1 ![0] bcast_S16384_S16384x1_0 (Host.reduceAdd (mulf (res_main_v95 W) (res_main_v95 W)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (W (Proc.devRef .tc main_arg12)))) (broadcastInDim S16384x1024 ![0, 1] bcast_S1x1024_S16384x1024_0_1 (W (Proc.devRef .tc main_arg13)))

theorem out_norm (p : Fin 16384) (j : Fin 1024) : out W (ix2 p j) = lnRow (fun k => res_main_v89 W (ix2 p k)) (fun k => gg2 W (ix2 0 k)) (fun k => gb2 W (ix2 0 k)) j := by
  unfold out res_main_v95 res_main_v93 lnRow meanOf
  pointwise

theorem ref_rows (p : Fin 16384) (j : Fin 1024) : out W (ix2 p j)
    = final (mid (fun k => gx W (ix2 p k)) (fun k => gD W (ix2 p k)) (fun k => gS W (ix2 p k)) (fun k => ggd W (ix2 0 k)) (fun k => ggs W (ix2 0 k)) (gwo W) (fun k => gg1 W (ix2 0 k)) (fun k => gb1 W (ix2 0 k))) (gwq W) (gwc W)
      (fun i d => gM W (ix3 ⟨p.val / 4096, by omega⟩ i d)) (fun i d => gN W (ix3 ⟨p.val / 4096, by omega⟩ i d)) (fun k => gg2 W (ix2 0 k)) (fun k => gb2 W (ix2 0 k)) j := by
  have hy : ∀ k, res_main_v60 W (ix2 p k) = mid (fun k => gx W (ix2 p k)) (fun k => gD W (ix2 p k)) (fun k => gS W (ix2 p k)) (fun k => ggd W (ix2 0 k)) (fun k => ggs W (ix2 0 k)) (gwo W) (fun k => gg1 W (ix2 0 k)) (fun k => gb1 W (ix2 0 k)) k := fun k =>
    (ref_norm W p k).trans (congrArg (fun f => lnRow f _ _ k) (funext (ref_sum W p)))
  exact (out_norm W p j).trans (congrArg (fun f => lnRow f _ _ j) (funext fun k => ref_memory W p k _ hy))

end Ref

end Cert.PostProof

end
-- ==== Proof.PostBody.lean ====
module

public import proofs.«01_k».proof.Defs
public import proofs.«01_k».proof.Proof.Gen.Kernel6Ideal.Value
public import proofs.«01_k».proof.Proof.PostRow

@[expose] public section

set_option maxRecDepth 16384

noncomputable section

namespace Cert.PostProof

open Idealize.ShloMosaic Idealize.ShloMosaic.TcCoe Idealize.ShloMosaic.ValueKit Idealize.SL.Sem

open Cert.Kernel6Ideal Cert.Kernel6Ideal.Gen

theorem last_norm (a : FVec Ideal S512x1024 .f32) (o : FVec Ideal S512x1024 .bf16) (w : Vec Ideal S1024x1024 .bf16) (g b : Vec Ideal S1x1024 .f32) (r : Fin 512) (j : Fin 1024) :
    k0_pay1 a o k0_pay28 w g b (ix2 r j) = lnRow (carried (fun k => a (ix2 r k)) (proj (fun k => o (ix2 r k)) w)) (fun k => g (ix2 0 k)) (fun k => b (ix2 0 k)) j := by
  unfold k0_pay1 k0_pay28 lnRow meanOf carried proj
  pointwise

theorem mid_norm (a : FVec Ideal S512x1024 .f32) (g b : Vec Ideal S1x1024 .f32) (r : Fin 512) (j : Fin 1024) :
    k0_pay15 a g b (ix2 r j) = lnRow (fun k => a (ix2 r k)) (fun k => g (ix2 0 k)) (fun k => b (ix2 0 k)) j := by
  unfold k0_pay15 lnRow meanOf
  pointwise

theorem queries (a : FVec Ideal S512x1024 .f32) (g b : Vec Ideal S1x1024 .f32) (w : Vec Ideal S1024x1024 .bf16) (r : Fin 512) (j : Fin 1024) :
    k0_pay16 a g b w (ix2 r j) = proj (fun k => k0_pay15 a g b (ix2 r k)) w j * Ideal.ofBits .f32 0x3D800000#32 := by
  unfold k0_pay16 proj
  pointwise

/-- One head's scores, as the kernel forms them. -/
def halves (q : FVec Ideal S512x1024 .bf16) (a b : Vec Ideal S1x256x128 .f32) (r : Fin 512) (h : Fin 4) (k : Fin 256) : EReal :=
  (∑ d : Fin 128, q (ix2 r ⟨h.val * 256 + d.val, by omega⟩) * a (ix3 0 k d)) + ∑ d : Fin 128, q (ix2 r ⟨h.val * 256 + 128 + d.val, by omega⟩) * b (ix3 0 k d)

theorem soft0 (v : FVec Ideal S512x1024 .f32) (g b : Vec Ideal S1x1024 .f32) (w : Vec Ideal S1024x1024 .bf16) (x y : Vec Ideal S1x256x128 .f32) (r : Fin 512) (k : Fin 256) :
    k0_pay19 (k0_pay17 v g b w x y) (k0_pay18 v g b w x y) (ix2 r k) = soft (halves (k0_pay16 v g b w) x y r 0) k := by
  unfold k0_pay19 k0_pay18 k0_pay17 soft halves top
  pointwise

theorem soft1 (q : FVec Ideal S512x1024 .bf16) (x y : Vec Ideal S1x256x128 .f32) (r : Fin 512) (k : Fin 256) :
    k0_pay22 q x y (ix2 r k) = soft (halves q x y r 1) k := by
  unfold k0_pay22 soft halves top
  pointwise

theorem soft2 (q : FVec Ideal S512x1024 .bf16) (x y : Vec Ideal S1x256x128 .f32) (r : Fin 512) (k : Fin 256) :
    k0_pay25 q x y (ix2 r k) = soft (halves q x y r 2) k := by
  unfold k0_pay25 soft halves top
  pointwise

theorem below_64 : ∀ n : Fin 128, IntOp.cmpi .slt (BitVec.ofNat 32 n.val) 64#32 = if n.val < 64 then 1#1 else 0#1 := by
  decide +kernel

theorem select_below (n : Fin 128) (a b : EReal) : Scalar.select (IntOp.cmpi .slt (BitVec.ofNat 32 n.val) 64#32) a b = if n.val < 64 then a else b := by
  rw [below_64 n]
  split_ifs <;> rfl

theorem rms128_of (Z g : Fin 512 → EReal) (l i : Fin 512) (s : Fin 128 → Fin 512) (hi : i.val = l.val) (hs : ∀ k, (s k).val = l.val / 128 * 128 + k.val) :
    Z i * Ideal.rsqrt ((∑ k : Fin 128, Z (s k) * Z (s k)) * Ideal.ofBits .f32 0x3C000000#32 + Ideal.ofBits .f32 0x358637BD#32) * g i = rms128 Z g l := by
  unfold rms128
  obtain rfl : i = l := Fin.ext hi
  obtain rfl : s = fun k => ⟨i.val / 128 * 128 + k.val, by omega⟩ := funext fun k => Fin.ext (hs k)
  rw [over_128]

theorem rms64_of (Z g : Fin 512 → EReal) (l i : Fin 512) (n : Fin 128) (s : Fin 128 → Fin 512) (hi : i.val = l.val) (hn : n.val = l.val % 128) (hs : ∀ k, (s k).val = l.val / 128 * 128 + k.val) :
    Z i * Ideal.rsqrt (Scalar.select (IntOp.cmpi .slt (BitVec.ofNat 32 n.val) 64#32)
      (∑ k : Fin 128, Scalar.select (IntOp.cmpi .slt (BitVec.ofNat 32 k.val) 64#32) (Z (s k) * Z (s k)) 0)
      (∑ k : Fin 128, Scalar.select (IntOp.cmpi .slt (BitVec.ofNat 32 k.val) 64#32) 0 (Z (s k) * Z (s k))) * Ideal.ofBits .f32 0x3C800000#32 + Ideal.ofBits .f32 0x358637BD#32) * g i
      = rms64 Z g l := by
  unfold rms64
  obtain rfl : i = l := Fin.ext hi
  simp only [select_below]
  rw [sum_low, sum_high, over_64]
  refine congrArg (fun a => Z i * Ideal.rsqrt (Ideal.div a _ + _) * g i) ?_
  split_ifs with h
  · refine Finset.sum_congr rfl fun k _ => ?_
    rw [show s ⟨k.val, by omega⟩ = ⟨i.val / 64 * 64 + k.val, by omega⟩ from Fin.ext ((hs _).trans (by dsimp only; omega))]
  · refine Finset.sum_congr rfl fun k _ => ?_
    rw [show s ⟨64 + k.val, by omega⟩ = ⟨i.val / 64 * 64 + k.val, by omega⟩ from Fin.ext ((hs _).trans (by dsimp only; omega))]

theorem norm128 (x : Vec Ideal S512x512 .f32) (g : Vec Ideal S1x512 .f32) (r : Fin 512) (l : Fin 512) :
    k0_pay8 g (k0_pay3 x g) (k0_pay4 x g) (k0_pay5 x g) (k0_pay6 x) (k0_pay7 x) (ix2 r l) = rms128 (fun k => x (ix2 r k)) (fun k => g (ix2 0 k)) l * Ideal.ofBits .f32 0x3F4CCCCD#32 := by
  unfold k0_pay8 k0_pay7 k0_pay6 k0_pay5 k0_pay4 k0_pay3
  pointwise
  have hl := l.isLt
  refine congrArg (· * _) ?_
  by_cases h0 : l.val < 128
  · exact (dif_pos h0).trans (rms128_of (fun k => x (ix2 r k)) (fun k => g (ix2 0 k)) l l (fun k => ⟨k.val, by omega⟩) rfl fun k => by dsimp only; omega)
  · refine (dif_neg h0).trans ?_
    by_cases h1 : l.val - 128 < 128
    · exact (dif_pos h1).trans (rms128_of (fun k => x (ix2 r k)) (fun k => g (ix2 0 k)) l ⟨128 + (l.val - 128), by omega⟩ (fun k => ⟨128 + k.val, by omega⟩) (by dsimp only; omega) fun k => by dsimp only; omega)
    · refine (dif_neg h1).trans ?_
      by_cases h2 : l.val - 128 - 128 < 128
      · exact (dif_pos h2).trans (rms128_of (fun k => x (ix2 r k)) (fun k => g (ix2 0 k)) l ⟨256 + (l.val - 128 - 128), by omega⟩ (fun k => ⟨256 + k.val, by omega⟩) (by dsimp only; omega) fun k => by dsimp only; omega)
      · exact (dif_neg h2).trans (rms128_of (fun k => x (ix2 r k)) (fun k => g (ix2 0 k)) l ⟨384 + (l.val - 128 - 128 - 128), by omega⟩ (fun k => ⟨384 + k.val, by omega⟩) (by dsimp only; omega) fun k => by dsimp only; omega)

theorem norm64_0 (x : Vec Ideal S512x512 .f32) (g : Vec Ideal S1x512 .f32) (r : Fin 512) (l : Fin 128) :
    k0_pay9 x g (ix2 r l) = rms64 (fun k => x (ix2 r k)) (fun k => g (ix2 0 k)) ⟨l.val, by omega⟩ := by
  unfold k0_pay9
  pointwise
  exact rms64_of (fun k => x (ix2 r k)) (fun k => g (ix2 0 k)) _ _ l _ rfl (by dsimp only; omega) fun k => by dsimp only; omega

theorem norm64_1 (x : Vec Ideal S512x512 .f32) (g : Vec Ideal S1x512 .f32) (r : Fin 512) (l : Fin 128) :
    k0_pay11 g (iota .tc S512x128 32 [1] iota_S512x128_d1_w32) (k0_pay10 x) (ix2 r l) = rms64 (fun k => x (ix2 r k)) (fun k => g (ix2 0 k)) ⟨128 + l.val, by omega⟩ := by
  unfold k0_pay11 k0_pay10
  pointwise
  exact rms64_of (fun k => x (ix2 r k)) (fun k => g (ix2 0 k)) _ _ l _ rfl (by dsimp only; omega) fun k => by dsimp only; omega

theorem mixRow_low (D S gd gs : Fin 512 → EReal) (k : Fin 1024) (h : k.val < 512) : mixRow D S gd gs k = rms128 D gd ⟨k.val, h⟩ * Ideal.ofBits .f32 0x3F4CCCCD#32 := dif_pos h

theorem mixRow_high (D S gd gs : Fin 512 → EReal) (k : Fin 1024) (h : ¬ k.val < 512) : mixRow D S gd gs k = rms64 S gs ⟨k.val - 512, by omega⟩ := dif_neg h

theorem first_sum (D S : Vec Ideal S512x512 .f32) (gd gs : Vec Ideal S1x512 .f32) (x : Vec Ideal S512x1024 .f32) (w : Vec Ideal S1024x1024 .bf16) (r : Fin 512) (j : Fin 1024) :
    k0_pay14 (k0_pay8 gd (k0_pay3 D gd) (k0_pay4 D gd) (k0_pay5 D gd) (k0_pay6 D) (k0_pay7 D)) S gs (iota .tc S512x128 32 [1] iota_S512x128_d1_w32) (k0_pay9 S gs)
      (k0_pay11 gs (iota .tc S512x128 32 [1] iota_S512x128_d1_w32) (k0_pay10 S)) (k0_pay12 S) (k0_pay13 S (iota .tc S512x128 32 [1] iota_S512x128_d1_w32)) x w (ix2 r j)
      = carried (fun k => x (ix2 r k)) (proj (mixRow (fun k => D (ix2 r k)) (fun k => S (ix2 r k)) (fun k => gd (ix2 0 k)) (fun k => gs (ix2 0 k))) w) j := by
  unfold k0_pay14 k0_pay13 k0_pay12 carried proj
  pointwise
  refine congrArg (_ + ·) (Finset.sum_congr rfl fun k _ => congrArg (· * _) ?_)
  have hk := k.isLt
  by_cases h : k.val < 512
  · exact (dif_pos h).trans ((norm128 D gd r ⟨k.val, h⟩).trans (mixRow_low _ _ _ _ k h).symm)
  · refine (dif_neg h).trans (Eq.trans ?_ (mixRow_high _ _ _ _ k h).symm)
    by_cases h0 : k.val - 512 < 128
    · exact (dif_pos h0).trans (norm64_0 S gs r ⟨k.val - 512, h0⟩)
    · refine (dif_neg h0).trans ?_
      by_cases h1 : k.val - 512 - 128 < 128
      · refine (dif_pos h1).trans ((norm64_1 S gs r ⟨k.val - 512 - 128, h1⟩).trans (congrArg (rms64 _ _) (Fin.ext ?_)))
        dsimp only
        omega
      · refine (dif_neg h1).trans ?_
        by_cases h2 : k.val - 512 - 128 - 128 < 128
        · exact (dif_pos h2).trans (rms64_of (fun k => S (ix2 r k)) (fun k => gs (ix2 0 k)) _ ⟨256 + (k.val - 512 - 128 - 128), by omega⟩ ⟨k.val - 512 - 128 - 128, h2⟩ (fun k => ⟨256 + k.val, by omega⟩) (by dsimp only; omega) (by dsimp only; omega) fun k => by dsimp only; omega)
        · exact (dif_neg h2).trans (rms64_of (fun k => S (ix2 r k)) (fun k => gs (ix2 0 k)) _ ⟨384 + (k.val - 512 - 128 - 128 - 128), by omega⟩ ⟨k.val - 512 - 128 - 128 - 128, by omega⟩ (fun k => ⟨384 + k.val, by omega⟩) (by dsimp only; omega) (by dsimp only; omega) fun k => by dsimp only; omega)

/-- One head's weighted values, from its pieces. -/
theorem piece (q : FVec Ideal S512x1024 .bf16) (Q : Fin 1024 → EReal) (M N : Fin 2048 → Fin 128 → EReal) {r : Fin 512} (hq : ∀ j, q (ix2 r j) = Q j * Ideal.ofBits .f32 0x3D800000#32)
    (a b v : Vec Ideal S1x256x128 .f32) (h : Fin 4) (j : Fin 1024) (l : Fin 128) (hj : j.val / 256 = h.val) (hl : l.val = j.val % 128)
    (ha : ∀ k d, a (ix3 0 k d) = M ⟨k.val * 8 + h.val, by omega⟩ d) (hb : ∀ k d, b (ix3 0 k d) = M ⟨k.val * 8 + 4 + h.val, by omega⟩ d)
    (hv : ∀ k d, v (ix3 0 k d) = N ⟨k.val * 8 + j.val % 256 / 128 * 4 + j.val / 256, by omega⟩ d) :
    ∑ k : Fin 256, soft (halves q a b r h) k * v (ix3 0 k l) = attended Q M N j := by
  have e : halves q a b r h = score Q M h := funext fun k => by
    unfold halves
    simp only [hq, ha, hb]
    rw [← score_halves Q M h k, zero_add]
  unfold attended
  rw [show (⟨j.val / 256, by omega⟩ : Fin 4) = h from Fin.ext hj, show (⟨j.val % 128, by omega⟩ : Fin 128) = l from Fin.ext hl.symm]
  exact Finset.sum_congr rfl fun k _ => by rw [e, hv]

theorem last_head (q : FVec Ideal S512x1024 .bf16) (a b v : Vec Ideal S1x256x128 .f32) (r : Fin 512) (l : Fin 128) :
    (∑ x : Fin 256, Ideal.div
        (Ideal.exp ((∑ d : Fin 128, q (ix2 r ⟨768 + d.val, by omega⟩) * a (ix3 0 x d)) + (∑ d : Fin 128, q (ix2 r ⟨896 + d.val, by omega⟩) * b (ix3 0 x d))
          - Finset.univ.fold max (Ideal.ofBits .f32 0xFF800000#32) fun x : Fin 256 => (∑ d : Fin 128, q (ix2 r ⟨768 + d.val, by omega⟩) * a (ix3 0 x d)) + (∑ d : Fin 128, q (ix2 r ⟨896 + d.val, by omega⟩) * b (ix3 0 x d))))
        (∑ x : Fin 256, Ideal.exp ((∑ d : Fin 128, q (ix2 r ⟨768 + d.val, by omega⟩) * a (ix3 0 x d)) + (∑ d : Fin 128, q (ix2 r ⟨896 + d.val, by omega⟩) * b (ix3 0 x d))
          - Finset.univ.fold max (Ideal.ofBits .f32 0xFF800000#32) fun x : Fin 256 => (∑ d : Fin 128, q (ix2 r ⟨768 + d.val, by omega⟩) * a (ix3 0 x d)) + (∑ d : Fin 128, q (ix2 r ⟨896 + d.val, by omega⟩) * b (ix3 0 x d)))) * v (ix3 0 x l))
      = ∑ k : Fin 256, soft (halves q a b r 3) k * v (ix3 0 k l) := rfl

/-- The heads' weighted values side by side. -/
theorem joined (v : FVec Ideal S512x1024 .f32) (g b : Vec Ideal S1x1024 .f32) (w : Vec Ideal S1024x1024 .bf16) (Q : Fin 1024 → EReal) (M N : Fin 2048 → Fin 128 → EReal) (A B : Fin 8 → Vec Ideal S1x256x128 .f32)
    (r : Fin 512) (hq : ∀ j, k0_pay16 v g b w (ix2 r j) = Q j * Ideal.ofBits .f32 0x3D800000#32) (hA : ∀ n k d, A n (ix3 0 k d) = M ⟨k.val * 8 + n.val, by omega⟩ d) (hB : ∀ n k d, B n (ix3 0 k d) = N ⟨k.val * 8 + n.val, by omega⟩ d) (j : Fin 1024) :
    k0_pay27 (k0_pay16 v g b w) (k0_pay20 (k0_pay17 v g b w (A 0) (A 4)) (k0_pay18 v g b w (A 0) (A 4)) (B 0)) (k0_pay21 (k0_pay17 v g b w (A 0) (A 4)) (k0_pay18 v g b w (A 0) (A 4)) (B 4))
      (k0_pay23 (k0_pay22 (k0_pay16 v g b w) (A 1) (A 5)) (B 1)) (k0_pay24 (k0_pay22 (k0_pay16 v g b w) (A 1) (A 5)) (B 5)) (k0_pay25 (k0_pay16 v g b w) (A 2) (A 6)) (k0_pay26 (k0_pay16 v g b w) (A 2) (A 6) (B 2)) (B 6) (A 3) (A 7) (B 3) (B 7) (ix2 r j) = attended Q M N j := by
  unfold k0_pay27 k0_pay26 k0_pay24 k0_pay23 k0_pay21 k0_pay20
  pointwise
  have hj := j.isLt
  by_cases h0 : j.val < 128
  · exact (dif_pos h0).trans ((Finset.sum_congr rfl fun k _ => congrArg (· * _) (soft0 v g b w (A 0) (A 4) r k)).trans (piece (k0_pay16 v g b w) Q M N hq (A 0) (A 4) (B 0) 0 j ⟨j.val, by omega⟩ (by show j.val / 256 = _; omega) (by dsimp only; omega) (hA 0) (hA 4) (fun k d => (hB 0 k d).trans (congrArg (fun i => N i d) (Fin.ext (by simp; omega))))))
  · refine (dif_neg h0).trans ?_
    by_cases h1 : j.val - 128 < 128
    · exact (dif_pos h1).trans ((Finset.sum_congr rfl fun k _ => congrArg (· * _) (soft0 v g b w (A 0) (A 4) r k)).trans (piece (k0_pay16 v g b w) Q M N hq (A 0) (A 4) (B 4) 0 j ⟨j.val - 128, by omega⟩ (by show j.val / 256 = _; omega) (by dsimp only; omega) (hA 0) (hA 4) (fun k d => (hB 4 k d).trans (congrArg (fun i => N i d) (Fin.ext (by simp; omega))))))
    · refine (dif_neg h1).trans ?_
      by_cases h2 : j.val - 128 - 128 < 128
      · exact (dif_pos h2).trans ((Finset.sum_congr rfl fun k _ => congrArg (· * _) (soft1 _ (A 1) (A 5) r k)).trans (piece (k0_pay16 v g b w) Q M N hq (A 1) (A 5) (B 1) 1 j ⟨j.val - 128 - 128, by omega⟩ (by show j.val / 256 = _; omega) (by dsimp only; omega) (hA 1) (hA 5) (fun k d => (hB 1 k d).trans (congrArg (fun i => N i d) (Fin.ext (by simp; omega))))))
      · refine (dif_neg h2).trans ?_
        by_cases h3 : j.val - 128 - 128 - 128 < 128
        · exact (dif_pos h3).trans ((Finset.sum_congr rfl fun k _ => congrArg (· * _) (soft1 _ (A 1) (A 5) r k)).trans (piece (k0_pay16 v g b w) Q M N hq (A 1) (A 5) (B 5) 1 j ⟨j.val - 128 - 128 - 128, by omega⟩ (by show j.val / 256 = _; omega) (by dsimp only; omega) (hA 1) (hA 5) (fun k d => (hB 5 k d).trans (congrArg (fun i => N i d) (Fin.ext (by simp; omega))))))
        · refine (dif_neg h3).trans ?_
          by_cases h4 : j.val - 128 - 128 - 128 - 128 < 128
          · exact (dif_pos h4).trans ((Finset.sum_congr rfl fun k _ => congrArg (· * _) (soft2 _ (A 2) (A 6) r k)).trans (piece (k0_pay16 v g b w) Q M N hq (A 2) (A 6) (B 2) 2 j ⟨j.val - 128 - 128 - 128 - 128, by omega⟩ (by show j.val / 256 = _; omega) (by dsimp only; omega) (hA 2) (hA 6) (fun k d => (hB 2 k d).trans (congrArg (fun i => N i d) (Fin.ext (by simp; omega))))))
          · refine (dif_neg h4).trans ?_
            by_cases h5 : j.val - 128 - 128 - 128 - 128 - 128 < 128
            · exact (dif_pos h5).trans ((Finset.sum_congr rfl fun k _ => congrArg (· * _) (soft2 _ (A 2) (A 6) r k)).trans (piece (k0_pay16 v g b w) Q M N hq (A 2) (A 6) (B 6) 2 j ⟨j.val - 128 - 128 - 128 - 128 - 128, by omega⟩ (by show j.val / 256 = _; omega) (by dsimp only; omega) (hA 2) (hA 6) (fun k d => (hB 6 k d).trans (congrArg (fun i => N i d) (Fin.ext (by simp; omega))))))
            · refine (dif_neg h5).trans ?_
              by_cases h6 : j.val - 128 - 128 - 128 - 128 - 128 - 128 < 128
              · exact (dif_pos h6).trans (Eq.trans (last_head _ _ _ _ _ _) (piece (k0_pay16 v g b w) Q M N hq (A 3) (A 7) (B 3) 3 j ⟨j.val - 128 - 128 - 128 - 128 - 128 - 128, by omega⟩ (by show j.val / 256 = _; omega) (by dsimp only; omega) (hA 3) (hA 7) (fun k d => (hB 3 k d).trans (congrArg (fun i => N i d) (Fin.ext (by simp; omega))))))
              · exact (dif_neg h6).trans (Eq.trans (last_head _ _ _ _ _ _) (piece (k0_pay16 v g b w) Q M N hq (A 3) (A 7) (B 7) 3 j ⟨j.val - 128 - 128 - 128 - 128 - 128 - 128 - 128, by omega⟩ (by show j.val / 256 = _; omega) (by dsimp only; omega) (hA 3) (hA 7) (fun k d => (hB 7 k d).trans (congrArg (fun i => N i d) (Fin.ext (by simp; omega))))))

end Cert.PostProof

end
-- ==== Proof.PostValue.lean ====
module

public import proofs.«01_k».proof.Defs
public import proofs.«01_k».proof.Proof.Gen.Kernel6Ideal.Value
public import Idealize.ShloMosaic.Lib.WholeRead
public import proofs.«01_k».proof.Proof.PostBody

@[expose] public section

set_option maxRecDepth 16384

noncomputable section

namespace Cert.PostProof

open Idealize.ShloMosaic Idealize.ShloMosaic.TcCoe Idealize.ShloMosaic.ValueKit Idealize.SL.Sem
open Cert.Kernel6Ideal Cert.Kernel6Ideal.Gen

variable (m : (ℓ : Loc nD τ sig) → Buf (Elt Ideal) ℓ) (c : Dev nD)

/-- Every eighth row of a block, from a first one on. -/
def eighth (X : Vec Ideal S1x2048x128 .f32) (a : ℕ) : Vec Ideal S1x256x128 .f32 := fun i => X (ix3 0 ⟨((i 1).val * 8 + a) % 2048, by omega⟩ (i 2))

theorem strided (b : Memref sig .tc .vmem S1x2048x128 .f32) (h : b.IsWhole) (X : Vec Ideal S1x2048x128 .f32) (a : ℕ)
    (inb : ∀ x, S1x256x128.size x = 0 ∨ (![0, a, 0] : Fin 3 → ℕ) x + (![1, 8, 1] : Fin 3 → ℕ) x * (S1x256x128.size x - 1) < S1x2048x128.size x) :
    View.readAt (Elt Ideal) b.view { off := ![0, a, 0], size := S1x256x128.size, stride := ![1, 8, 1], inb := inb } (h.unread X) = eighth X a := by
  funext i
  refine (h.readAt_unread X _ i).trans (congrArg X ?_)
  have q : 256 = 0 ∨ a + 8 * 255 < 2048 := inb 1
  have i1 : (i 1).val < 256 := (i 1).isLt
  have i0 : (i 0).val < 1 := (i 0).isLt
  funext d
  fin_cases d <;> refine Fin.ext ?_
  · show 0 + 1 * (i 0).val = 0
    omega
  · show a + 8 * (i 1).val = ((i 1).val * 8 + a) % 2048
    omega
  · show 0 + 1 * (i 2).val = (i 2).val
    omega

theorem eighth_apply (X : Vec Ideal S1x2048x128 .f32) (n : Fin 8) (k : Fin 256) (d : Fin 128) : eighth X n.val (ix3 0 k d) = X (ix3 0 ⟨k.val * 8 + n.val, by omega⟩ d) := by
  unfold eighth
  refine congrArg (fun i => X (ix3 0 i d)) (Fin.ext ?_)
  show (k.val * 8 + n.val) % 2048 = k.val * 8 + n.val
  omega

/-- A row of the body's result. -/
theorem body (D S : Vec Ideal S512x512 .f32) (gd gs : Vec Ideal S1x512 .f32) (x : Vec Ideal S512x1024 .f32) (wo wq wc : Vec Ideal S1024x1024 .bf16) (g1 b1 g2 b2 : Vec Ideal S1x1024 .f32)
    (X Y : Vec Ideal S1x2048x128 .f32) (v : FVec Ideal S512x1024 .f32)
    (hv : v = k0_pay14 (k0_pay8 gd (k0_pay3 D gd) (k0_pay4 D gd) (k0_pay5 D gd) (k0_pay6 D) (k0_pay7 D)) S gs (iota .tc S512x128 32 [1] iota_S512x128_d1_w32) (k0_pay9 S gs) (k0_pay11 gs (iota .tc S512x128 32 [1] iota_S512x128_d1_w32) (k0_pay10 S)) (k0_pay12 S) (k0_pay13 S (iota .tc S512x128 32 [1] iota_S512x128_d1_w32)) x wo) (r : Fin 512) (j : Fin 1024) :
    k0_pay1 (k0_pay15 v g1 b1) (k0_pay27 (k0_pay16 v g1 b1 wq) (k0_pay20 (k0_pay17 v g1 b1 wq (eighth X 0) (eighth X 4)) (k0_pay18 v g1 b1 wq (eighth X 0) (eighth X 4)) (eighth Y 0)) (k0_pay21 (k0_pay17 v g1 b1 wq (eighth X 0) (eighth X 4)) (k0_pay18 v g1 b1 wq (eighth X 0) (eighth X 4)) (eighth Y 4)) (k0_pay23 (k0_pay22 (k0_pay16 v g1 b1 wq) (eighth X 1) (eighth X 5)) (eighth Y 1)) (k0_pay24 (k0_pay22 (k0_pay16 v g1 b1 wq) (eighth X 1) (eighth X 5)) (eighth Y 5)) (k0_pay25 (k0_pay16 v g1 b1 wq) (eighth X 2) (eighth X 6)) (k0_pay26 (k0_pay16 v g1 b1 wq) (eighth X 2) (eighth X 6) (eighth Y 2)) (eighth Y 6) (eighth X 3) (eighth X 7) (eighth Y 3) (eighth Y 7)) k0_pay28 wc g2 b2 (ix2 r j)
      = final (mid (fun k => x (ix2 r k)) (fun k => D (ix2 r k)) (fun k => S (ix2 r k)) (fun k => gd (ix2 0 k)) (fun k => gs (ix2 0 k)) wo (fun k => g1 (ix2 0 k)) (fun k => b1 (ix2 0 k))) wq wc
        (fun i d => X (ix3 0 i d)) (fun i d => Y (ix3 0 i d)) (fun k => g2 (ix2 0 k)) (fun k => b2 (ix2 0 k)) j := by
  have hm : ∀ k, k0_pay15 v g1 b1 (ix2 r k) = mid (fun k => x (ix2 r k)) (fun k => D (ix2 r k)) (fun k => S (ix2 r k)) (fun k => gd (ix2 0 k)) (fun k => gs (ix2 0 k)) wo (fun k => g1 (ix2 0 k)) (fun k => b1 (ix2 0 k)) k := fun k => by
    rw [mid_norm, hv]
    unfold mid
    rw [← funext (first_sum D S gd gs x wo r)]
  have ha := joined v g1 b1 wq _ (fun i d => X (ix3 0 i d)) (fun i d => Y (ix3 0 i d)) (fun n => eighth X n.val) (fun n => eighth Y n.val) r
    (fun j => (queries v g1 b1 wq r j).trans (congrArg (fun z => proj z wq j * _) (funext hm))) (eighth_apply X) (eighth_apply Y)
  exact (last_norm _ _ wc g2 b2 r j).trans (congrArg₂ (fun a o => lnRow (carried a (proj o wc)) (fun k => g2 (ix2 0 k)) (fun k => b2 (ix2 0 k)) j) (funext hm) (funext ha))

theorem left_out (t : Fin grid0.N) (r : Fin 512) (j : Fin 1024) : (outsAt0 m c t).1 (ix2 r j)
    = final (mid (fun k => iblk m c 0 t (ix2 r k)) (fun k => iblk m c 1 t (ix2 r k)) (fun k => iblk m c 2 t (ix2 r k)) (fun k => iblk m c 3 t (ix2 0 k)) (fun k => iblk m c 4 t (ix2 0 k)) (iblk m c 5 t)
        (fun k => iblk m c 6 t (ix2 0 k)) (fun k => iblk m c 7 t (ix2 0 k))) (iblk m c 8 t) (iblk m c 11 t) (fun i d => iblk m c 9 t (ix3 0 i d)) (fun i d => iblk m c 10 t (ix3 0 i d))
        (fun k => iblk m c 12 t (ix2 0 k)) (fun k => iblk m c 13 t (ix2 0 k)) j := by
  simp only [outsAt0]
  frame_out
  refine Eq.trans ?_ (body (iblk m c 1 t) (iblk m c 2 t) (iblk m c 3 t) (iblk m c 4 t) (iblk m c 0 t) (iblk m c 5 t) (iblk m c 8 t) (iblk m c 11 t) (iblk m c 6 t) (iblk m c 7 t) (iblk m c 12 t) (iblk m c 13 t)
    (iblk m c 9 t) (iblk m c 10 t) _ rfl r j)
  rw [← strided (ms0_9 t) (hs0_9 t) (iblk m c 9 t) 0 inb_S1x2048x128_S1x256x128_0_0_0_s_1_8_1, ← strided (ms0_9 t) (hs0_9 t) (iblk m c 9 t) 1 inb_S1x2048x128_S1x256x128_0_1_0_s_1_8_1,
    ← strided (ms0_9 t) (hs0_9 t) (iblk m c 9 t) 2 inb_S1x2048x128_S1x256x128_0_2_0_s_1_8_1, ← strided (ms0_9 t) (hs0_9 t) (iblk m c 9 t) 3 inb_S1x2048x128_S1x256x128_0_3_0_s_1_8_1,
    ← strided (ms0_9 t) (hs0_9 t) (iblk m c 9 t) 4 inb_S1x2048x128_S1x256x128_0_4_0_s_1_8_1, ← strided (ms0_9 t) (hs0_9 t) (iblk m c 9 t) 5 inb_S1x2048x128_S1x256x128_0_5_0_s_1_8_1,
    ← strided (ms0_9 t) (hs0_9 t) (iblk m c 9 t) 6 inb_S1x2048x128_S1x256x128_0_6_0_s_1_8_1, ← strided (ms0_9 t) (hs0_9 t) (iblk m c 9 t) 7 inb_S1x2048x128_S1x256x128_0_7_0_s_1_8_1,
    ← strided (ms0_10 t) (hs0_10 t) (iblk m c 10 t) 0 inb_S1x2048x128_S1x256x128_0_0_0_s_1_8_1, ← strided (ms0_10 t) (hs0_10 t) (iblk m c 10 t) 1 inb_S1x2048x128_S1x256x128_0_1_0_s_1_8_1,
    ← strided (ms0_10 t) (hs0_10 t) (iblk m c 10 t) 2 inb_S1x2048x128_S1x256x128_0_2_0_s_1_8_1, ← strided (ms0_10 t) (hs0_10 t) (iblk m c 10 t) 3 inb_S1x2048x128_S1x256x128_0_3_0_s_1_8_1,
    ← strided (ms0_10 t) (hs0_10 t) (iblk m c 10 t) 4 inb_S1x2048x128_S1x256x128_0_4_0_s_1_8_1, ← strided (ms0_10 t) (hs0_10 t) (iblk m c 10 t) 5 inb_S1x2048x128_S1x256x128_0_5_0_s_1_8_1,
    ← strided (ms0_10 t) (hs0_10 t) (iblk m c 10 t) 6 inb_S1x2048x128_S1x256x128_0_6_0_s_1_8_1, ← strided (ms0_10 t) (hs0_10 t) (iblk m c 10 t) 7 inb_S1x2048x128_S1x256x128_0_7_0_s_1_8_1]

theorem left_cast (t : Fin grid0.N) (y : S512x1024.Idx) : (outsAt0 m c t).2 y = (outsAt0 m c t).1 y := by
  simp only [outsAt0]
  frame_out
  rfl

theorem idx : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 8, 0, 0] ∧ win0_10.index t = ![t.val / 8, 0, 0] ∧ win0_11.index t = ![0, 0]
    ∧ win0_12.index t = ![0, 0] ∧ win0_13.index t = ![0, 0] ∧ win0_14.index t = ![t.val, 0] ∧ win0_15.index t = ![t.val, 0] ∧ t.val < 32 := by decide +kernel

/-- The layer's rows after the attention and the memory. -/
def rows (x : FVec Ideal S16384x1024 .f32) (D S : FVec Ideal S16384x512 .f32) (X Y : FVec Ideal S4x2048x128 .f32) (gd gs : FVec Ideal S1x512 .f32) (wo : FVec Ideal S1024x1024 .f32) (g1 b1 : FVec Ideal S1x1024 .f32)
    (wq wc : FVec Ideal S1024x1024 .f32) (g2 b2 : FVec Ideal S1x1024 .f32) (p : Fin 16384) : Fin 1024 → EReal :=
  final (mid (fun k => x (ix2 p k)) (fun k => D (ix2 p k)) (fun k => S (ix2 p k)) (fun k => gd (ix2 0 k)) (fun k => gs (ix2 0 k)) wo (fun k => g1 (ix2 0 k)) (fun k => b1 (ix2 0 k))) wq wc
    (fun i d => X (ix3 ⟨p.val / 4096, by omega⟩ i d)) (fun i d => Y (ix3 ⟨p.val / 4096, by omega⟩ i d)) (fun k => g2 (ix2 0 k)) (fun k => b2 (ix2 0 k))

def result : FVec Ideal S16384x1024 .f32 := fun i => rows (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
  (m ((c : Thread nD τ).loc main_arg10)) (m ((c : Thread nD τ).loc main_arg11)) (m ((c : Thread nD τ).loc main_arg12)) (m ((c : Thread nD τ).loc main_arg13)) (i 0) (i 1)

theorem block0 (t : Fin grid0.N) (r : Fin 512) (k : Fin 1024) (p : Fin 16384) (hp : p.val = t.val * 512 + r.val) : iblk m c 0 t (ix2 r k) = m ((c : Thread nD τ).loc main_arg0) (ix2 p k) := by
  blk_ext [iblk, V, (idx t).1]

theorem block1 (t : Fin grid0.N) (r : Fin 512) (k : Fin 512) (p : Fin 16384) (hp : p.val = t.val * 512 + r.val) : iblk m c 1 t (ix2 r k) = m ((c : Thread nD τ).loc main_arg1) (ix2 p k) := by
  blk_ext [iblk, V, (idx t).2.1]

theorem block2 (t : Fin grid0.N) (r : Fin 512) (k : Fin 512) (p : Fin 16384) (hp : p.val = t.val * 512 + r.val) : iblk m c 2 t (ix2 r k) = m ((c : Thread nD τ).loc main_arg2) (ix2 p k) := by
  blk_ext [iblk, V, (idx t).2.2.1]

theorem block3 (t : Fin grid0.N) (k : Fin 512) : iblk m c 3 t (ix2 0 k) = m ((c : Thread nD τ).loc main_arg5) (ix2 0 k) := by
  blk_ext [iblk, V, (idx t).2.2.2.1]

theorem block4 (t : Fin grid0.N) (k : Fin 512) : iblk m c 4 t (ix2 0 k) = m ((c : Thread nD τ).loc main_arg6) (ix2 0 k) := by
  blk_ext [iblk, V, (idx t).2.2.2.2.1]

theorem block5 (t : Fin grid0.N) : iblk m c 5 t = m ((c : Thread nD τ).loc main_arg7) := by
  funext y
  idx_vars y
  blk_ext [iblk, V, (idx t).2.2.2.2.2.1]

theorem block6 (t : Fin grid0.N) (k : Fin 1024) : iblk m c 6 t (ix2 0 k) = m ((c : Thread nD τ).loc main_arg8) (ix2 0 k) := by
  blk_ext [iblk, V, (idx t).2.2.2.2.2.2.1]

theorem block9 (t : Fin grid0.N) (r : Fin 512) (i : Fin 2048) (d : Fin 128) (p : Fin 16384) (hp : p.val = t.val * 512 + r.val) : iblk m c 9 t (ix3 0 i d) = m ((c : Thread nD τ).loc main_arg3) (ix3 ⟨p.val / 4096, by omega⟩ i d) := by
  blk_ext [iblk, V, (idx t).2.2.2.2.2.2.2.2.2.1]

theorem block7 (t : Fin grid0.N) (k : Fin 1024) : iblk m c 7 t (ix2 0 k) = m ((c : Thread nD τ).loc main_arg9) (ix2 0 k) := by
  blk_ext [iblk, V, (idx t).2.2.2.2.2.2.2.1]

theorem block8 (t : Fin grid0.N) : iblk m c 8 t = m ((c : Thread nD τ).loc main_arg10) := by
  funext y
  idx_vars y
  blk_ext [iblk, V, (idx t).2.2.2.2.2.2.2.2.1]

theorem block10 (t : Fin grid0.N) (r : Fin 512) (i : Fin 2048) (d : Fin 128) (p : Fin 16384) (hp : p.val = t.val * 512 + r.val) : iblk m c 10 t (ix3 0 i d) = m ((c : Thread nD τ).loc main_arg4) (ix3 ⟨p.val / 4096, by omega⟩ i d) := by
  blk_ext [iblk, V, (idx t).2.2.2.2.2.2.2.2.2.2.1]

theorem block11 (t : Fin grid0.N) : iblk m c 11 t = m ((c : Thread nD τ).loc main_arg11) := by
  funext y
  idx_vars y
  blk_ext [iblk, V, (idx t).2.2.2.2.2.2.2.2.2.2.2.1]

theorem block12 (t : Fin grid0.N) (k : Fin 1024) : iblk m c 12 t (ix2 0 k) = m ((c : Thread nD τ).loc main_arg12) (ix2 0 k) := by
  blk_ext [iblk, V, (idx t).2.2.2.2.2.2.2.2.2.2.2.2.1]

theorem block13 (t : Fin grid0.N) (k : Fin 1024) : iblk m c 13 t (ix2 0 k) = m ((c : Thread nD τ).loc main_arg13) (ix2 0 k) := by
  blk_ext [iblk, V, (idx t).2.2.2.2.2.2.2.2.2.2.2.2.2.1]

theorem left_row (t : Fin grid0.N) (r : Fin 512) (j : Fin 1024) (p : Fin 16384) (hp : p.val = t.val * 512 + r.val) : (outsAt0 m c t).1 (ix2 r j) = result m c (ix2 p j) := by
  refine (left_out m c t r j).trans ?_
  rw [block5, block8, block11]
  simp only [block0 m c t r _ p hp, block1 m c t r _ p hp, block2 m c t r _ p hp, block3, block4, block6, block7, block9 m c t r _ _ p hp, block10 m c t r _ _ p hp, block12, block13]
  rfl

theorem array14 : (dats m 0 c).arrAt 14 cfg0.N = result m c := by
  refine (dats m 0 c).arrAt_eq_of_covers 14 _ (by decide +kernel) fun t hf y => ?_
  idx_vars y
  have ht := (idx t).2.2.2.2.2.2.2.2.2.2.2.2.2.2.2.2
  blk_simp
  rw [after0_14]
  refine (left_row m c t y0 y1 ⟨t.val * 512 + y0.val, by omega⟩ rfl).trans (congrArg (result m c) ?_)
  blk_ext [(idx t).2.2.2.2.2.2.2.2.2.2.2.2.2.2.1]

theorem array15 : (dats m 0 c).arrAt 15 cfg0.N = result m c := by
  refine (dats m 0 c).arrAt_eq_of_covers 15 _ (by decide +kernel) fun t hf y => ?_
  idx_vars y
  have ht := (idx t).2.2.2.2.2.2.2.2.2.2.2.2.2.2.2.2
  blk_simp
  rw [after0_15]
  refine ((left_cast m c t _).trans (left_row m c t y0 y1 ⟨t.val * 512 + y0.val, by omega⟩ rfl)).trans (congrArg (result m c) ?_)
  blk_ext [(idx t).2.2.2.2.2.2.2.2.2.2.2.2.2.2.2.1]

end Cert.PostProof

end
-- ==== Proof.PostClaims.lean ====
module

public import proofs.«01_k».proof.Defs
public import proofs.«01_k».proof.Proof.Gen.Kernel6.Frame
public import proofs.«01_k».proof.Proof.PostRef
public import proofs.«01_k».proof.Proof.PostValue

@[expose] public section

set_option maxRecDepth 16384

noncomputable section

namespace Cert.PostProof

open Idealize.ShloMosaic Idealize.ShloMosaic.TcCoe Idealize.ShloMosaic.ValueKit Idealize.SL.Sem

/-- With the machine's floats, and with exact arithmetic, the run is covered and keeps its arguments. -/
theorem frame_rounded : Cert.quiescent_Kernel6 := fun m ρ _ => Cert.Kernel6.Gen.frame m ρ

theorem frame_exact : Cert.quiescent_Kernel6Ideal := fun m ρ _ => Cert.Kernel6Ideal.Gen.frame m ρ

theorem frame_ref : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

section Same
open Cert.Kernel6Ideal

/-- On the same arguments the reference's rows are the kernel's. -/
theorem out_result (m : (ℓ : Loc nD τ sig) → Buf (Elt Ideal) ℓ) (W : Valuation Cert.Reference6Ideal.τ Cert.Reference6Ideal.sig (Elt Ideal)) (c : Dev nD)
    (h0 : gx W = m ((c : Thread nD τ).loc main_arg0)) (h1 : gD W = m ((c : Thread nD τ).loc main_arg1)) (h2 : gS W = m ((c : Thread nD τ).loc main_arg2)) (h3 : gM W = m ((c : Thread nD τ).loc main_arg3))
    (h4 : gN W = m ((c : Thread nD τ).loc main_arg4)) (h5 : ggd W = m ((c : Thread nD τ).loc main_arg5)) (h6 : ggs W = m ((c : Thread nD τ).loc main_arg6)) (h7 : gwo W = m ((c : Thread nD τ).loc main_arg7))
    (h8 : gg1 W = m ((c : Thread nD τ).loc main_arg8)) (h9 : gb1 W = m ((c : Thread nD τ).loc main_arg9)) (h10 : gwq W = m ((c : Thread nD τ).loc main_arg10)) (h11 : gwc W = m ((c : Thread nD τ).loc main_arg11))
    (h12 : gg2 W = m ((c : Thread nD τ).loc main_arg12)) (h13 : gb2 W = m ((c : Thread nD τ).loc main_arg13)) : out W = result m c := by
  funext i
  idx_vars i
  rw [ref_rows, h0, h1, h2, h3, h4, h5, h6, h7, h8, h9, h10, h11, h12, h13]
  rfl

end Same

/-- With exact arithmetic the rows after the attention and the memory are the reference's. -/
theorem value : Cert.algebraic_Kernel6Ideal_Reference6Ideal := by
  intro m ρ m' ρ' hpre hag
  refine ⟨fun c => result m c, fun c => result m c, ?_, ?_⟩
  · exact (θ_run Cert.Kernel6Ideal.defs _ _).mono (fun r h c => ⟨(h c).1.trans (array14 m c), (h c).2.1.trans (array15 m c), (h c).2.2⟩)
      (Cert.Kernel6Ideal.Value.run_blocks (F := Ideal) m ρ)
  · refine (θ_run Cert.Reference6Ideal.defs _ _).mono (fun r h c => ?_) (Cert.Reference6Ideal.Value.run (F := Ideal) m' ρ')
    obtain ⟨h0, h1, h2, h3, h4, h5, h6, h7, h8, h9, h10, h11, h12, h13⟩ := hag c
    have e := out_result m (Idealize.ShloMosaic.StableHlo.launchContents m' c) c h0 h1 h2 h3 h4 h5 h6 h7 h8 h9 h10 h11 h12 h13
    exact ⟨(h c).1.trans e, (h c).2.1.trans e, (h c).2.2⟩

end Cert.PostProof

end
-- ==== Proof.AttnClaims.lean ====
module

public import proofs.«01_k».proof.Proof.Gen.Kernel7.Flash
public import proofs.«01_k».proof.Proof.Gen.Kernel7Ideal.Flash
public import proofs.«01_k».proof.Proof.Gen.Reference7Ideal.Run
public import proofs.«01_k».proof.Proof.Gen.Pre_table_of_blocks
public import Idealize.ShloMosaic.Lib.Pipeline.Value
public import Idealize.ShloMosaic.Lib.WordArith

@[expose] public section

set_option maxRecDepth 16384

noncomputable section

namespace Cert.AttnProof

open Idealize.ShloMosaic Idealize.ShloMosaic.TcCoe Idealize.SL.Sem Idealize.ShloMosaic.WordArith

instance : Cert.Pre_table_of_blocks.Facts := Cert.Pre_table_of_blocks.Gen.facts

/-- Two words whose comparison holds are one word. -/
theorem word_eq (a b : BitVec 32) (h : IntOp.cmpi .eq a b = 1#1) : a = b := by
  simpa [IntOp.cmpi, ofBool_eq_one_iff] using h

abbrev T : Shape := ⟨1, ![136]⟩

/-- Two tables of 136 words joined: where the whole row is true, each half is. -/
theorem halves (a b : T.Idx → BitVec 1) (hc : Shape.Concatenates [T, T] Cert.Pre_table_of_blocks.S272 0)
    (h : concatenate Cert.Pre_table_of_blocks.S272 0 [⟨T, a⟩, ⟨T, b⟩] hc = fun _ => 1#1) (y : T.Idx) : a y = 1#1 ∧ b y = 1#1 := by
  have hy : (y 0).val < 136 := (y 0).isLt
  constructor
  · refine (concatenate_pair_apply_left _ a b hc (fun i => ⟨(y 0).val, by fin_cases i; exact Nat.lt_of_lt_of_le hy (by decide)⟩) rfl y ?_).symm.trans (congrFun h _)
    intro i; fin_cases i; rfl
  · refine (concatenate_pair_apply_right _ a b hc (fun i => ⟨(y 0).val + 136, by fin_cases i; exact Nat.add_lt_add_right hy 136⟩) rfl rfl y ?_ rfl).symm.trans (congrFun h _)
    intro i hi; exact absurd (Subsingleton.elim _ _) hi

theorem mem_facts (a b p q : T.Idx → BitVec 32) (hc : Shape.Concatenates [T, T] Cert.Pre_table_of_blocks.S272 0)
    (h : concatenate Cert.Pre_table_of_blocks.S272 0 [⟨T, cmpi .eq a p⟩, ⟨T, cmpi .eq b q⟩] hc = fun _ => 1#1) : a = p ∧ b = q :=
  ⟨funext fun y => word_eq _ _ (halves _ _ hc h y).1, funext fun y => word_eq _ _ (halves _ _ hc h y).2⟩

section Rounded
open Cert.Kernel7

theorem rows_rounded : (fun i : T.Idx => Cert.Pre_table_of_blocks.lit0 (T.rowMajor i)) = Gen.pinT_0 0 := by
  funext y
  obtain ⟨k, rfl⟩ := T.rowMajor.symm.surjective y
  rw [Equiv.apply_symm_apply]
  revert k
  decide +kernel

theorem cols_rounded : (fun i : T.Idx => Cert.Pre_table_of_blocks.lit1 (T.rowMajor i)) = Gen.pinT_1 0 := by
  funext y
  obtain ⟨k, rfl⟩ := T.rowMajor.symm.surjective y
  rw [Equiv.apply_symm_apply]
  revert k
  decide +kernel

theorem pinned_rounded (m : (ℓ : Loc nD τ sig) → Buf (Elt Bits) ℓ) (h : Cert.Pre_Kernel7 m) : Gen.Pinned 0 m :=
  ⟨fun c => (mem_facts _ _ _ _ Cert.Pre_table_of_blocks.Gen.concatenates_S136_S136_S272_d0 (h c)).1.trans rows_rounded, fun c => (mem_facts _ _ _ _ Cert.Pre_table_of_blocks.Gen.concatenates_S136_S136_S272_d0 (h c)).2.trans cols_rounded⟩

/-- The prompt's attention at the machine's floats. -/
theorem frame_rounded : Cert.quiescent_Kernel7 := fun m ρ h => Gen.frame 0 m ρ (pinned_rounded m h)

end Rounded

section Exact
open Cert.Kernel7Ideal

theorem rows_exact : (fun i : T.Idx => Cert.Pre_table_of_blocks.lit0 (T.rowMajor i)) = Gen.pinT_0 0 := rows_rounded

theorem cols_exact : (fun i : T.Idx => Cert.Pre_table_of_blocks.lit1 (T.rowMajor i)) = Gen.pinT_1 0 := cols_rounded

theorem pinned_exact (m : (ℓ : Loc nD τ sig) → Buf (Elt Ideal) ℓ) (h : Cert.Pre_Kernel7Ideal m) : Gen.Pinned 0 m :=
  ⟨fun c => (mem_facts _ _ _ _ Cert.Pre_table_of_blocks.Gen.concatenates_S136_S136_S272_d0 (h c)).1.trans rows_exact, fun c => (mem_facts _ _ _ _ Cert.Pre_table_of_blocks.Gen.concatenates_S136_S136_S272_d0 (h c)).2.trans cols_exact⟩

/-- The same with exact arithmetic, the mask and the floor named. -/
theorem frame_exact : Cert.quiescent_Kernel7Ideal := fun m ρ h => Gen.frame 0 m ρ (pinned_exact m h)

/-- The mask and the floor are minus infinity in the table of names. -/
theorem named : Cert.preserves_Kernel7_Kernel7Ideal :=
  ⟨IdealRules.named_const.statement _ _ _ _ _ rfl, IdealRules.named_const.statement _ _ _ _ _ rfl⟩

end Exact

/-- The reference keeps its arguments. -/
theorem frame_ref : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

end Cert.AttnProof

end
-- ==== Proof.PostSamplesRef.lean ====
module

public import proofs.«01_k».proof.Defs
public import proofs.«01_k».proof.Proof.Gen.Reference8Ideal.Run
public import proofs.«01_k».proof.Proof.PostRef

@[expose] public section

set_option maxRecDepth 16384

noncomputable section

namespace Cert.PostSamplesProof

open Idealize.ShloMosaic Idealize.ShloMosaic.TcCoe Idealize.ShloMosaic.ValueKit Idealize.SL.Sem

section Ref
open Cert.PostProof Cert.Reference8Ideal Cert.Reference8Ideal.Gen Cert.Reference8Ideal.Value

variable (W : Valuation τ sig (Elt Ideal))

abbrev gx : FVec Ideal S512x1024 .f32 := W (Proc.devRef .tc main_arg0)
abbrev gD : FVec Ideal S512x512 .f32 := W (Proc.devRef .tc main_arg1)
abbrev gS : FVec Ideal S512x512 .f32 := W (Proc.devRef .tc main_arg2)
abbrev gM : FVec Ideal S128x2048x128 .f32 := W (Proc.devRef .tc main_arg3)
abbrev gN : FVec Ideal S128x2048x128 .f32 := W (Proc.devRef .tc main_arg4)
abbrev ggd : FVec Ideal S1x512 .f32 := W (Proc.devRef .tc main_arg5)
abbrev ggs : FVec Ideal S1x512 .f32 := W (Proc.devRef .tc main_arg6)
abbrev gwo : FVec Ideal S1024x1024 .f32 := W (Proc.devRef .tc main_arg7)
abbrev gg1 : FVec Ideal S1x1024 .f32 := W (Proc.devRef .tc main_arg8)
abbrev gb1 : FVec Ideal S1x1024 .f32 := W (Proc.devRef .tc main_arg9)
abbrev gwq : FVec Ideal S1024x1024 .f32 := W (Proc.devRef .tc main_arg10)
abbrev gwc : FVec Ideal S1024x1024 .f32 := W (Proc.devRef .tc main_arg11)
abbrev gg2 : FVec Ideal S1x1024 .f32 := W (Proc.devRef .tc main_arg12)
abbrev gb2 : FVec Ideal S1x1024 .f32 := W (Proc.devRef .tc main_arg13)

theorem ref_sum (p : Fin 512) (j : Fin 1024) : res_main_v38 W (ix2 p j)
    = carried (fun k => gx W (ix2 p k)) (proj (mixRow (fun k => gD W (ix2 p k)) (fun k => gS W (ix2 p k)) (fun k => ggd W (ix2 0 k)) (fun k => ggs W (ix2 0 k))) (gwo W)) j := by
  unfold res_main_v38 res_main_v0 res_main_v17 carried proj
  pointwise
  rw [sum_both]
  simp only [low_entry, high_entry]

theorem ref_norm (p : Fin 512) (j : Fin 1024) : res_main_v60 W (ix2 p j) = lnRow (fun k => res_main_v38 W (ix2 p k)) (fun k => gg1 W (ix2 0 k)) (fun k => gb1 W (ix2 0 k)) j := by
  unfold res_main_v60 res_main_v44 res_main_v42 lnRow meanOf
  pointwise

theorem reduces_keys : S128x4x4x256.Reduces [3] S128x4x4 := by decide

theorem lift_keys (g : Fin 128) (h q : Fin 4) (k : Fin 256) : reduces_keys.lift (ix3 g h q) k = ix4 g h q k := by
  funext d
  refine Fin.ext ((Shape.Reduces.lift_val _ _ _ _).trans ?_)
  fin_cases d <;> rfl

theorem fold_keys (X : FVec Ideal S128x4x4x256 .f32) (g : Fin 128) (h q : Fin 4) :
    Host.reduce FloatOps.maximumf X (constant S_ .f32 0xFF800000#32) reducesTo_S128x4x4x256_S128x4x4_d3 h_S_ (ix3 g h q) = top fun k => X (ix4 g h q k) := by
  rw [Host.reduce_eq_fold_single FloatOps.maximumf X _ _ reduces_keys _ _]
  have e : (X ∘ reduces_keys.lift (ix3 g h q)) = fun k => X (ix4 g h q k) := funext fun k => congrArg X (lift_keys g h q k)
  rw [e]
  rfl

theorem over_floor (R : FVec Ideal S128x4x4 .f32) (g : Fin 128) (h q : Fin 4) :
    maximumf (broadcastInDim S128x4x4 ![] bcast_S_S128x4x4 (constant S_ .f32 0xFF800000#32 : FVec Ideal S_ .f32)) R (ix3 g h q) = max (Ideal.ofBits .f32 0xFF800000#32) (R (ix3 g h q)) := by
  pointwise

/-- The largest of the scores along the memory. -/
theorem ref_top (X : FVec Ideal S128x4x4x256 .f32) (g : Fin 128) (h q : Fin 4) :
    maximumf (broadcastInDim S128x4x4 ![] bcast_S_S128x4x4 (constant S_ .f32 0xFF800000#32 : FVec Ideal S_ .f32)) (Host.reduce FloatOps.maximumf X (constant S_ .f32 0xFF800000#32) reducesTo_S128x4x4x256_S128x4x4_d3 h_S_) (ix3 g h q)
      = top fun k => X (ix4 g h q k) := by
  rw [over_floor, fold_keys]
  exact max_eq_right ((Finset.le_fold_max _).2 (Or.inl le_rfl))

theorem exp_from (X : FVec Ideal S128x4x4x256 .f32) (T : FVec Ideal S128x4x4 .f32) (g : Fin 128) (h q : Fin 4) (k : Fin 256) :
    Host.exp (subf X (broadcastInDim S128x4x4x256 ![0, 1, 2, 3] bcast_S128x4x4x1_S128x4x4x256_0_1_2_3 (broadcastInDim S128x4x4x1 ![0, 1, 2] bcast_S128x4x4_S128x4x4x1_0_1_2 T))) (ix4 g h q k)
      = Ideal.exp (X (ix4 g h q k) - T (ix3 g h q)) := by
  pointwise

theorem ref_exp (g : Fin 128) (h q : Fin 4) (s : Fin 256 → EReal) (hs : ∀ k, res_main_v68 W (ix4 g h q k) = s k) (k : Fin 256) : res_main_v75 W (ix4 g h q k) = Ideal.exp (s k - top s) := by
  unfold res_main_v75
  refine (exp_from _ _ g h q k).trans ?_
  rw [ref_top, hs]
  exact congrArg (fun f => Ideal.exp (s k - top f)) (funext hs)

theorem ref_score (g : Fin 128) (h q : Fin 4) (k : Fin 256) : res_main_v68 W (ix4 g h q k)
    = score (proj (fun k => res_main_v60 W (ix2 ⟨g.val * 4 + q.val, by omega⟩ k)) (gwq W)) (fun i d => gM W (ix3 g i d)) h k := by
  unfold res_main_v68 score proj
  pointwise

theorem ref_last (p : Fin 512) (j : Fin 1024) : res_main_v89 W (ix2 p j)
    = carried (fun k => res_main_v60 W (ix2 p k)) (proj (fun l => ∑ k : Fin 256, Ideal.div (res_main_v75 W (ix4 ⟨p.val / 4, by omega⟩ ⟨l.val / 256, by omega⟩ ⟨p.val % 4, by omega⟩ k))
        (∑ k : Fin 256, res_main_v75 W (ix4 ⟨p.val / 4, by omega⟩ ⟨l.val / 256, by omega⟩ ⟨p.val % 4, by omega⟩ k)) * gN W (ix3 ⟨p.val / 4, by omega⟩ ⟨k.val * 8 + l.val % 256 / 128 * 4 + l.val / 256, by omega⟩ ⟨l.val % 128, by omega⟩)) (gwc W)) j := by
  unfold res_main_v89 carried proj
  pointwise
  refine add_right (Finset.sum_congr rfl fun x _ => mul_left (Finset.sum_congr rfl fun k _ => (mul_comm _ _).trans (mul_right ?_)))
  have e : x.val % 256 % 128 = x.val % 128 := by omega
  simp only [e]

theorem ref_memory (p : Fin 512) (j : Fin 1024) (y : Fin 1024 → EReal) (hy : ∀ k, res_main_v60 W (ix2 p k) = y k) : res_main_v89 W (ix2 p j)
    = carried y (proj (attended (proj y (gwq W)) (fun i d => gM W (ix3 ⟨p.val / 4, by omega⟩ i d)) (fun i d => gN W (ix3 ⟨p.val / 4, by omega⟩ i d))) (gwc W)) j := by
  have hp : (⟨p.val / 4 * 4 + p.val % 4, by omega⟩ : Fin 512) = p := Fin.ext (Nat.div_add_mod' _ _)
  have hs : ∀ (h : Fin 4) (k : Fin 256), res_main_v68 W (ix4 ⟨p.val / 4, by omega⟩ h ⟨p.val % 4, by omega⟩ k)
      = score (proj y (gwq W)) (fun i d => gM W (ix3 ⟨p.val / 4, by omega⟩ i d)) h k := fun h k => by
    rw [ref_score]
    dsimp only
    rw [hp]
    simp only [hy]
  rw [ref_last]
  simp only [ref_exp W _ _ _ _ (hs _), hy]
  rfl

/-- The layer's normalised rows. -/
def out : FVec Ideal S512x1024 .f32 :=
  addf (mulf (mulf (subf (res_main_v89 W) (broadcastInDim S512x1024 ![0, 1] bcast_S512x1_S512x1024_0_1 (res_main_v93 W))) (broadcastInDim S512x1024 ![0, 1] bcast_S512x1_S512x1024_0_1 (Host.rsqrt (addf (Host.divf (broadcastInDim S512x1 ![0] bcast_S512_S512x1_0 (Host.reduceAdd (mulf (res_main_v95 W) (res_main_v95 W)) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x3727C5AC#32)))))) (broadcastInDim S512x1024 ![0, 1] bcast_S1x1024_S512x1024_0_1 (W (Proc.devRef .tc main_arg12)))) (broadcastInDim S512x1024 ![0, 1] bcast_S1x1024_S512x1024_0_1 (W (Proc.devRef .tc main_arg13)))

theorem out_norm (p : Fin 512) (j : Fin 1024) : out W (ix2 p j) = lnRow (fun k => res_main_v89 W (ix2 p k)) (fun k => gg2 W (ix2 0 k)) (fun k => gb2 W (ix2 0 k)) j := by
  unfold out res_main_v95 res_main_v93 lnRow meanOf
  pointwise

theorem ref_rows (p : Fin 512) (j : Fin 1024) : out W (ix2 p j)
    = final (mid (fun k => gx W (ix2 p k)) (fun k => gD W (ix2 p k)) (fun k => gS W (ix2 p k)) (fun k => ggd W (ix2 0 k)) (fun k => ggs W (ix2 0 k)) (gwo W) (fun k => gg1 W (ix2 0 k)) (fun k => gb1 W (ix2 0 k))) (gwq W) (gwc W)
      (fun i d => gM W (ix3 ⟨p.val / 4, by omega⟩ i d)) (fun i d => gN W (ix3 ⟨p.val / 4, by omega⟩ i d)) (fun k => gg2 W (ix2 0 k)) (fun k => gb2 W (ix2 0 k)) j := by
  have hy : ∀ k, res_main_v60 W (ix2 p k) = mid (fun k => gx W (ix2 p k)) (fun k => gD W (ix2 p k)) (fun k => gS W (ix2 p k)) (fun k => ggd W (ix2 0 k)) (fun k => ggs W (ix2 0 k)) (gwo W) (fun k => gg1 W (ix2 0 k)) (fun k => gb1 W (ix2 0 k)) k := fun k =>
    (ref_norm W p k).trans (congrArg (fun f => lnRow f _ _ k) (funext (ref_sum W p)))
  exact (out_norm W p j).trans (congrArg (fun f => lnRow f _ _ j) (funext fun k => ref_memory W p k _ hy))

end Ref

end Cert.PostSamplesProof

end
-- ==== Proof.PostSamplesBody.lean ====
module

public import proofs.«01_k».proof.Defs
public import proofs.«01_k».proof.Proof.Gen.Kernel8Ideal.Value
public import proofs.«01_k».proof.Proof.PostBody

@[expose] public section

set_option maxRecDepth 16384

noncomputable section

namespace Cert.PostSamplesProof

open Idealize.ShloMosaic Idealize.ShloMosaic.TcCoe Idealize.ShloMosaic.ValueKit Idealize.SL.Sem
open Cert.PostProof Cert.Kernel8Ideal Cert.Kernel8Ideal.Gen

theorem last_norm (a : FVec Ideal S16x1024 .f32) (o : FVec Ideal S16x1024 .bf16) (w : Vec Ideal S1024x1024 .bf16) (g b : Vec Ideal S1x1024 .f32) (r : Fin 16) (j : Fin 1024) :
    k0_pay79 o (k0_pay78 a) w g b (ix2 r j) = lnRow (carried (fun k => a (ix2 r k)) (proj (fun k => o (ix2 r k)) w)) (fun k => g (ix2 0 k)) (fun k => b (ix2 0 k)) j := by
  unfold k0_pay79 k0_pay78 lnRow meanOf carried proj
  pointwise

theorem mid_norm (a : FVec Ideal S16x1024 .f32) (g b : Vec Ideal S1x1024 .f32) (r : Fin 16) (j : Fin 1024) :
    k0_pay14 a g b (ix2 r j) = lnRow (fun k => a (ix2 r k)) (fun k => g (ix2 0 k)) (fun k => b (ix2 0 k)) j := by
  unfold k0_pay14 lnRow meanOf
  pointwise

theorem queries (a : FVec Ideal S16x1024 .f32) (g b : Vec Ideal S1x1024 .f32) (w : Vec Ideal S1024x1024 .bf16) (r : Fin 16) (j : Fin 1024) :
    k0_pay15 a g b w (ix2 r j) = proj (fun k => k0_pay14 a g b (ix2 r k)) w j * Ideal.ofBits .f32 0x3D800000#32 := by
  unfold k0_pay15 proj
  pointwise

theorem norm128 (x : Vec Ideal S16x512 .f32) (g : Vec Ideal S1x512 .f32) (r : Fin 16) (l : Fin 512) :
    k0_pay7 g (k0_pay2 x g) (k0_pay3 x g) (k0_pay4 x g) (k0_pay5 x) (k0_pay6 x) (ix2 r l) = rms128 (fun k => x (ix2 r k)) (fun k => g (ix2 0 k)) l * Ideal.ofBits .f32 0x3F4CCCCD#32 := by
  unfold k0_pay7 k0_pay6 k0_pay5 k0_pay4 k0_pay3 k0_pay2
  pointwise
  have hl := l.isLt
  refine congrArg (· * _) ?_
  by_cases h0 : l.val < 128
  · exact (dif_pos h0).trans (rms128_of (fun k => x (ix2 r k)) (fun k => g (ix2 0 k)) l l (fun k => ⟨k.val, by omega⟩) rfl fun k => by dsimp only; omega)
  · refine (dif_neg h0).trans ?_
    by_cases h1 : l.val - 128 < 128
    · exact (dif_pos h1).trans (rms128_of (fun k => x (ix2 r k)) (fun k => g (ix2 0 k)) l ⟨128 + (l.val - 128), by omega⟩ (fun k => ⟨128 + k.val, by omega⟩) (by dsimp only; omega) fun k => by dsimp only; omega)
    · refine (dif_neg h1).trans ?_
      by_cases h2 : l.val - 128 - 128 < 128
      · exact (dif_pos h2).trans (rms128_of (fun k => x (ix2 r k)) (fun k => g (ix2 0 k)) l ⟨256 + (l.val - 128 - 128), by omega⟩ (fun k => ⟨256 + k.val, by omega⟩) (by dsimp only; omega) fun k => by dsimp only; omega)
      · exact (dif_neg h2).trans (rms128_of (fun k => x (ix2 r k)) (fun k => g (ix2 0 k)) l ⟨384 + (l.val - 128 - 128 - 128), by omega⟩ (fun k => ⟨384 + k.val, by omega⟩) (by dsimp only; omega) fun k => by dsimp only; omega)

theorem norm64_0 (x : Vec Ideal S16x512 .f32) (g : Vec Ideal S1x512 .f32) (r : Fin 16) (l : Fin 128) :
    k0_pay8 x g (ix2 r l) = rms64 (fun k => x (ix2 r k)) (fun k => g (ix2 0 k)) ⟨l.val, by omega⟩ := by
  unfold k0_pay8
  pointwise
  exact rms64_of (fun k => x (ix2 r k)) (fun k => g (ix2 0 k)) _ _ l _ rfl (by dsimp only; omega) fun k => by dsimp only; omega

theorem norm64_1 (x : Vec Ideal S16x512 .f32) (g : Vec Ideal S1x512 .f32) (r : Fin 16) (l : Fin 128) :
    k0_pay10 g (iota .tc S16x128 32 [1] iota_S16x128_d1_w32) (k0_pay9 x) (ix2 r l) = rms64 (fun k => x (ix2 r k)) (fun k => g (ix2 0 k)) ⟨128 + l.val, by omega⟩ := by
  unfold k0_pay10 k0_pay9
  pointwise
  exact rms64_of (fun k => x (ix2 r k)) (fun k => g (ix2 0 k)) _ _ l _ rfl (by dsimp only; omega) fun k => by dsimp only; omega

theorem first_sum (D S : Vec Ideal S16x512 .f32) (gd gs : Vec Ideal S1x512 .f32) (x : Vec Ideal S16x1024 .f32) (w : Vec Ideal S1024x1024 .bf16) (r : Fin 16) (j : Fin 1024) :
    k0_pay13 (k0_pay7 gd (k0_pay2 D gd) (k0_pay3 D gd) (k0_pay4 D gd) (k0_pay5 D) (k0_pay6 D)) S gs (iota .tc S16x128 32 [1] iota_S16x128_d1_w32) (k0_pay8 S gs)
      (k0_pay10 gs (iota .tc S16x128 32 [1] iota_S16x128_d1_w32) (k0_pay9 S)) (k0_pay11 S) (k0_pay12 S (iota .tc S16x128 32 [1] iota_S16x128_d1_w32)) x w (ix2 r j)
      = carried (fun k => x (ix2 r k)) (proj (mixRow (fun k => D (ix2 r k)) (fun k => S (ix2 r k)) (fun k => gd (ix2 0 k)) (fun k => gs (ix2 0 k))) w) j := by
  unfold k0_pay13 k0_pay12 k0_pay11 carried proj
  pointwise
  refine congrArg (_ + ·) (Finset.sum_congr rfl fun k _ => congrArg (· * _) ?_)
  have hk := k.isLt
  by_cases h : k.val < 512
  · exact (dif_pos h).trans ((norm128 D gd r ⟨k.val, h⟩).trans (mixRow_low _ _ _ _ k h).symm)
  · refine (dif_neg h).trans (Eq.trans ?_ (mixRow_high _ _ _ _ k h).symm)
    by_cases h0 : k.val - 512 < 128
    · exact (dif_pos h0).trans (norm64_0 S gs r ⟨k.val - 512, h0⟩)
    · refine (dif_neg h0).trans ?_
      by_cases h1 : k.val - 512 - 128 < 128
      · refine (dif_pos h1).trans ((norm64_1 S gs r ⟨k.val - 512 - 128, h1⟩).trans (congrArg (rms64 _ _) (Fin.ext ?_)))
        dsimp only
        omega
      · refine (dif_neg h1).trans ?_
        by_cases h2 : k.val - 512 - 128 - 128 < 128
        · exact (dif_pos h2).trans (rms64_of (fun k => S (ix2 r k)) (fun k => gs (ix2 0 k)) _ ⟨256 + (k.val - 512 - 128 - 128), by omega⟩ ⟨k.val - 512 - 128 - 128, h2⟩ (fun k => ⟨256 + k.val, by omega⟩) (by dsimp only; omega) (by dsimp only; omega) fun k => by dsimp only; omega)
        · exact (dif_neg h2).trans (rms64_of (fun k => S (ix2 r k)) (fun k => gs (ix2 0 k)) _ ⟨384 + (k.val - 512 - 128 - 128 - 128), by omega⟩ ⟨k.val - 512 - 128 - 128 - 128, by omega⟩ (fun k => ⟨384 + k.val, by omega⟩) (by dsimp only; omega) (by dsimp only; omega) fun k => by dsimp only; omega)

end Cert.PostSamplesProof

end
-- ==== Proof.PostSamplesHeads.lean ====
module

public import proofs.«01_k».proof.Defs
public import proofs.«01_k».proof.Proof.Gen.Kernel8Ideal.Value
public import proofs.«01_k».proof.Proof.PostRow

@[expose] public section

set_option maxRecDepth 16384

noncomputable section

namespace Cert.PostSamplesProof

open Idealize.ShloMosaic Idealize.ShloMosaic.TcCoe Idealize.ShloMosaic.ValueKit Idealize.SL.Sem
open Cert.PostProof Cert.Kernel8Ideal Cert.Kernel8Ideal.Gen

/-- One head's scores, as the kernel forms them. -/
def halves (q : FVec Ideal S16x1024 .bf16) (a b : Vec Ideal S1x256x128 .f32) (r : Fin 16) (h : Fin 4) (k : Fin 256) : EReal :=
  (∑ d : Fin 128, q (ix2 r ⟨h.val * 256 + d.val, by omega⟩) * a (ix3 0 k d)) + ∑ d : Fin 128, q (ix2 r ⟨h.val * 256 + 128 + d.val, by omega⟩) * b (ix3 0 k d)

/-- One head's weighted values, over one group's memory. -/
def weigh (q : FVec Ideal S16x1024 .bf16) (a b v : Vec Ideal S1x256x128 .f32) (r : Fin 16) (h : Fin 4) (l : Fin 128) : EReal := ∑ k : Fin 256, soft (halves q a b r h) k * v (ix3 0 k l)

/-- The values over the group a row is in. -/
def pick (w : BitVec 32) (z : Fin 4 → EReal) : EReal :=
  Scalar.select (IntOp.cmpi .eq w 3#32) (z 3) (Scalar.select (IntOp.cmpi .eq w 2#32) (z 2) (Scalar.select (IntOp.cmpi .eq w 1#32) (z 1) (Scalar.select (IntOp.cmpi .eq w 0#32) (z 0) 0)))

theorem pick_group (n : Fin 4) (z : Fin 4 → EReal) : pick (BitVec.ofNat 32 n.val) z = z n := by
  fin_cases n <;> rfl

theorem soft_head0 (q : FVec Ideal S16x1024 .bf16) (x y : Vec Ideal S1x256x128 .f32) (r : Fin 16) (k : Fin 256) :
    k0_pay20 q x y (ix2 r k) = soft (halves q x y r 0) k := by
  unfold k0_pay20 soft halves top
  pointwise

theorem soft_head1 (q : FVec Ideal S16x1024 .bf16) (x y : Vec Ideal S1x256x128 .f32) (r : Fin 16) (k : Fin 256) :
    k0_pay34 q x y (ix2 r k) = soft (halves q x y r 1) k := by
  unfold k0_pay34 soft halves top
  pointwise

theorem soft_head2 (q : FVec Ideal S16x1024 .bf16) (x y : Vec Ideal S1x256x128 .f32) (r : Fin 16) (k : Fin 256) :
    k0_pay49 q x y (ix2 r k) = soft (halves q x y r 2) k := by
  unfold k0_pay49 soft halves top
  pointwise

theorem soft_head3 (q : FVec Ideal S16x1024 .bf16) (x y : Vec Ideal S1x256x128 .f32) (r : Fin 16) (k : Fin 256) :
    k0_pay64 q (k0_pay63 q) x y (ix2 r k) = soft (halves q x y r 3) k := by
  unfold k0_pay64 k0_pay63 soft halves top
  pointwise

/-- The row's group, as the kernel counts it. -/
abbrev group : IVec S16x128 32 := k0_pay19 k0_pay16 k0_pay17 k0_pay18

theorem group_word (r : Fin 16) (l : Fin 128) : group (ix2 r l) = BitVec.ofNat 32 (r.val / 4) := by
  unfold group k0_pay19 k0_pay16 k0_pay17 k0_pay18
  pointwise
  revert r
  decide +kernel

variable (q : FVec Ideal S16x1024 .bf16) (a b v : Fin 4 → Vec Ideal S1x256x128 .f32) (r : Fin 16) (l : Fin 128)

theorem head0_low : k0_pay31 q group (k0_pay27 q group (k0_pay24 q group (k0_pay21 q k0_pay16 k0_pay17 k0_pay18 (a 0) (b 0) (v 0)) (a 1) (b 1) (v 1)) (a 2) (b 2) (v 2)) (a 3) (b 3) (v 3) (ix2 r l)
    = pick (group (ix2 r l)) fun g => weigh q (a g) (b g) (v g) r 0 l := by
  have e1 : @k0_pay23 Ideal _ = k0_pay20 := rfl
  have e2 : @k0_pay26 Ideal _ = k0_pay20 := rfl
  have e3 : @k0_pay30 Ideal _ = k0_pay20 := rfl
  unfold k0_pay31 k0_pay27 k0_pay24 k0_pay21 pick weigh
  rw [e1, e2, e3]
  pointwise
  simp only [soft_head0]

theorem head0_high : k0_pay33 group (k0_pay29 group (k0_pay25 group (k0_pay22 group (k0_pay20 q (a 0) (b 0)) (v 0)) (k0_pay23 q (a 1) (b 1)) (v 1)) (k0_pay26 q (a 2) (b 2)) (k0_pay28 (v 2))) (k0_pay32 q (a 3) (b 3) (v 3)) (ix2 r l)
    = pick (group (ix2 r l)) fun g => weigh q (a g) (b g) (v g) r 0 l := by
  have e1 : @k0_pay23 Ideal _ = k0_pay20 := rfl
  have e2 : @k0_pay26 Ideal _ = k0_pay20 := rfl
  have e3 : @k0_pay30 Ideal _ = k0_pay20 := rfl
  unfold k0_pay33 k0_pay32 k0_pay29 k0_pay28 k0_pay25 k0_pay22 pick weigh
  rw [e1, e2, e3]
  pointwise
  simp only [soft_head0]

theorem head1_low : k0_pay47 q group (k0_pay43 q group (k0_pay39 q group (k0_pay35 q group (a 0) (b 0) (v 0)) (a 1) (b 1) (v 1)) (a 2) (b 2) (v 2)) (a 3) (b 3) (v 3) (ix2 r l)
    = pick (group (ix2 r l)) fun g => weigh q (a g) (b g) (v g) r 1 l := by
  have e1 : @k0_pay38 Ideal _ = k0_pay34 := rfl
  have e2 : @k0_pay42 Ideal _ = k0_pay34 := rfl
  have e3 : @k0_pay46 Ideal _ = k0_pay34 := rfl
  unfold k0_pay47 k0_pay43 k0_pay39 k0_pay35 pick weigh
  rw [e1, e2, e3]
  pointwise
  simp only [soft_head1]

theorem head1_high : k0_pay48 q group (k0_pay41 group (k0_pay37 group (k0_pay36 q (a 0) (b 0) (v 0))) (k0_pay40 q (a 1) (b 1) (v 1))) (k0_pay44 q (a 2) (b 2) (v 2)) k0_pay45 (a 3) (b 3) (v 3) (ix2 r l)
    = pick (group (ix2 r l)) fun g => weigh q (a g) (b g) (v g) r 1 l := by
  have e1 : @k0_pay38 Ideal _ = k0_pay34 := rfl
  have e2 : @k0_pay42 Ideal _ = k0_pay34 := rfl
  have e3 : @k0_pay46 Ideal _ = k0_pay34 := rfl
  unfold k0_pay48 k0_pay45 k0_pay44 k0_pay41 k0_pay40 k0_pay37 k0_pay36 pick weigh
  rw [e1, e2, e3]
  pointwise
  simp only [soft_head1]

theorem head2_low : k0_pay61 q group (k0_pay57 q group (k0_pay54 q group (k0_pay50 q group (a 0) (b 0) (v 0)) (a 1) (b 1) (v 1)) (a 2) (b 2) (v 2)) (k0_pay59 q) (a 3) (b 3) (v 3) (ix2 r l)
    = pick (group (ix2 r l)) fun g => weigh q (a g) (b g) (v g) r 2 l := by
  have e1 : @k0_pay53 Ideal _ = k0_pay49 := rfl
  have e2 : @k0_pay56 Ideal _ = k0_pay49 := rfl
  have e3 : k0_pay60 q (k0_pay59 q) = k0_pay49 q := rfl
  unfold k0_pay61 k0_pay57 k0_pay54 k0_pay50 pick weigh
  rw [e1, e2, e3]
  pointwise
  simp only [soft_head2]

theorem head2_high (z : Ideal .f32) (hz : z = (0 : EReal)) : k0_pay62 q group (k0_pay58 q group (k0_pay55 q group (k0_pay51 q (a 0) (b 0) (v 0)) (k0_pay52 group) z (a 1) (b 1) (v 1)) (a 2) (b 2) (v 2)) (k0_pay59 q) (a 3) (b 3) (v 3) (ix2 r l)
    = pick (group (ix2 r l)) fun g => weigh q (a g) (b g) (v g) r 2 l := by
  subst hz
  have e1 : @k0_pay53 Ideal _ = k0_pay49 := rfl
  have e2 : @k0_pay56 Ideal _ = k0_pay49 := rfl
  have e3 : k0_pay60 q (k0_pay59 q) = k0_pay49 q := rfl
  unfold k0_pay62 k0_pay58 k0_pay55 k0_pay52 k0_pay51 pick weigh
  rw [e1, e2, e3]
  pointwise
  simp only [soft_head2]

theorem last_group (x y z : Vec Ideal S1x256x128 .f32) :
    (∑ i : Fin 256, Ideal.div
        (Ideal.exp ((∑ d : Fin 128, q (ix2 r ⟨768 + d.val, by omega⟩) * x (ix3 0 i d)) + (∑ d : Fin 128, q (ix2 r ⟨896 + d.val, by omega⟩) * y (ix3 0 i d))
          - Finset.univ.fold max (Ideal.ofBits .f32 0xFF800000#32) fun i : Fin 256 => (∑ d : Fin 128, q (ix2 r ⟨768 + d.val, by omega⟩) * x (ix3 0 i d)) + (∑ d : Fin 128, q (ix2 r ⟨896 + d.val, by omega⟩) * y (ix3 0 i d))))
        (∑ i : Fin 256, Ideal.exp ((∑ d : Fin 128, q (ix2 r ⟨768 + d.val, by omega⟩) * x (ix3 0 i d)) + (∑ d : Fin 128, q (ix2 r ⟨896 + d.val, by omega⟩) * y (ix3 0 i d))
          - Finset.univ.fold max (Ideal.ofBits .f32 0xFF800000#32) fun i : Fin 256 => (∑ d : Fin 128, q (ix2 r ⟨768 + d.val, by omega⟩) * x (ix3 0 i d)) + (∑ d : Fin 128, q (ix2 r ⟨896 + d.val, by omega⟩) * y (ix3 0 i d)))) * z (ix3 0 i l))
      = weigh q x y z r 3 l := rfl

theorem weigh_head3 (x y z : Vec Ideal S1x256x128 .f32) : ∑ k : Fin 256, k0_pay64 q (k0_pay63 q) x y (ix2 r k) * z (ix3 0 k l) = weigh q x y z r 3 l :=
  Finset.sum_congr rfl fun k _ => congrArg (· * _) (soft_head3 q x y r k)

/-- The last head's first three groups, over which the fourth's values are selected. -/
theorem head3_low (w : EReal) (hw : w = weigh q (a 3) (b 3) (v 3) r 3 l) : Scalar.select (IntOp.cmpi .eq (group (ix2 r l)) 3#32) w (k0_pay73 q group (k0_pay69 q group (k0_pay65 q group (k0_pay63 q) (a 0) (b 0) (v 0)) (k0_pay67 q) (a 1) (b 1) (v 1)) (k0_pay71 q) (a 2) (b 2) (v 2) (ix2 r l))
    = pick (group (ix2 r l)) fun g => weigh q (a g) (b g) (v g) r 3 l := by
  subst hw
  have e1 : k0_pay68 q (k0_pay67 q) = k0_pay64 q (k0_pay63 q) := rfl
  have e2 : k0_pay72 q (k0_pay71 q) = k0_pay64 q (k0_pay63 q) := rfl
  unfold k0_pay73 k0_pay69 k0_pay65 pick
  rw [e1, e2]
  pointwise
  simp only [weigh_head3]

theorem head3_high (w : EReal) (hw : w = weigh q (a 3) (b 3) (v 3) r 3 l) : Scalar.select (IntOp.cmpi .eq (group (ix2 r l)) 3#32) w (k0_pay74 q group (k0_pay70 q group (k0_pay66 q group (k0_pay63 q) (a 0) (b 0) (v 0)) (k0_pay67 q) (a 1) (b 1) (v 1)) (k0_pay71 q) (a 2) (b 2) (v 2) (ix2 r l))
    = pick (group (ix2 r l)) fun g => weigh q (a g) (b g) (v g) r 3 l := by
  subst hw
  have e1 : k0_pay68 q (k0_pay67 q) = k0_pay64 q (k0_pay63 q) := rfl
  have e2 : k0_pay72 q (k0_pay71 q) = k0_pay64 q (k0_pay63 q) := rfl
  unfold k0_pay74 k0_pay70 k0_pay66 pick
  rw [e1, e2]
  pointwise
  simp only [weigh_head3]

variable (Q : Fin 1024 → EReal) (M N : Fin 4 → Fin 2048 → Fin 128 → EReal) (A B : Fin 4 → Fin 8 → Vec Ideal S1x256x128 .f32)

/-- One head's weighted values over the row's own group. -/
theorem piece (hq : ∀ j, q (ix2 r j) = Q j * Ideal.ofBits .f32 0x3D800000#32) (hA : ∀ g n k d, A g n (ix3 0 k d) = M g ⟨k.val * 8 + n.val, by omega⟩ d)
    (hB : ∀ g n k d, B g n (ix3 0 k d) = N g ⟨k.val * 8 + n.val, by omega⟩ d) (h : Fin 4) (n : Fin 8) (j : Fin 1024) (hj : j.val / 256 = h.val) (hl : l.val = j.val % 128) (hn : n.val = j.val % 256 / 128 * 4 + h.val) :
    pick (group (ix2 r l)) (fun g => weigh q (A g ⟨h.val, by omega⟩) (A g ⟨h.val + 4, by omega⟩) (B g n) r h l) = attended Q (M ⟨r.val / 4, by omega⟩) (N ⟨r.val / 4, by omega⟩) j := by
  rw [group_word]
  refine (pick_group ⟨r.val / 4, by omega⟩ _).trans ?_
  have e : halves q (A ⟨r.val / 4, by omega⟩ ⟨h.val, by omega⟩) (A ⟨r.val / 4, by omega⟩ ⟨h.val + 4, by omega⟩) r h = score Q (M ⟨r.val / 4, by omega⟩) h := funext fun k => by
    unfold halves
    simp only [hq, hA]
    rw [← score_halves Q _ h k, zero_add]
    refine congrArg (_ + ·) (Finset.sum_congr rfl fun d _ => congrArg (_ * ·) (congrArg (fun i => M _ i d) (Fin.ext ?_)))
    dsimp only
    omega
  unfold weigh attended
  rw [show (⟨j.val / 256, by omega⟩ : Fin 4) = h from Fin.ext hj, show (⟨j.val % 128, by omega⟩ : Fin 128) = l from Fin.ext hl.symm]
  refine Finset.sum_congr rfl fun k _ => ?_
  rw [e, hB]
  refine congrArg (_ * ·) (congrArg (fun i => N _ i l) (Fin.ext ?_))
  dsimp only
  omega

/-- The heads' weighted values side by side. -/
theorem joined (hq : ∀ j, q (ix2 r j) = Q j * Ideal.ofBits .f32 0x3D800000#32) (hA : ∀ g n k d, A g n (ix3 0 k d) = M g ⟨k.val * 8 + n.val, by omega⟩ d)
    (hB : ∀ g n k d, B g n (ix3 0 k d) = N g ⟨k.val * 8 + n.val, by omega⟩ d) (j : Fin 1024) :
    k0_pay77 q group (k0_pay31 q group (k0_pay27 q group (k0_pay24 q group (k0_pay21 q k0_pay16 k0_pay17 k0_pay18 (A 0 0) (A 0 4) (B 0 0)) (A 1 0) (A 1 4) (B 1 0)) (A 2 0) (A 2 4) (B 2 0)) (A 3 0) (A 3 4) (B 3 0))
      (k0_pay33 group (k0_pay29 group (k0_pay25 group (k0_pay22 group (k0_pay20 q (A 0 0) (A 0 4)) (B 0 4)) (k0_pay23 q (A 1 0) (A 1 4)) (B 1 4)) (k0_pay26 q (A 2 0) (A 2 4)) (k0_pay28 (B 2 4))) (k0_pay32 q (A 3 0) (A 3 4) (B 3 4)))
      (k0_pay47 q group (k0_pay43 q group (k0_pay39 q group (k0_pay35 q group (A 0 1) (A 0 5) (B 0 1)) (A 1 1) (A 1 5) (B 1 1)) (A 2 1) (A 2 5) (B 2 1)) (A 3 1) (A 3 5) (B 3 1))
      (k0_pay48 q group (k0_pay41 group (k0_pay37 group (k0_pay36 q (A 0 1) (A 0 5) (B 0 5))) (k0_pay40 q (A 1 1) (A 1 5) (B 1 5))) (k0_pay44 q (A 2 1) (A 2 5) (B 2 5)) k0_pay45 (A 3 1) (A 3 5) (B 3 5))
      (k0_pay61 q group (k0_pay57 q group (k0_pay54 q group (k0_pay50 q group (A 0 2) (A 0 6) (B 0 2)) (A 1 2) (A 1 6) (B 1 2)) (A 2 2) (A 2 6) (B 2 2)) (k0_pay59 q) (A 3 2) (A 3 6) (B 3 2))
      (k0_pay62 q group (k0_pay58 q group (k0_pay55 q group (k0_pay51 q (A 0 2) (A 0 6) (B 0 6)) (k0_pay52 group) (FloatOps.ofBits .f32 0x00000000#32) (A 1 2) (A 1 6) (B 1 6)) (A 2 2) (A 2 6) (B 2 6)) (k0_pay59 q) (A 3 2) (A 3 6) (B 3 6))
      (k0_pay73 q group (k0_pay69 q group (k0_pay65 q group (k0_pay63 q) (A 0 3) (A 0 7) (B 0 3)) (k0_pay67 q) (A 1 3) (A 1 7) (B 1 3)) (k0_pay71 q) (A 2 3) (A 2 7) (B 2 3))
      (k0_pay74 q group (k0_pay70 q group (k0_pay66 q group (k0_pay63 q) (A 0 3) (A 0 7) (B 0 7)) (k0_pay67 q) (A 1 3) (A 1 7) (B 1 7)) (k0_pay71 q) (A 2 3) (A 2 7) (B 2 7))
      (k0_pay75 q) (k0_pay76 (A 3 3)) (A 3 7) (B 3 3) (B 3 7) (ix2 r j)
      = attended Q (M ⟨r.val / 4, by omega⟩) (N ⟨r.val / 4, by omega⟩) j := by
  have own := fun l => piece q r l Q M N A B hq hA hB
  have hj := j.isLt
  unfold k0_pay77 k0_pay76 k0_pay75
  pointwise
  by_cases h0 : j.val < 128
  · exact (dif_pos h0).trans ((head0_low q (fun g => A g 0) (fun g => A g 4) (fun g => B g 0) r _).trans (own _ 0 0 j (by show _ = 0; omega) (by dsimp only; omega) (by show 0 = _ * 4 + 0; omega)))
  · refine (dif_neg h0).trans ?_
    by_cases h1 : j.val - 128 < 128
    · exact (dif_pos h1).trans ((head0_high q (fun g => A g 0) (fun g => A g 4) (fun g => B g 4) r _).trans (own _ 0 4 j (by show _ = 0; omega) (by dsimp only; omega) (by show 4 = _ * 4 + 0; omega)))
    · refine (dif_neg h1).trans ?_
      by_cases h2 : j.val - 128 - 128 < 128
      · exact (dif_pos h2).trans ((head1_low q (fun g => A g 1) (fun g => A g 5) (fun g => B g 1) r _).trans (own _ 1 1 j (by show _ = 1; omega) (by dsimp only; omega) (by show 1 = _ * 4 + 1; omega)))
      · refine (dif_neg h2).trans ?_
        by_cases h3 : j.val - 128 - 128 - 128 < 128
        · exact (dif_pos h3).trans ((head1_high q (fun g => A g 1) (fun g => A g 5) (fun g => B g 5) r _).trans (own _ 1 5 j (by show _ = 1; omega) (by dsimp only; omega) (by show 5 = _ * 4 + 1; omega)))
        · refine (dif_neg h3).trans ?_
          by_cases h4 : j.val - 128 - 128 - 128 - 128 < 128
          · exact (dif_pos h4).trans ((head2_low q (fun g => A g 2) (fun g => A g 6) (fun g => B g 2) r _).trans (own _ 2 2 j (by show _ = 2; omega) (by dsimp only; omega) (by show 2 = _ * 4 + 2; omega)))
          · refine (dif_neg h4).trans ?_
            by_cases h5 : j.val - 128 - 128 - 128 - 128 - 128 < 128
            · exact (dif_pos h5).trans ((head2_high q (fun g => A g 2) (fun g => A g 6) (fun g => B g 6) r _ _ rfl).trans (own _ 2 6 j (by show _ = 2; omega) (by dsimp only; omega) (by show 6 = _ * 4 + 2; omega)))
            · refine (dif_neg h5).trans ?_
              by_cases h6 : j.val - 128 - 128 - 128 - 128 - 128 - 128 < 128
              · exact (dif_pos h6).trans ((head3_low q (fun g => A g 3) (fun g => A g 7) (fun g => B g 3) r _ _ (last_group _ _ _ _ _ _)).trans (own _ 3 3 j (by show _ = 3; omega) (by dsimp only; omega) (by show 3 = _ * 4 + 3; omega)))
              · exact (dif_neg h6).trans ((head3_high q (fun g => A g 3) (fun g => A g 7) (fun g => B g 7) r _ _ (last_group _ _ _ _ _ _)).trans (own _ 3 7 j (by show _ = 3; omega) (by dsimp only; omega) (by show 7 = _ * 4 + 3; omega)))

end Cert.PostSamplesProof

end
-- ==== Proof.PostSamplesValue.lean ====
module

public import proofs.«01_k».proof.Defs
public import proofs.«01_k».proof.Proof.Gen.Kernel8Ideal.Value
public import Idealize.ShloMosaic.Lib.WholeRead
public import proofs.«01_k».proof.Proof.PostSamplesBody
public import proofs.«01_k».proof.Proof.PostSamplesHeads

@[expose] public section

set_option maxRecDepth 16384

noncomputable section

namespace Cert.PostSamplesProof

open Idealize.ShloMosaic Idealize.ShloMosaic.TcCoe Idealize.ShloMosaic.ValueKit Idealize.SL.Sem
open Cert.PostProof Cert.Kernel8Ideal Cert.Kernel8Ideal.Gen

variable (m : (ℓ : Loc nD τ sig) → Buf (Elt Ideal) ℓ) (c : Dev nD)

/-- Every eighth row of one group of a block, from a first one on. -/
def eighth (X : Vec Ideal S4x2048x128 .f32) (g a : ℕ) : Vec Ideal S1x256x128 .f32 := fun i => X (ix3 ⟨g % 4, by omega⟩ ⟨((i 1).val * 8 + a) % 2048, by omega⟩ (i 2))

theorem strided (b : Memref sig .tc .vmem S4x2048x128 .f32) (h : b.IsWhole) (X : Vec Ideal S4x2048x128 .f32) (g a : ℕ)
    (inb : ∀ x, S1x256x128.size x = 0 ∨ (![g, a, 0] : Fin 3 → ℕ) x + (![1, 8, 1] : Fin 3 → ℕ) x * (S1x256x128.size x - 1) < S4x2048x128.size x) :
    View.readAt (Elt Ideal) b.view { off := ![g, a, 0], size := ![1, 256, 128], stride := ![1, 8, 1], inb := inb } (h.unread X) = eighth X g a := by
  funext i
  refine (h.readAt_unread X _ i).trans (congrArg X ?_)
  have q : 256 = 0 ∨ a + 8 * 255 < 2048 := inb 1
  have q0 : 1 = 0 ∨ g + 1 * 0 < 4 := inb 0
  have i1 : (i 1).val < 256 := (i 1).isLt
  have i0 : (i 0).val < 1 := (i 0).isLt
  funext d
  fin_cases d <;> refine Fin.ext ?_
  · show g + 1 * (i 0).val = g % 4
    omega
  · show a + 8 * (i 1).val = ((i 1).val * 8 + a) % 2048
    omega
  · show 0 + 1 * (i 2).val = (i 2).val
    omega

theorem eighth_apply (X : Vec Ideal S4x2048x128 .f32) (g : Fin 4) (n : Fin 8) (k : Fin 256) (d : Fin 128) : eighth X g.val n.val (ix3 0 k d) = X (ix3 g ⟨k.val * 8 + n.val, by omega⟩ d) := by
  unfold eighth
  refine congrArg₂ (fun h i => X (ix3 h i d)) (Fin.ext (Nat.mod_eq_of_lt g.isLt)) (Fin.ext ?_)
  show (k.val * 8 + n.val) % 2048 = k.val * 8 + n.val
  omega

/-- A row of the body's result. -/
theorem body (D S : Vec Ideal S16x512 .f32) (gd gs : Vec Ideal S1x512 .f32) (x : Vec Ideal S16x1024 .f32) (wo wq wc : Vec Ideal S1024x1024 .bf16) (g1 b1 g2 b2 : Vec Ideal S1x1024 .f32)
    (X Y : Vec Ideal S4x2048x128 .f32) (v : FVec Ideal S16x1024 .f32)
    (hv : v = k0_pay13 (k0_pay7 gd (k0_pay2 D gd) (k0_pay3 D gd) (k0_pay4 D gd) (k0_pay5 D) (k0_pay6 D)) S gs (iota .tc S16x128 32 [1] iota_S16x128_d1_w32) (k0_pay8 S gs) (k0_pay10 gs (iota .tc S16x128 32 [1] iota_S16x128_d1_w32) (k0_pay9 S)) (k0_pay11 S) (k0_pay12 S (iota .tc S16x128 32 [1] iota_S16x128_d1_w32)) x wo)
    (q : FVec Ideal S16x1024 .bf16) (hq : q = k0_pay15 v g1 b1 wq) (r : Fin 16) (j : Fin 1024) :
    k0_pay79 (k0_pay77 q group (k0_pay31 q group (k0_pay27 q group (k0_pay24 q group (k0_pay21 q k0_pay16 k0_pay17 k0_pay18 (eighth X 0 0) (eighth X 0 4) (eighth Y 0 0)) (eighth X 1 0) (eighth X 1 4) (eighth Y 1 0)) (eighth X 2 0) (eighth X 2 4) (eighth Y 2 0)) (eighth X 3 0) (eighth X 3 4) (eighth Y 3 0))
      (k0_pay33 group (k0_pay29 group (k0_pay25 group (k0_pay22 group (k0_pay20 q (eighth X 0 0) (eighth X 0 4)) (eighth Y 0 4)) (k0_pay23 q (eighth X 1 0) (eighth X 1 4)) (eighth Y 1 4)) (k0_pay26 q (eighth X 2 0) (eighth X 2 4)) (k0_pay28 (eighth Y 2 4))) (k0_pay32 q (eighth X 3 0) (eighth X 3 4) (eighth Y 3 4)))
      (k0_pay47 q group (k0_pay43 q group (k0_pay39 q group (k0_pay35 q group (eighth X 0 1) (eighth X 0 5) (eighth Y 0 1)) (eighth X 1 1) (eighth X 1 5) (eighth Y 1 1)) (eighth X 2 1) (eighth X 2 5) (eighth Y 2 1)) (eighth X 3 1) (eighth X 3 5) (eighth Y 3 1))
      (k0_pay48 q group (k0_pay41 group (k0_pay37 group (k0_pay36 q (eighth X 0 1) (eighth X 0 5) (eighth Y 0 5))) (k0_pay40 q (eighth X 1 1) (eighth X 1 5) (eighth Y 1 5))) (k0_pay44 q (eighth X 2 1) (eighth X 2 5) (eighth Y 2 5)) k0_pay45 (eighth X 3 1) (eighth X 3 5) (eighth Y 3 5))
      (k0_pay61 q group (k0_pay57 q group (k0_pay54 q group (k0_pay50 q group (eighth X 0 2) (eighth X 0 6) (eighth Y 0 2)) (eighth X 1 2) (eighth X 1 6) (eighth Y 1 2)) (eighth X 2 2) (eighth X 2 6) (eighth Y 2 2)) (k0_pay59 q) (eighth X 3 2) (eighth X 3 6) (eighth Y 3 2))
      (k0_pay62 q group (k0_pay58 q group (k0_pay55 q group (k0_pay51 q (eighth X 0 2) (eighth X 0 6) (eighth Y 0 6)) (k0_pay52 group) (FloatOps.ofBits .f32 0x00000000#32) (eighth X 1 2) (eighth X 1 6) (eighth Y 1 6)) (eighth X 2 2) (eighth X 2 6) (eighth Y 2 6)) (k0_pay59 q) (eighth X 3 2) (eighth X 3 6) (eighth Y 3 6))
      (k0_pay73 q group (k0_pay69 q group (k0_pay65 q group (k0_pay63 q) (eighth X 0 3) (eighth X 0 7) (eighth Y 0 3)) (k0_pay67 q) (eighth X 1 3) (eighth X 1 7) (eighth Y 1 3)) (k0_pay71 q) (eighth X 2 3) (eighth X 2 7) (eighth Y 2 3))
      (k0_pay74 q group (k0_pay70 q group (k0_pay66 q group (k0_pay63 q) (eighth X 0 3) (eighth X 0 7) (eighth Y 0 7)) (k0_pay67 q) (eighth X 1 3) (eighth X 1 7) (eighth Y 1 7)) (k0_pay71 q) (eighth X 2 3) (eighth X 2 7) (eighth Y 2 7))
      (k0_pay75 q) (k0_pay76 (eighth X 3 3)) (eighth X 3 7) (eighth Y 3 3) (eighth Y 3 7)) (k0_pay78 (k0_pay14 v g1 b1)) wc g2 b2 (ix2 r j)
      = final (mid (fun k => x (ix2 r k)) (fun k => D (ix2 r k)) (fun k => S (ix2 r k)) (fun k => gd (ix2 0 k)) (fun k => gs (ix2 0 k)) wo (fun k => g1 (ix2 0 k)) (fun k => b1 (ix2 0 k))) wq wc
        (fun i d => X (ix3 ⟨r.val / 4, by omega⟩ i d)) (fun i d => Y (ix3 ⟨r.val / 4, by omega⟩ i d)) (fun k => g2 (ix2 0 k)) (fun k => b2 (ix2 0 k)) j := by
  have hm : ∀ k, k0_pay14 v g1 b1 (ix2 r k) = mid (fun k => x (ix2 r k)) (fun k => D (ix2 r k)) (fun k => S (ix2 r k)) (fun k => gd (ix2 0 k)) (fun k => gs (ix2 0 k)) wo (fun k => g1 (ix2 0 k)) (fun k => b1 (ix2 0 k)) k := fun k => by
    rw [mid_norm, hv]
    unfold mid
    rw [← funext (first_sum D S gd gs x wo r)]
  have ha := joined q r _ (fun g i d => X (ix3 g i d)) (fun g i d => Y (ix3 g i d)) (fun g n => eighth X g.val n.val) (fun g n => eighth Y g.val n.val)
    (fun j => (congrFun hq _).trans ((queries v g1 b1 wq r j).trans (congrArg (fun z => proj z wq j * _) (funext hm)))) (eighth_apply X) (eighth_apply Y)
  exact (last_norm _ _ wc g2 b2 r j).trans (congrArg₂ (fun a o => lnRow (carried a (proj o wc)) (fun k => g2 (ix2 0 k)) (fun k => b2 (ix2 0 k)) j) (funext hm) (funext ha))

theorem left_out (t : Fin grid0.N) (r : Fin 16) (j : Fin 1024) : (outsAt0 m c t).1 (ix2 r j)
    = final (mid (fun k => iblk m c 0 t (ix2 r k)) (fun k => iblk m c 1 t (ix2 r k)) (fun k => iblk m c 2 t (ix2 r k)) (fun k => iblk m c 3 t (ix2 0 k)) (fun k => iblk m c 4 t (ix2 0 k)) (iblk m c 5 t)
        (fun k => iblk m c 6 t (ix2 0 k)) (fun k => iblk m c 7 t (ix2 0 k))) (iblk m c 8 t) (iblk m c 11 t) (fun i d => iblk m c 9 t (ix3 ⟨r.val / 4, by omega⟩ i d)) (fun i d => iblk m c 10 t (ix3 ⟨r.val / 4, by omega⟩ i d))
        (fun k => iblk m c 12 t (ix2 0 k)) (fun k => iblk m c 13 t (ix2 0 k)) j := by
  simp only [outsAt0]
  frame_out
  simp only [strided (ms0_9 t) (hs0_9 t) (iblk m c 9 t), strided (ms0_10 t) (hs0_10 t) (iblk m c 10 t)]
  generalize hv : k0_pay13 (F := Ideal) _ _ _ _ _ _ _ _ _ _ = v
  generalize hq : k0_pay15 (F := Ideal) _ _ _ _ = q
  exact body (iblk m c 1 t) (iblk m c 2 t) (iblk m c 3 t) (iblk m c 4 t) (iblk m c 0 t) (iblk m c 5 t) (iblk m c 8 t) (iblk m c 11 t) (iblk m c 6 t) (iblk m c 7 t) (iblk m c 12 t) (iblk m c 13 t)
    (iblk m c 9 t) (iblk m c 10 t) v hv.symm q hq.symm r j

theorem left_cast (t : Fin grid0.N) (y : S16x1024.Idx) : (outsAt0 m c t).2 y = (outsAt0 m c t).1 y := by
  simp only [outsAt0]
  frame_out
  rfl

theorem idx : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0, 0] ∧ win0_10.index t = ![t.val, 0, 0] ∧ win0_11.index t = ![0, 0]
    ∧ win0_12.index t = ![0, 0] ∧ win0_13.index t = ![0, 0] ∧ win0_14.index t = ![t.val, 0] ∧ win0_15.index t = ![t.val, 0] ∧ t.val < 32 := by decide +kernel

/-- The layer's rows after the attention and the memory. -/
def rows (x : FVec Ideal S512x1024 .f32) (D S : FVec Ideal S512x512 .f32) (X Y : FVec Ideal S128x2048x128 .f32) (gd gs : FVec Ideal S1x512 .f32) (wo : FVec Ideal S1024x1024 .f32) (g1 b1 : FVec Ideal S1x1024 .f32)
    (wq wc : FVec Ideal S1024x1024 .f32) (g2 b2 : FVec Ideal S1x1024 .f32) (p : Fin 512) : Fin 1024 → EReal :=
  final (mid (fun k => x (ix2 p k)) (fun k => D (ix2 p k)) (fun k => S (ix2 p k)) (fun k => gd (ix2 0 k)) (fun k => gs (ix2 0 k)) wo (fun k => g1 (ix2 0 k)) (fun k => b1 (ix2 0 k))) wq wc
    (fun i d => X (ix3 ⟨p.val / 4, by omega⟩ i d)) (fun i d => Y (ix3 ⟨p.val / 4, by omega⟩ i d)) (fun k => g2 (ix2 0 k)) (fun k => b2 (ix2 0 k))

def result : FVec Ideal S512x1024 .f32 := fun i => rows (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
  (m ((c : Thread nD τ).loc main_arg10)) (m ((c : Thread nD τ).loc main_arg11)) (m ((c : Thread nD τ).loc main_arg12)) (m ((c : Thread nD τ).loc main_arg13)) (i 0) (i 1)

theorem block0 (t : Fin grid0.N) (r : Fin 16) (k : Fin 1024) (p : Fin 512) (hp : p.val = t.val * 16 + r.val) : iblk m c 0 t (ix2 r k) = m ((c : Thread nD τ).loc main_arg0) (ix2 p k) := by
  blk_ext [iblk, V, (idx t).1]

theorem block1 (t : Fin grid0.N) (r : Fin 16) (k : Fin 512) (p : Fin 512) (hp : p.val = t.val * 16 + r.val) : iblk m c 1 t (ix2 r k) = m ((c : Thread nD τ).loc main_arg1) (ix2 p k) := by
  blk_ext [iblk, V, (idx t).2.1]

theorem block2 (t : Fin grid0.N) (r : Fin 16) (k : Fin 512) (p : Fin 512) (hp : p.val = t.val * 16 + r.val) : iblk m c 2 t (ix2 r k) = m ((c : Thread nD τ).loc main_arg2) (ix2 p k) := by
  blk_ext [iblk, V, (idx t).2.2.1]

theorem block3 (t : Fin grid0.N) (k : Fin 512) : iblk m c 3 t (ix2 0 k) = m ((c : Thread nD τ).loc main_arg5) (ix2 0 k) := by
  blk_ext [iblk, V, (idx t).2.2.2.1]

theorem block4 (t : Fin grid0.N) (k : Fin 512) : iblk m c 4 t (ix2 0 k) = m ((c : Thread nD τ).loc main_arg6) (ix2 0 k) := by
  blk_ext [iblk, V, (idx t).2.2.2.2.1]

theorem block5 (t : Fin grid0.N) : iblk m c 5 t = m ((c : Thread nD τ).loc main_arg7) := by
  funext y
  idx_vars y
  blk_ext [iblk, V, (idx t).2.2.2.2.2.1]

theorem block6 (t : Fin grid0.N) (k : Fin 1024) : iblk m c 6 t (ix2 0 k) = m ((c : Thread nD τ).loc main_arg8) (ix2 0 k) := by
  blk_ext [iblk, V, (idx t).2.2.2.2.2.2.1]

theorem block9 (t : Fin grid0.N) (r : Fin 16) (i : Fin 2048) (d : Fin 128) (p : Fin 512) (hp : p.val = t.val * 16 + r.val) : iblk m c 9 t (ix3 ⟨r.val / 4, by omega⟩ i d) = m ((c : Thread nD τ).loc main_arg3) (ix3 ⟨p.val / 4, by omega⟩ i d) := by
  blk_ext [iblk, V, (idx t).2.2.2.2.2.2.2.2.2.1]

theorem block7 (t : Fin grid0.N) (k : Fin 1024) : iblk m c 7 t (ix2 0 k) = m ((c : Thread nD τ).loc main_arg9) (ix2 0 k) := by
  blk_ext [iblk, V, (idx t).2.2.2.2.2.2.2.1]

theorem block8 (t : Fin grid0.N) : iblk m c 8 t = m ((c : Thread nD τ).loc main_arg10) := by
  funext y
  idx_vars y
  blk_ext [iblk, V, (idx t).2.2.2.2.2.2.2.2.1]

theorem block10 (t : Fin grid0.N) (r : Fin 16) (i : Fin 2048) (d : Fin 128) (p : Fin 512) (hp : p.val = t.val * 16 + r.val) : iblk m c 10 t (ix3 ⟨r.val / 4, by omega⟩ i d) = m ((c : Thread nD τ).loc main_arg4) (ix3 ⟨p.val / 4, by omega⟩ i d) := by
  blk_ext [iblk, V, (idx t).2.2.2.2.2.2.2.2.2.2.1]

theorem block11 (t : Fin grid0.N) : iblk m c 11 t = m ((c : Thread nD τ).loc main_arg11) := by
  funext y
  idx_vars y
  blk_ext [iblk, V, (idx t).2.2.2.2.2.2.2.2.2.2.2.1]

theorem block12 (t : Fin grid0.N) (k : Fin 1024) : iblk m c 12 t (ix2 0 k) = m ((c : Thread nD τ).loc main_arg12) (ix2 0 k) := by
  blk_ext [iblk, V, (idx t).2.2.2.2.2.2.2.2.2.2.2.2.1]

theorem block13 (t : Fin grid0.N) (k : Fin 1024) : iblk m c 13 t (ix2 0 k) = m ((c : Thread nD τ).loc main_arg13) (ix2 0 k) := by
  blk_ext [iblk, V, (idx t).2.2.2.2.2.2.2.2.2.2.2.2.2.1]

theorem left_row (t : Fin grid0.N) (r : Fin 16) (j : Fin 1024) (p : Fin 512) (hp : p.val = t.val * 16 + r.val) : (outsAt0 m c t).1 (ix2 r j) = result m c (ix2 p j) := by
  refine (left_out m c t r j).trans ?_
  rw [block5, block8, block11]
  simp only [block0 m c t r _ p hp, block1 m c t r _ p hp, block2 m c t r _ p hp, block3, block4, block6, block7, block9 m c t r _ _ p hp, block10 m c t r _ _ p hp, block12, block13]
  rfl

theorem array14 : (dats m 0 c).arrAt 14 cfg0.N = result m c := by
  refine (dats m 0 c).arrAt_eq_of_covers 14 _ (by decide +kernel) fun t hf y => ?_
  idx_vars y
  have ht := (idx t).2.2.2.2.2.2.2.2.2.2.2.2.2.2.2.2
  blk_simp
  rw [after0_14]
  refine (left_row m c t y0 y1 ⟨t.val * 16 + y0.val, by omega⟩ rfl).trans (congrArg (result m c) ?_)
  blk_ext [(idx t).2.2.2.2.2.2.2.2.2.2.2.2.2.2.1]

theorem array15 : (dats m 0 c).arrAt 15 cfg0.N = result m c := by
  refine (dats m 0 c).arrAt_eq_of_covers 15 _ (by decide +kernel) fun t hf y => ?_
  idx_vars y
  have ht := (idx t).2.2.2.2.2.2.2.2.2.2.2.2.2.2.2.2
  blk_simp
  rw [after0_15]
  refine ((left_cast m c t _).trans (left_row m c t y0 y1 ⟨t.val * 16 + y0.val, by omega⟩ rfl)).trans (congrArg (result m c) ?_)
  blk_ext [(idx t).2.2.2.2.2.2.2.2.2.2.2.2.2.2.2.1]

end Cert.PostSamplesProof

end
-- ==== Proof.PostSamplesClaims.lean ====
module

public import proofs.«01_k».proof.Defs
public import proofs.«01_k».proof.Proof.Gen.Kernel8.Frame
public import proofs.«01_k».proof.Proof.PostSamplesRef
public import proofs.«01_k».proof.Proof.PostSamplesValue

@[expose] public section

set_option maxRecDepth 16384

noncomputable section

namespace Cert.PostSamplesProof

open Idealize.ShloMosaic Idealize.ShloMosaic.TcCoe Idealize.ShloMosaic.ValueKit Idealize.SL.Sem

/-- With the machine's floats, and with exact arithmetic, the run is covered and keeps its arguments. -/
theorem frame_rounded : Cert.quiescent_Kernel8 := fun m ρ _ => Cert.Kernel8.Gen.frame m ρ

theorem frame_exact : Cert.quiescent_Kernel8Ideal := fun m ρ _ => Cert.Kernel8Ideal.Gen.frame m ρ

theorem frame_ref : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

section Same
open Cert.Kernel8Ideal

/-- On the same arguments the reference's rows are the kernel's. -/
theorem out_result (m : (ℓ : Loc nD τ sig) → Buf (Elt Ideal) ℓ) (W : Valuation Cert.Reference8Ideal.τ Cert.Reference8Ideal.sig (Elt Ideal)) (c : Dev nD)
    (h0 : gx W = m ((c : Thread nD τ).loc main_arg0)) (h1 : gD W = m ((c : Thread nD τ).loc main_arg1)) (h2 : gS W = m ((c : Thread nD τ).loc main_arg2)) (h3 : gM W = m ((c : Thread nD τ).loc main_arg3))
    (h4 : gN W = m ((c : Thread nD τ).loc main_arg4)) (h5 : ggd W = m ((c : Thread nD τ).loc main_arg5)) (h6 : ggs W = m ((c : Thread nD τ).loc main_arg6)) (h7 : gwo W = m ((c : Thread nD τ).loc main_arg7))
    (h8 : gg1 W = m ((c : Thread nD τ).loc main_arg8)) (h9 : gb1 W = m ((c : Thread nD τ).loc main_arg9)) (h10 : gwq W = m ((c : Thread nD τ).loc main_arg10)) (h11 : gwc W = m ((c : Thread nD τ).loc main_arg11))
    (h12 : gg2 W = m ((c : Thread nD τ).loc main_arg12)) (h13 : gb2 W = m ((c : Thread nD τ).loc main_arg13)) : out W = result m c := by
  funext i
  idx_vars i
  rw [ref_rows, h0, h1, h2, h3, h4, h5, h6, h7, h8, h9, h10, h11, h12, h13]
  rfl

end Same

/-- With exact arithmetic the samples' rows after the attention and the memory are the reference's. -/
theorem value : Cert.algebraic_Kernel8Ideal_Reference8Ideal := by
  intro m ρ m' ρ' hpre hag
  refine ⟨fun c => result m c, fun c => result m c, ?_, ?_⟩
  · exact (θ_run Cert.Kernel8Ideal.defs _ _).mono (fun r h c => ⟨(h c).1.trans (array14 m c), (h c).2.1.trans (array15 m c), (h c).2.2⟩)
      (Cert.Kernel8Ideal.Value.run_blocks (F := Ideal) m ρ)
  · refine (θ_run Cert.Reference8Ideal.defs _ _).mono (fun r h c => ?_) (Cert.Reference8Ideal.Value.run (F := Ideal) m' ρ')
    obtain ⟨h0, h1, h2, h3, h4, h5, h6, h7, h8, h9, h10, h11, h12, h13⟩ := hag c
    have e := out_result m (Idealize.ShloMosaic.StableHlo.launchContents m' c) c h0 h1 h2 h3 h4 h5 h6 h7 h8 h9 h10 h11 h12 h13
    exact ⟨(h c).1.trans e, (h c).2.1.trans e, (h c).2.2⟩

end Cert.PostSamplesProof

end
-- ==== Proof.RouterRow.lean ====
module

public import proofs.«01_k».proof.Defs
public import proofs.«01_k».proof.Proof.PostRow

@[expose] public section

set_option maxRecDepth 16384

noncomputable section

namespace Cert.RouterProof

open Idealize.ShloMosaic Idealize.ShloMosaic.TcCoe Idealize.ShloMosaic.ValueKit Idealize.SL.Sem

/-- The largest of a token's scores over the experts. -/
def hi (f : Fin 32 → EReal) : EReal := Finset.univ.fold max (Ideal.ofBits .f32 0xFF800000#32) f

/-- The first expert that has the largest score. -/
def pick (f : Fin 32 → EReal) : BitVec 32 := Finset.univ.fold IntOp.minsi 2147483647#32 fun e => if f e = hi f then BitVec.ofNat 32 e.val else 32#32

/-- The scores with the picked expert's taken out. -/
def wipe (f : Fin 32 → EReal) (e : Fin 32) : EReal := Scalar.select (IntOp.cmpi .eq (BitVec.ofNat 32 e.val) (pick f)) (Ideal.ofBits .f32 0xFF800000#32) (f e)

/-- The scores left after some picks. -/
def left (f : Fin 32 → EReal) : ℕ → Fin 32 → EReal
  | 0 => f
  | r + 1 => wipe (left f r)

/-- A pick's weight before the division. -/
def weight (f : Fin 32 → EReal) (r : ℕ) : EReal := Ideal.exp (hi (left f r) - hi f)

/-- A pick's share of the four weights. -/
def share (f : Fin 32 → EReal) (r : ℕ) : EReal := Ideal.div (weight f r) (weight f 0 + weight f 1 + weight f 2 + weight f 3)

/-- One where an expert is among the first picks, zero elsewhere. -/
def member (f : Fin 32 → EReal) : ℕ → Fin 32 → EReal
  | 0 => fun _ => 0
  | r + 1 => fun e => Scalar.select (IntOp.cmpi .eq (BitVec.ofNat 32 e.val) (pick (left f r))) 1 (member f r e)

end Cert.RouterProof

end
-- ==== Proof.RouterRef.lean ====
module

public import proofs.«01_k».proof.Defs
public import proofs.«01_k».proof.Proof.Gen.Reference9Ideal.Run
public import proofs.«01_k».proof.Proof.RouterRow

@[expose] public section

set_option maxRecDepth 16384

noncomputable section

namespace Cert.RouterProof

open Idealize.ShloMosaic Idealize.ShloMosaic.TcCoe Idealize.ShloMosaic.ValueKit Idealize.SL.Sem
open Cert.Reference9Ideal Cert.Reference9Ideal.Gen Cert.Reference9Ideal.Value

variable (W : Valuation τ sig (Elt Ideal))

/-- A token's scores over the experts. -/
def scores (x : FVec Ideal S16896x1024 .f32) (w : FVec Ideal S1024x32 .f32) (b : FVec Ideal S32 .f32) (n : Fin 16896) (e : Fin 32) : EReal := (∑ k : Fin 1024, x (ix2 n k) * w (ix2 k e)) + b (ix1 e)

abbrev given (n : Fin 16896) : Fin 32 → EReal := scores (W (Proc.devRef .tc main_arg0)) (W (Proc.devRef .tc main_arg1)) (W (Proc.devRef .tc main_arg2)) n

theorem ref_logit (n : Fin 16896) (e : Fin 32) : res_main_v3 W (ix2 n e) = left (given W n) 0 e := by
  unfold res_main_v3
  pointwise
  rfl

theorem reduces_experts : S16896x32.Reduces [1] S16896 := by decide

theorem lift_experts (n : Fin 16896) (e : Fin 32) : reduces_experts.lift (ix1 n) e = ix2 n e := by
  funext d
  refine Fin.ext ((Shape.Reduces.lift_val _ _ _ _).trans ?_)
  fin_cases d <;> rfl

theorem fold_max (X : FVec Ideal S16896x32 .f32) (n : Fin 16896) (f : Fin 32 → EReal) (h : ∀ e, X (ix2 n e) = f e) :
    Host.reduce FloatOps.maximumf X (constant S_ .f32 0xFF800000#32) reducesTo_S16896x32_S16896_d1 h_S_ (ix1 n) = hi f := by
  rw [Host.reduce_eq_fold_single FloatOps.maximumf X _ _ reduces_experts _ _]
  have e : (X ∘ reduces_experts.lift (ix1 n)) = f := funext fun e => (congrArg X (lift_experts n e)).trans (h e)
  rw [e]
  rfl

theorem where_largest (X : FVec Ideal S16896x32 .f32) (Y : FVec Ideal S16896 .f32) (n : Fin 16896) (f : Fin 32 → EReal) (h : ∀ e, X (ix2 n e) = f e) (hy : Y (ix1 n) = hi f) (e : Fin 32) :
    select (cmpf .oeq X (broadcastInDim S16896x32 ![0, 1] bcast_S16896x1_S16896x32_0_1 (broadcastInDim S16896x1 ![0] bcast_S16896_S16896x1_0 Y))) (broadcastInDim S16896x32 ![1] bcast_S32_S16896x32_1 (iotaInDim S32 32 0)) (broadcastInDim S16896x32 ![] bcast_S_S16896x32 (id (constantI S_ 32 32#32))) (ix2 n e)
      = if f e = hi f then BitVec.ofNat 32 e.val else 32#32 := by
  pointwise
  rw [h, hy]
  rfl

theorem fold_min (X : FVec Ideal S16896x32 .f32) (Y : FVec Ideal S16896 .f32) (n : Fin 16896) (f : Fin 32 → EReal) (h : ∀ e, X (ix2 n e) = f e) (hy : Y (ix1 n) = hi f) :
    Host.reduce IntOp.minsi (select (cmpf .oeq X (broadcastInDim S16896x32 ![0, 1] bcast_S16896x1_S16896x32_0_1 (broadcastInDim S16896x1 ![0] bcast_S16896_S16896x1_0 Y))) (broadcastInDim S16896x32 ![1] bcast_S32_S16896x32_1 (iotaInDim S32 32 0)) (broadcastInDim S16896x32 ![] bcast_S_S16896x32 (id (constantI S_ 32 32#32)))) (constantI S_ 32 2147483647#32) reducesTo_S16896x32_S16896_d1 h_S_ (ix1 n) = pick f := by
  rw [Host.reduce_eq_fold_single IntOp.minsi _ _ _ reduces_experts _ _]
  refine congrArg (fun g => Finset.univ.fold IntOp.minsi 2147483647#32 g) (funext fun e => ?_)
  exact (congrArg _ (lift_experts n e)).trans (where_largest X Y n f h hy e)

theorem taken_out (X : FVec Ideal S16896x32 .f32) (Y : IVec S16896 32) (n : Fin 16896) (f : Fin 32 → EReal) (h : ∀ e, X (ix2 n e) = f e) (hy : Y (ix1 n) = pick f) (e : Fin 32) :
    select (cmpi .eq (broadcastInDim S16896x32 ![0, 1] bcast_S1x32_S16896x32_0_1 (broadcastInDim S1x32 ![1] bcast_S32_S1x32_1 (iotaInDim S32 32 0))) (broadcastInDim S16896x32 ![0, 1] bcast_S16896x1_S16896x32_0_1 (broadcastInDim S16896x1 ![0] bcast_S16896_S16896x1_0 Y))) (broadcastInDim S16896x32 ![] bcast_S_S16896x32 (id (constant S_ .f32 0xFF800000#32))) X (ix2 n e) = wipe f e := by
  pointwise
  rw [h, hy]
  rfl

theorem ref_top0 (n : Fin 16896) : res_main_v6 W (ix1 n) = hi (left (given W n) 0) := fold_max _ n _ (ref_logit W n)

theorem ref_pick0 (n : Fin 16896) : res_main_v11 W (ix1 n) = pick (left (given W n) 0) := fold_min _ _ n _ (ref_logit W n) (ref_top0 W n)

theorem ref_left1 (n : Fin 16896) (e : Fin 32) : res_main_v17 W (ix2 n e) = left (given W n) 1 e := taken_out _ _ n _ (ref_logit W n) (ref_pick0 W n) e

theorem ref_top1 (n : Fin 16896) : res_main_v24 W (ix1 n) = hi (left (given W n) 1) := fold_max _ n _ (ref_left1 W n)

theorem ref_pick1 (n : Fin 16896) : res_main_v29 W (ix1 n) = pick (left (given W n) 1) := fold_min _ _ n _ (ref_left1 W n) (ref_top1 W n)

theorem ref_left2 (n : Fin 16896) (e : Fin 32) : res_main_v35 W (ix2 n e) = left (given W n) 2 e := taken_out _ _ n _ (ref_left1 W n) (ref_pick1 W n) e

theorem ref_top2 (n : Fin 16896) : res_main_v42 W (ix1 n) = hi (left (given W n) 2) := fold_max _ n _ (ref_left2 W n)

theorem ref_pick2 (n : Fin 16896) : res_main_v47 W (ix1 n) = pick (left (given W n) 2) := fold_min _ _ n _ (ref_left2 W n) (ref_top2 W n)

theorem ref_left3 (n : Fin 16896) (e : Fin 32) : res_main_v53 W (ix2 n e) = left (given W n) 3 e := taken_out _ _ n _ (ref_left2 W n) (ref_pick2 W n) e

theorem ref_top3 (n : Fin 16896) : res_main_v60 W (ix1 n) = hi (left (given W n) 3) := fold_max _ n _ (ref_left3 W n)

theorem ref_pick3 (n : Fin 16896) : res_main_v65 W (ix1 n) = pick (left (given W n) 3) := fold_min _ _ n _ (ref_left3 W n) (ref_top3 W n)

/-- The four weights, their sum, and the gates. -/
theorem ref_weight0 (n : Fin 16896) : res_main_v79 W (ix1 n) = weight (given W n) 0 := by
  unfold res_main_v79 weight
  pointwise
  rw [ref_top0]
  rfl

theorem ref_weight1 (n : Fin 16896) : res_main_v81 W (ix1 n) = weight (given W n) 1 := by
  unfold res_main_v81 weight
  pointwise
  rw [ref_top0, ref_top1]
  rfl

theorem ref_weight2 (n : Fin 16896) : res_main_v83 W (ix1 n) = weight (given W n) 2 := by
  unfold res_main_v83 weight
  pointwise
  rw [ref_top0, ref_top2]
  rfl

theorem ref_weight3 (n : Fin 16896) : res_main_v85 W (ix1 n) = weight (given W n) 3 := by
  unfold res_main_v85 weight
  pointwise
  rw [ref_top0, ref_top3]
  rfl

theorem ref_whole (n : Fin 16896) : res_main_v88 W (ix1 n) = weight (given W n) 0 + weight (given W n) 1 + weight (given W n) 2 + weight (given W n) 3 := by
  unfold res_main_v88
  pointwise
  rw [ref_weight0, ref_weight1, ref_weight2, ref_weight3]

/-- The reference's picks, a row for each round. -/
theorem ref_picks (r : Fin 4) (n : Fin 16896) :
    concatenate S4x16896 0 [⟨S1x16896, ((broadcastInDim S1x16896 ![1] bcast_S16896_S1x16896_1 (res_main_v11 W)) : IVec S1x16896 32)⟩, ⟨S1x16896, ((broadcastInDim S1x16896 ![1] bcast_S16896_S1x16896_1 (res_main_v29 W)) : IVec S1x16896 32)⟩, ⟨S1x16896, ((broadcastInDim S1x16896 ![1] bcast_S16896_S1x16896_1 (res_main_v47 W)) : IVec S1x16896 32)⟩, ⟨S1x16896, ((broadcastInDim S1x16896 ![1] bcast_S16896_S1x16896_1 (res_main_v65 W)) : IVec S1x16896 32)⟩] concatenates_S1x16896_S1x16896_S1x16896_S1x16896_S4x16896_d0 (ix2 r n)
      = pick (left (given W n) r.val) := by
  fin_cases r
  · pointwise
    exact ref_pick0 W n
  · pointwise
    exact ref_pick1 W n
  · pointwise
    exact ref_pick2 W n
  · pointwise
    exact ref_pick3 W n

/-- The reference's gates, a row for each round. -/
theorem ref_gates (r : Fin 4) (n : Fin 16896) :
    concatenate S4x16896 0 [⟨S1x16896, ((broadcastInDim S1x16896 ![1] bcast_S16896_S1x16896_1 (Host.divf (res_main_v79 W) (res_main_v88 W))) : FVec Ideal S1x16896 .f32)⟩, ⟨S1x16896, ((broadcastInDim S1x16896 ![1] bcast_S16896_S1x16896_1 (Host.divf (res_main_v81 W) (res_main_v88 W))) : FVec Ideal S1x16896 .f32)⟩, ⟨S1x16896, ((broadcastInDim S1x16896 ![1] bcast_S16896_S1x16896_1 (Host.divf (res_main_v83 W) (res_main_v88 W))) : FVec Ideal S1x16896 .f32)⟩, ⟨S1x16896, ((broadcastInDim S1x16896 ![1] bcast_S16896_S1x16896_1 (Host.divf (res_main_v85 W) (res_main_v88 W))) : FVec Ideal S1x16896 .f32)⟩] concatenates_S1x16896_S1x16896_S1x16896_S1x16896_S4x16896_d0 (ix2 r n)
      = share (given W n) r.val := by
  unfold share
  fin_cases r
  · pointwise
    rw [ref_weight0, ref_whole]
  · pointwise
    rw [ref_weight1, ref_whole]
  · pointwise
    rw [ref_weight2, ref_whole]
  · pointwise
    rw [ref_weight3, ref_whole]

end Cert.RouterProof

end
-- ==== Proof.RouterBody.lean ====
module

public import proofs.«01_k».proof.Defs
public import proofs.«01_k».proof.Proof.Gen.Kernel9Ideal.Value
public import proofs.«01_k».proof.Proof.RouterRow

@[expose] public section

set_option maxRecDepth 16384

noncomputable section

namespace Cert.RouterProof

open Idealize.ShloMosaic Idealize.ShloMosaic.TcCoe Idealize.ShloMosaic.ValueKit Idealize.SL.Sem
open Cert.Kernel9Ideal Cert.Kernel9Ideal.Gen

/-- The experts' numbers down the rows. -/
abbrev number : IVec S32x512 32 := iota .tc S32x512 32 [0] iota_S32x512_d0_w32

section Rounds

variable (w : Vec Ideal S32x1024 .f32) (x : Vec Ideal S512x1024 .f32) (b : Vec Ideal S32x1 .f32) (n : Fin 512) (f : Fin 32 → EReal)

theorem logit (e : Fin 32) : k0_pay7 w x b (ix2 e n) = (∑ k : Fin 1024, x (ix2 n k) * w (ix2 e k)) + b (ix2 e 0) := by
  unfold k0_pay7
  pointwise
  exact congrArg (· + _) (Finset.sum_congr rfl fun k _ => mul_comm _ _)

variable (hf : ∀ e, k0_pay7 w x b (ix2 e n) = f e)
include hf

theorem top0 : k0_pay8 w x b (ix2 0 n) = hi (left f 0) := by
  unfold k0_pay8 hi left
  pointwise
  simp only [hf]

theorem pick0 : k0_pay9 w x b (ix2 0 n) = pick (left f 0) := by
  unfold k0_pay9 pick
  pointwise
  simp only [hf, top0 w x b n f hf]
  rfl

theorem left1 (e : Fin 32) : k0_pay11 w x b (ix2 e n) = left f 1 e := by
  unfold k0_pay11 k0_pay10
  pointwise
  rw [hf, pick0 w x b n f hf]
  rfl

theorem top1 : k0_pay12 w x b (ix2 0 n) = hi (left f 1) := by
  unfold k0_pay12 hi
  pointwise
  simp only [left1 w x b n f hf]

theorem pick1 : k0_pay13 w x b (ix2 0 n) = pick (left f 1) := by
  unfold k0_pay13 pick
  pointwise
  simp only [left1 w x b n f hf, top1 w x b n f hf]

theorem left2 (e : Fin 32) : k0_pay16 (k0_pay11 w x b) (k0_pay14 w x b) (ix2 e n) = left f 2 e := by
  unfold k0_pay16 k0_pay14
  pointwise
  rw [left1 w x b n f hf, pick1 w x b n f hf]
  rfl

theorem top2 : k0_pay17 (k0_pay11 w x b) (k0_pay14 w x b) (ix2 0 n) = hi (left f 2) := by
  unfold k0_pay17 hi
  pointwise
  simp only [left2 w x b n f hf]

theorem pick2 : k0_pay18 number (k0_pay11 w x b) (k0_pay14 w x b) (ix2 0 n) = pick (left f 2) := by
  unfold k0_pay18 pick
  pointwise
  simp only [left2 w x b n f hf, top2 w x b n f hf]

theorem left3 (e : Fin 32) : k0_pay20 number (k0_pay11 w x b) (k0_pay14 w x b) (ix2 e n) = left f 3 e := by
  unfold k0_pay20 k0_pay19
  pointwise
  rw [left2 w x b n f hf, pick2 w x b n f hf]
  rfl

theorem top3 : k0_pay21 number (k0_pay11 w x b) (k0_pay14 w x b) (ix2 0 n) = hi (left f 3) := by
  unfold k0_pay21 hi
  pointwise
  simp only [left3 w x b n f hf]

theorem pick3 : k0_pay22 number (k0_pay11 w x b) (k0_pay14 w x b) (ix2 0 n) = pick (left f 3) := by
  unfold k0_pay22 pick
  pointwise
  simp only [left3 w x b n f hf, top3 w x b n f hf]

theorem weight0 : k0_pay24 (k0_pay8 w x b) (ix2 0 n) = weight f 0 := by
  unfold k0_pay24 weight
  pointwise
  rw [top0 w x b n f hf]
  rfl

theorem weight1 : k0_pay25 (k0_pay8 w x b) (k0_pay12 w x b) (ix2 0 n) = weight f 1 := by
  unfold k0_pay25 weight
  pointwise
  rw [top0 w x b n f hf, top1 w x b n f hf]
  rfl

theorem weight2 : k0_pay26 (k0_pay8 w x b) (k0_pay11 w x b) (k0_pay14 w x b) (ix2 0 n) = weight f 2 := by
  unfold k0_pay26 weight
  pointwise
  rw [top0 w x b n f hf, top2 w x b n f hf]
  rfl

theorem weight3 : k0_pay27 number (k0_pay8 w x b) (k0_pay11 w x b) (k0_pay14 w x b) (ix2 0 n) = weight f 3 := by
  unfold k0_pay27 weight
  pointwise
  rw [top0 w x b n f hf, top3 w x b n f hf]
  rfl

theorem whole : k0_pay28 number (k0_pay8 w x b) (k0_pay11 w x b) (k0_pay12 w x b) (k0_pay14 w x b) (ix2 0 n) = weight f 0 + weight f 1 + weight f 2 + weight f 3 := by
  unfold k0_pay28
  pointwise
  rw [weight0 w x b n f hf, weight1 w x b n f hf, weight2 w x b n f hf, weight3 w x b n f hf]

/-- The four gates: each weight over the sum of the four. -/
theorem share0 : k0_pay32 (k0_pay24 (k0_pay8 w x b)) (k0_pay28 number (k0_pay8 w x b) (k0_pay11 w x b) (k0_pay12 w x b) (k0_pay14 w x b)) (ix2 0 n) = share f 0 := by
  unfold k0_pay32 share
  pointwise
  rw [weight0 w x b n f hf, whole w x b n f hf]

theorem share1 : k0_pay34 (k0_pay25 (k0_pay8 w x b) (k0_pay12 w x b)) (k0_pay28 number (k0_pay8 w x b) (k0_pay11 w x b) (k0_pay12 w x b) (k0_pay14 w x b)) (ix2 0 n) = share f 1 := by
  unfold k0_pay34 share
  pointwise
  rw [weight1 w x b n f hf, whole w x b n f hf]

theorem share2 : k0_pay36 (k0_pay26 (k0_pay8 w x b) (k0_pay11 w x b) (k0_pay14 w x b)) (k0_pay28 number (k0_pay8 w x b) (k0_pay11 w x b) (k0_pay12 w x b) (k0_pay14 w x b)) (ix2 0 n) = share f 2 := by
  unfold k0_pay36 share
  pointwise
  rw [weight2 w x b n f hf, whole w x b n f hf]

theorem share3 : k0_pay2 (k0_pay27 number (k0_pay8 w x b) (k0_pay11 w x b) (k0_pay14 w x b)) (k0_pay28 number (k0_pay8 w x b) (k0_pay11 w x b) (k0_pay12 w x b) (k0_pay14 w x b)) (ix2 0 n) = share f 3 := by
  unfold k0_pay2 share
  pointwise
  rw [weight3 w x b n f hf, whole w x b n f hf]

end Rounds

end Cert.RouterProof

end
-- ==== Proof.RouterCount.lean ====
module

public import proofs.«01_k».proof.Defs
public import proofs.«01_k».proof.Proof.RouterBody

@[expose] public section

set_option maxRecDepth 16384

noncomputable section

namespace Cert.RouterProof

open Idealize.ShloMosaic Idealize.ShloMosaic.TcCoe Idealize.ShloMosaic.ValueKit Idealize.SL.Sem
open Cert.Kernel9Ideal Cert.Kernel9Ideal.Gen

/-- How many of the first rows chose an expert. -/
def upto (g : ℕ → Fin 32 → EReal) (T : ℕ) (e : Fin 32) : EReal := ∑ p ∈ Finset.range T, g p e

theorem upto_add (g : ℕ → Fin 32 → EReal) (T n : ℕ) (e : Fin 32) : upto g (T + n) e = upto g T e + ∑ k ∈ Finset.range n, g (T + k) e := Finset.sum_range_add _ _ _

/-- A sum over some rows where only the first ones count. -/
theorem sum_first (N P : ℕ) (h : P ≤ N) (g : ℕ → EReal) : (∑ k : Fin N, if k.val < P then g k.val else 0) = ∑ k ∈ Finset.range P, g k := by
  rw [← Finset.sum_range (fun k => if k < P then g k else 0), ← Finset.sum_filter]
  congr 1
  ext k
  simp only [Finset.mem_filter, Finset.mem_range]
  omega

/-- The comparison of two small row numbers, as a number. -/
theorem row_lt (a b : ℕ) (ha : a < 16896) (hb : b < 16896) : IntOp.cmpi .slt (BitVec.ofNat 32 a) (BitVec.ofNat 32 b) = if a < b then 1#1 else 0#1 := by
  have h1 : (BitVec.ofNat 32 a).toInt = (a : ℤ) := by rw [BitVec.toInt_eq_toNat_of_lt (by rw [BitVec.toNat_ofNat]; omega), BitVec.toNat_ofNat]; omega
  have h2 : (BitVec.ofNat 32 b).toInt = (b : ℤ) := by rw [BitVec.toInt_eq_toNat_of_lt (by rw [BitVec.toNat_ofNat]; omega), BitVec.toNat_ofNat]; omega
  simp only [IntOp.cmpi, BitVec.slt, h1, h2, Nat.cast_lt]
  split <;> simp [*]

section Block

variable (w : Vec Ideal S32x1024 .f32) (x : Vec Ideal S512x1024 .f32) (b : Vec Ideal S32x1 .f32) (f : Fin 512 → Fin 32 → EReal)
variable (hf : ∀ n e, k0_pay7 w x b (ix2 e n) = f n e)
include hf

theorem chosen2 (n : Fin 512) (e : Fin 32) : k0_pay15 w x b (ix2 e n) = member (f n) 2 e := by
  unfold k0_pay15 k0_pay14 k0_pay10
  pointwise
  rw [pick0 w x b n _ (hf n), pick1 w x b n _ (hf n)]
  rfl

theorem chosen (n : Fin 512) (e : Fin 32) : k0_pay23 number (k0_pay11 w x b) (k0_pay14 w x b) (k0_pay15 w x b) (ix2 e n) = member (f n) 4 e := by
  unfold k0_pay23 k0_pay19
  pointwise
  rw [pick2 w x b n _ (hf n), pick3 w x b n _ (hf n), chosen2 w x b f hf]
  rfl

omit hf in
theorem before (k n : Fin 512) : (k0_pay29 (F := Ideal) (ix2 k n) : EReal) = if k.val < n.val then 1 else 0 := by
  unfold k0_pay29
  pointwise
  rw [row_lt _ _ (by omega) (by omega)]
  split
  · show (((1#32 : BitVec 32).toInt : ℝ) : EReal) = 1
    simp
  · show (((0#32 : BitVec 32).toInt : ℝ) : EReal) = 0
    simp

omit hf in
theorem product (U : FVec Ideal S32x512 .bf16) (V : FVec Ideal S512x512 .bf16) (q : Vec Ideal S32x1 .f32) (n : Fin 512) (e : Fin 32) :
    k0_pay31 V U (constant S32x512 .f32 0#32) q (ix2 e n) = (∑ k : Fin 512, U (ix2 e k) * V (ix2 k n)) + q (ix2 e 0) := by
  unfold k0_pay31
  pointwise

theorem ahead (q : Vec Ideal S32x1 .f32) (n : Fin 512) (e : Fin 32) :
    k0_pay31 k0_pay29 (k0_pay30 number (k0_pay11 w x b) (k0_pay14 w x b) (k0_pay15 w x b)) (constant S32x512 .f32 0#32) q (ix2 e n)
      = (∑ k : Fin 512, if k.val < n.val then member (f k) 4 e else 0) + q (ix2 e 0) := by
  have h : ∀ k : Fin 512, k0_pay30 number (k0_pay11 w x b) (k0_pay14 w x b) (k0_pay15 w x b) (ix2 e k) = member (f k) 4 e := by
    intro k
    unfold k0_pay30
    pointwise
    exact chosen w x b f hf k e
  refine (product _ _ q n e).trans (congrArg (· + q (ix2 e 0)) (Finset.sum_congr rfl fun k _ => ?_))
  rw [h, before, mul_ite, mul_one, mul_zero]

theorem added (X : Vec Ideal S32x128 .f32) (e : Fin 32) (l : Fin 128) :
    k0_pay4 (k0_pay23 number (k0_pay11 w x b) (k0_pay14 w x b) (k0_pay15 w x b)) X (ix2 e l) = X (ix2 e l) + ∑ k : Fin 512, member (f k) 4 e := by
  unfold k0_pay4
  pointwise
  simp only [chosen w x b f hf]

end Block

/-- A row's number within its expert, from the counts of the rows before it. -/
def rankOf (f : Fin 32 → EReal) (r : ℕ) (A : Fin 32 → EReal) : BitVec 32 :=
  FloatOps.fptosi (F := Ideal) (φ := .f32) 32 (∑ e : Fin 32, Scalar.select (IntOp.cmpi .eq (BitVec.ofNat 32 e.val) (pick (left f r))) (A e) 0)

section Ranks

variable (w : Vec Ideal S32x1024 .f32) (x : Vec Ideal S512x1024 .f32) (b : Vec Ideal S32x1 .f32) (n : Fin 512) (f : Fin 32 → EReal)
variable (hf : ∀ e, k0_pay7 w x b (ix2 e n) = f e)
variable (A : Fin 32 → EReal)
include hf

theorem rank0 (V : FVec Ideal S512x512 .bf16) (U : FVec Ideal S32x512 .bf16) (q : Vec Ideal S32x1 .f32) (hA : ∀ e, k0_pay31 V U (constant S32x512 .f32 0#32) q (ix2 e n) = A e) :
    k0_pay33 number (k0_pay9 w x b) V U (constant S32x512 .f32 0#32) q (ix2 0 n) = rankOf f 0 A := by
  unfold k0_pay33 rankOf
  pointwise
  simp only [hA, pick0 w x b n f hf]

theorem rank1 (V : FVec Ideal S512x512 .bf16) (U : FVec Ideal S32x512 .bf16) (q : Vec Ideal S32x1 .f32) (hA : ∀ e, k0_pay31 V U (constant S32x512 .f32 0#32) q (ix2 e n) = A e) :
    k0_pay35 number (k0_pay13 w x b) V U (constant S32x512 .f32 0#32) q (ix2 0 n) = rankOf f 1 A := by
  unfold k0_pay35 rankOf
  pointwise
  simp only [hA, pick1 w x b n f hf]

theorem rank2 (P : FVec Ideal S32x512 .f32) (hA : ∀ e, P (ix2 e n) = A e) : k0_pay1 number P (k0_pay37 (k0_pay18 number (k0_pay11 w x b) (k0_pay14 w x b))) (ix2 0 n) = rankOf f 2 A := by
  unfold k0_pay1 k0_pay37 rankOf
  pointwise
  simp only [hA, pick2 w x b n f hf]

theorem rank3 (P : FVec Ideal S32x512 .f32) (hA : ∀ e, P (ix2 e n) = A e) : k0_pay3 number (k0_pay22 number (k0_pay11 w x b) (k0_pay14 w x b)) P (ix2 0 n) = rankOf f 3 A := by
  unfold k0_pay3 rankOf
  pointwise
  simp only [hA, pick3 w x b n f hf]

end Ranks

end Cert.RouterProof

end
-- ==== Proof.RouterValue.lean ====
module

public import proofs.«01_k».proof.Defs
public import proofs.«01_k».proof.Proof.RouterBody
public import proofs.«01_k».proof.Proof.RouterRef

@[expose] public section

set_option maxRecDepth 16384

noncomputable section

namespace Cert.RouterProof

open Idealize.ShloMosaic Idealize.ShloMosaic.TcCoe Idealize.ShloMosaic.ValueKit Idealize.SL.Sem
open Cert.Kernel9Ideal Cert.Kernel9Ideal.Gen

variable (m : (ℓ : Loc nD τ sig) → Buf (Elt Ideal) ℓ) (c : Dev nD)

theorem idx : ∀ t : Fin grid0.N, win0_0.index t = ![t.val, 0] ∧ win0_1.index t = ![0, 0] ∧ win0_2.index t = ![0, 0] ∧ win0_3.index t = ![0, t.val] ∧ win0_4.index t = ![0, t.val] ∧ t.val < 33 := by decide +kernel

theorem block0 (t : Fin grid0.N) (n : Fin 512) (k : Fin 1024) (p : Fin 16896) (hp : p.val = t.val * 512 + n.val) : iblk m c 0 t (ix2 n k) = m ((c : Thread nD τ).loc main_arg0) (ix2 p k) := by
  blk_ext [iblk, V, (idx t).1]

/-- The two arguments the program rearranges before the call. -/
theorem turned : (V m c main_v0 : FVec Ideal S32x1024 .f32) = transpose S32x1024 [1, 0] (m ((c : Thread nD τ).loc main_arg1)) transposes_S1024x32_S32x1024_1_0 := rfl

theorem column : (V m c main_v1 : FVec Ideal S32x1 .f32) = shapeCast S32x1 (m ((c : Thread nD τ).loc main_arg2)) shapeCasts_S32_S32x1 := rfl

theorem block1 (t : Fin grid0.N) (e : Fin 32) (k : Fin 1024) : iblk m c 1 t (ix2 e k) = m ((c : Thread nD τ).loc main_arg1) (ix2 k e) := by
  have h : iblk m c 1 t (ix2 e k) = (V m c main_v0 : FVec Ideal S32x1024 .f32) (ix2 e k) := by
    blk_ext [iblk, (idx t).2.1]
  rw [h, turned]
  pointwise

theorem block2 (t : Fin grid0.N) (e : Fin 32) : iblk m c 2 t (ix2 e 0) = m ((c : Thread nD τ).loc main_arg2) (ix1 e) := by
  have h : iblk m c 2 t (ix2 e 0) = (V m c main_v1 : FVec Ideal S32x1 .f32) (ix2 e 0) := by
    blk_ext [iblk, (idx t).2.2.1]
  rw [h, column]
  pointwise

/-- A row's scores are the reference's. -/
def asked (n : Fin 16896) : Fin 32 → EReal := scores (m ((c : Thread nD τ).loc main_arg0)) (m ((c : Thread nD τ).loc main_arg1)) (m ((c : Thread nD τ).loc main_arg2)) n

theorem block_logit (t : Fin grid0.N) (n : Fin 512) (p : Fin 16896) (hp : p.val = t.val * 512 + n.val) (e : Fin 32) : k0_pay7 (iblk m c 1 t) (iblk m c 0 t) (iblk m c 2 t) (ix2 e n) = asked m c p e := by
  refine (logit _ _ _ n e).trans ?_
  rw [block2]
  simp only [block0 m c t n _ p hp, block1]
  rfl

theorem picks_rows (t : Fin cfg0.N) (r : Fin 4) (n : Fin 512) (p : Fin 16896) (hp : p.val = t.val * 512 + n.val) : (outsAt0 m c t.val t.isLt).1 (ix2 r n) = pick (left (asked m c p) r.val) := by
  have hf := block_logit m c t n p hp
  by_cases h0 : t.val % 33 = 0
  · rw [outsAt0_A m c t h0]
    dsimp only
    frame_out
    canon_tiles z h
    all_goals idx_vars z
    all_goals obtain rfl : n = z1 := Fin.ext h1
    all_goals obtain rfl : z0 = 0 := Subsingleton.elim _ _
    · obtain rfl : r = 3 := Fin.ext h0
      exact pick3 _ _ _ n _ hf
    · obtain rfl : r = 2 := Fin.ext h0
      exact pick2 _ _ _ n _ hf
    · obtain rfl : r = 1 := Fin.ext h0
      exact pick1 _ _ _ n _ hf
    · obtain rfl : r = 0 := Fin.ext h0
      exact pick0 _ _ _ n _ hf
  · rw [outsAt0_B m c t h0]
    dsimp only
    frame_out
    canon_tiles z h
    all_goals idx_vars z
    all_goals obtain rfl : n = z1 := Fin.ext h1
    all_goals obtain rfl : z0 = 0 := Subsingleton.elim _ _
    · obtain rfl : r = 3 := Fin.ext h0
      exact pick3 _ _ _ n _ hf
    · obtain rfl : r = 2 := Fin.ext h0
      exact pick2 _ _ _ n _ hf
    · obtain rfl : r = 1 := Fin.ext h0
      exact pick1 _ _ _ n _ hf
    · obtain rfl : r = 0 := Fin.ext h0
      exact pick0 _ _ _ n _ hf

theorem gates_rows (t : Fin cfg0.N) (r : Fin 4) (n : Fin 512) (p : Fin 16896) (hp : p.val = t.val * 512 + n.val) : (outsAt0 m c t.val t.isLt).2.1 (ix2 r n) = share (asked m c p) r.val := by
  have hf := block_logit m c t n p hp
  by_cases h0 : t.val % 33 = 0
  · rw [outsAt0_A m c t h0]
    dsimp only
    frame_out
    canon_tiles z h
    all_goals idx_vars z
    all_goals obtain rfl : n = z1 := Fin.ext h1
    all_goals obtain rfl : z0 = 0 := Subsingleton.elim _ _
    · obtain rfl : r = 3 := Fin.ext h0
      exact share3 _ _ _ n _ hf
    · obtain rfl : r = 2 := Fin.ext h0
      exact share2 _ _ _ n _ hf
    · obtain rfl : r = 1 := Fin.ext h0
      exact share1 _ _ _ n _ hf
    · obtain rfl : r = 0 := Fin.ext h0
      exact share0 _ _ _ n _ hf
  · rw [outsAt0_B m c t h0]
    dsimp only
    frame_out
    canon_tiles z h
    all_goals idx_vars z
    all_goals obtain rfl : n = z1 := Fin.ext h1
    all_goals obtain rfl : z0 = 0 := Subsingleton.elim _ _
    · obtain rfl : r = 3 := Fin.ext h0
      exact share3 _ _ _ n _ hf
    · obtain rfl : r = 2 := Fin.ext h0
      exact share2 _ _ _ n _ hf
    · obtain rfl : r = 1 := Fin.ext h0
      exact share1 _ _ _ n _ hf
    · obtain rfl : r = 0 := Fin.ext h0
      exact share0 _ _ _ n _ hf

/-- The two results as whole arrays. -/
def picks : IVec S4x16896 32 := fun i => pick (left (asked m c (i 1)) (i 0).val)

def gates : FVec Ideal S4x16896 .f32 := fun i => share (asked m c (i 1)) (i 0).val

theorem picks_at (t : Fin cfg0.N) (r : Fin 4) (n : Fin 512) (p : Fin 16896) (hp : p.val = t.val * 512 + n.val) : (outsAt0 m c t.val t.isLt).1 (ix2 r n) = picks m c (ix2 r p) := picks_rows m c t r n p hp

theorem gates_at (t : Fin cfg0.N) (r : Fin 4) (n : Fin 512) (p : Fin 16896) (hp : p.val = t.val * 512 + n.val) : (outsAt0 m c t.val t.isLt).2.1 (ix2 r n) = gates m c (ix2 r p) := gates_rows m c t r n p hp

theorem array3 : (dats m 0 c).arrAt 3 cfg0.N = picks m c := by
  refine (dats m 0 c).arrAt_eq_of_covers 3 _ (by decide +kernel) fun t hf y => ?_
  idx_vars y
  have ht := (idx t).2.2.2.2.2
  blk_simp
  rw [after0_3, picks_at m c t y0 y1 ⟨t.val * 512 + y1.val, by omega⟩ rfl]
  refine congrArg (picks m c) ?_
  blk_ext [(idx t).2.2.2.1]

theorem array4 : (dats m 0 c).arrAt 4 cfg0.N = gates m c := by
  refine (dats m 0 c).arrAt_eq_of_covers 4 _ (by decide +kernel) fun t hf y => ?_
  idx_vars y
  have ht := (idx t).2.2.2.2.2
  blk_simp
  rw [after0_4, gates_at m c t y0 y1 ⟨t.val * 512 + y1.val, by omega⟩ rfl]
  refine congrArg (gates m c) ?_
  blk_ext [(idx t).2.2.2.2.1]

end Cert.RouterProof

end
-- ==== Proof.RouterRanks.lean ====
module

public import proofs.«01_k».proof.Defs
public import proofs.«01_k».proof.Proof.RouterCount
public import proofs.«01_k».proof.Proof.RouterValue
public import Idealize.ShloMosaic.Lib.Pipeline.ReadBack

@[expose] public section

set_option maxRecDepth 16384

noncomputable section

namespace Cert.RouterProof

open Idealize.ShloMosaic Idealize.ShloMosaic.TcCoe Idealize.ShloMosaic.ValueKit Idealize.SL.Sem
open Cert.Kernel9Ideal Cert.Kernel9Ideal.Gen

variable (m : (ℓ : Loc nD τ sig) → Buf (Elt Ideal) ℓ) (c : Dev nD)

/-- Whether a row chose an expert, as one or zero, for every row number. -/
def taken (p : ℕ) (e : Fin 32) : EReal := if h : p < 16896 then member (asked m c ⟨p, h⟩) 4 e else 0

/-- A block's row among all rows. -/
def rowOf (t : Fin cfg0.N) (k : Fin 512) : Fin 16896 := ⟨t.val * 512 + k.val, by have := (idx t).2.2.2.2.2; omega⟩

theorem member_taken (t : Fin cfg0.N) (k : Fin 512) (e : Fin 32) : member (asked m c (rowOf t k)) 4 e = taken m c (t.val * 512 + k.val) e := by
  unfold taken
  rw [dif_pos (show t.val * 512 + k.val < 16896 from (rowOf t k).isLt)]
  unfold rowOf
  simp only

theorem block_scores (t : Fin cfg0.N) (k : Fin 512) (e : Fin 32) : k0_pay7 (iblk m c 1 t) (iblk m c 0 t) (iblk m c 2 t) (ix2 e k) = asked m c (rowOf t k) e := block_logit m c t k _ rfl e

theorem block_sum (t : Fin cfg0.N) (e : Fin 32) : (∑ k : Fin 512, member (asked m c (rowOf t k)) 4 e) = ∑ k ∈ Finset.range 512, taken m c (t.val * 512 + k) e := by
  rw [Finset.sum_range]
  exact Finset.sum_congr rfl fun k _ => member_taken m c t k e

theorem block_before (t : Fin cfg0.N) (n : Fin 512) (e : Fin 32) : (∑ k : Fin 512, if k.val < n.val then member (asked m c (rowOf t k)) 4 e else 0) = ∑ k ∈ Finset.range n.val, taken m c (t.val * 512 + k) e := by
  rw [← sum_first 512 n.val n.isLt.le]
  exact Finset.sum_congr rfl fun k _ => by rw [member_taken]

theorem step_first (t : Fin cfg0.N) (h0 : t.val % 33 = 0) (e : Fin 32) (l : Fin 128) : (outsAt0 m c t.val t.isLt).2.2.2.2 (ix2 e l) = ∑ k ∈ Finset.range 512, taken m c (t.val * 512 + k) e := by
  rw [outsAt0_A m c t h0]
  dsimp only
  frame_out
  refine (added _ _ _ _ (block_scores m c t) (k0_pay6 (F := Ideal)) e l).trans ?_
  rw [block_sum]
  unfold k0_pay6
  pointwise

theorem step_next (t : Fin cfg0.N) (h0 : ¬ t.val % 33 = 0) (e : Fin 32) (l : Fin 128) : (outsAt0 m c t.val t.isLt).2.2.2.2 (ix2 e l)
    = (outsAt0 m c (t.val - 1) (Nat.lt_of_le_of_lt (Nat.sub_le _ _) t.isLt)).2.2.2.2 (ix2 e l) + ∑ k ∈ Finset.range 512, taken m c (t.val * 512 + k) e := by
  rw [outsAt0_B m c t h0]
  dsimp only
  frame_out
  refine (added _ _ _ _ (block_scores m c t) _ e l).trans ?_
  rw [block_sum]
  refine congrArg (· + _) ?_
  exact congrFun (Memref.IsWhole.read_unread _ _) _

theorem carried : ∀ (n : ℕ) (hn : n < cfg0.N) (e : Fin 32) (l : Fin 128), (outsAt0 m c n hn).2.2.2.2 (ix2 e l) = upto (taken m c) ((n + 1) * 512) e := by
  intro n
  induction n with
  | zero =>
    intro hn e l
    refine (step_first m c ⟨0, hn⟩ rfl e l).trans ?_
    unfold upto
    simp only [Nat.zero_mul, Nat.zero_add, Nat.one_mul]
  | succ n ih =>
    intro hn e l
    have h33 : n + 1 < 33 := (idx ⟨n + 1, hn⟩).2.2.2.2.2
    refine (step_next m c ⟨n + 1, hn⟩ (by simp only; omega) e l).trans ?_
    simp only [Nat.add_sub_cancel]
    rw [ih, Nat.succ_mul (n + 1), upto_add]

theorem zeros (y : S32x128.Idx) : k0_pay6 (F := Ideal) y = 0 := by
  idx_vars y
  unfold k0_pay6
  pointwise

theorem reach_next (h : (Memref.whole cc0_scratch0).IsWhole) (X : Vec Ideal S32x128 .f32) (e : Fin 32) : View.ld (View.read (Elt Ideal) (View.whole cc0_scratch0) (h.unread X)) (Rect.unit ![0, 0] ![32, 1] inb_S32x128_S32x1_0_0) (ix2 e 0) = X (ix2 e 0) := by
  refine (congrFun (congrArg (fun Y : Vec Ideal S32x128 .f32 => View.ld Y (Rect.unit ![0, 0] ![32, 1] inb_S32x128_S32x1_0_0)) (Memref.IsWhole.read_unread h X)) (ix2 e 0)).trans ?_
  unfold View.ld
  refine congrArg X (funext fun d => Fin.ext ?_)
  fin_cases d
  · show 0 + 1 * e.val = e.val
    omega
  · rfl

theorem ranks_rows (t : Fin cfg0.N) (r : Fin 4) (n : Fin 512) : (outsAt0 m c t.val t.isLt).2.2.1 (ix2 r n) = rankOf (asked m c (rowOf t n)) r.val (upto (taken m c) (t.val * 512 + n.val)) := by
  have hf := block_scores m c t n
  by_cases h0 : t.val % 33 = 0
  · have hA : ∀ (q : Vec Ideal S32x1 .f32) (hq : ∀ e, q (ix2 e 0) = 0) (e : Fin 32), k0_pay31 k0_pay29 (k0_pay30 number (k0_pay11 (iblk m c 1 t) (iblk m c 0 t) (iblk m c 2 t)) (k0_pay14 (iblk m c 1 t) (iblk m c 0 t) (iblk m c 2 t)) (k0_pay15 (iblk m c 1 t) (iblk m c 0 t) (iblk m c 2 t))) (constant S32x512 .f32 0#32) q (ix2 e n) = upto (taken m c) (t.val * 512 + n.val) e := by
      intro q hq e
      have ht : t.val = 0 := by have := (idx t).2.2.2.2.2; omega
      refine (ahead _ _ _ _ (block_scores m c t) q n e).trans ?_
      rw [hq, block_before, ht, add_zero]
      unfold upto
      simp only [Nat.zero_mul, Nat.zero_add]
    rw [outsAt0_A m c t h0]
    dsimp only
    frame_out
    canon_tiles z h
    all_goals idx_vars z
    all_goals obtain rfl : n = z1 := Fin.ext h1
    all_goals obtain rfl : z0 = 0 := Subsingleton.elim _ _
    · obtain rfl : r = 3 := Fin.ext h0
      refine rank3 _ _ _ n _ hf _ _ (hA _ fun e => ?_)
      refine (congrFun (View.readCov_fill _ _ _ _ _ (by decide)) _).trans ?_
      exact zeros _
    · obtain rfl : r = 2 := Fin.ext h0
      refine rank2 _ _ _ n _ hf _ _ (hA _ fun e => ?_)
      refine (congrFun (View.readCov_fill _ _ _ _ _ (by decide)) _).trans ?_
      exact zeros _
    · obtain rfl : r = 1 := Fin.ext h0
      refine rank1 _ _ _ n _ hf _ _ _ _ (hA _ fun e => ?_)
      refine (congrFun (View.readCov_fill _ _ _ _ _ (by decide)) _).trans ?_
      exact zeros _
    · obtain rfl : r = 0 := Fin.ext h0
      refine rank0 _ _ _ n _ hf _ _ _ _ (hA _ fun e => ?_)
      refine (congrFun (View.readCov_fill _ _ _ _ _ (by decide)) _).trans ?_
      exact zeros _
  · have hA : ∀ (q : Vec Ideal S32x1 .f32) (hq : ∀ e, q (ix2 e 0) = (outsAt0 m c (t.val - 1) (Nat.lt_of_le_of_lt (Nat.sub_le _ _) t.isLt)).2.2.2.2 (ix2 e 0)) (e : Fin 32), k0_pay31 k0_pay29 (k0_pay30 number (k0_pay11 (iblk m c 1 t) (iblk m c 0 t) (iblk m c 2 t)) (k0_pay14 (iblk m c 1 t) (iblk m c 0 t) (iblk m c 2 t)) (k0_pay15 (iblk m c 1 t) (iblk m c 0 t) (iblk m c 2 t))) (constant S32x512 .f32 0#32) q (ix2 e n) = upto (taken m c) (t.val * 512 + n.val) e := by
      intro q hq e
      have ht : t.val - 1 + 1 = t.val := by omega
      refine (ahead _ _ _ _ (block_scores m c t) q n e).trans ?_
      rw [hq, block_before, carried, ht, upto_add, add_comm]
    rw [outsAt0_B m c t h0]
    dsimp only
    frame_out
    canon_tiles z h
    all_goals idx_vars z
    all_goals obtain rfl : n = z1 := Fin.ext h1
    all_goals obtain rfl : z0 = 0 := Subsingleton.elim _ _
    · obtain rfl : r = 3 := Fin.ext h0
      refine rank3 _ _ _ n _ hf _ _ (hA _ fun e => ?_)
      exact reach_next _ _ _
    · obtain rfl : r = 2 := Fin.ext h0
      refine rank2 _ _ _ n _ hf _ _ (hA _ fun e => ?_)
      exact reach_next _ _ _
    · obtain rfl : r = 1 := Fin.ext h0
      refine rank1 _ _ _ n _ hf _ _ _ _ (hA _ fun e => ?_)
      exact reach_next _ _ _
    · obtain rfl : r = 0 := Fin.ext h0
      refine rank0 _ _ _ n _ hf _ _ _ _ (hA _ fun e => ?_)
      exact reach_next _ _ _

theorem counts_first (t : Fin cfg0.N) (e : Fin 32) (l : Fin 128) : (outsAt0 m c t.val t.isLt).2.2.2.1 (ix2 e l) = FloatOps.fptosi (F := Ideal) (φ := .f32) 32 ((outsAt0 m c t.val t.isLt).2.2.2.2 (ix2 e l)) := by
  by_cases h0 : t.val % 33 = 0
  · rw [outsAt0_A m c t h0]
    dsimp only
    frame_out
    rfl
  · rw [outsAt0_B m c t h0]
    dsimp only
    frame_out
    rfl

/-- The ranks and the counts as whole arrays. -/
def ranks : IVec S4x16896 32 := fun i => rankOf (asked m c (i 1)) (i 0).val (upto (taken m c) (i 1).val)

def counts : IVec S32x128 32 := fun i => FloatOps.fptosi (F := Ideal) (φ := .f32) 32 (upto (taken m c) 16896 (i 0))

theorem ranks_at (t : Fin cfg0.N) (r : Fin 4) (n : Fin 512) (p : Fin 16896) (hp : p.val = t.val * 512 + n.val) : (outsAt0 m c t.val t.isLt).2.2.1 (ix2 r n) = ranks m c (ix2 r p) := by
  obtain rfl : p = rowOf t n := Fin.ext hp
  exact ranks_rows m c t r n

theorem counts_at (t : Fin cfg0.N) (ht : t.val = 32) (e : Fin 32) (l : Fin 128) : (outsAt0 m c t.val t.isLt).2.2.2.1 (ix2 e l) = counts m c (ix2 e l) := by
  rw [counts_first, carried, ht]
  rfl

theorem idx5 : ∀ t : Fin grid0.N, win0_5.index t = ![0, t.val] ∧ win0_6.index t = ![0, 0] := by decide +kernel

theorem last6 : ∀ t : Fin cfg0.N, (win0 6).flush t = true → t.val = 32 := by decide +kernel

theorem array5 : (dats m 0 c).arrAt 5 cfg0.N = ranks m c := by
  refine (dats m 0 c).arrAt_eq_of_covers 5 _ (by decide +kernel) fun t hf y => ?_
  idx_vars y
  have ht := (idx t).2.2.2.2.2
  blk_simp
  rw [after0_5, ranks_at m c t y0 y1 ⟨t.val * 512 + y1.val, by omega⟩ rfl]
  refine congrArg (ranks m c) ?_
  blk_ext [(idx5 t).1]

theorem array6 : (dats m 0 c).arrAt 6 cfg0.N = counts m c := by
  refine (dats m 0 c).arrAt_eq_of_covers 6 _ (by decide +kernel) fun t hf y => ?_
  idx_vars y
  have ht := last6 t hf
  blk_simp
  rw [after0_6, counts_at m c t ht y0 y1]
  refine congrArg (counts m c) ?_
  blk_ext [(idx5 t).2]

end Cert.RouterProof

end
-- ==== Proof.RouterRankRef.lean ====
module

public import proofs.«01_k».proof.Defs
public import proofs.«01_k».proof.Proof.RouterRef
public import proofs.«01_k».proof.Proof.RouterCount

@[expose] public section

set_option maxRecDepth 16384

noncomputable section

namespace Cert.RouterProof

open Idealize.ShloMosaic Idealize.ShloMosaic.TcCoe Idealize.ShloMosaic.ValueKit Idealize.SL.Sem
open Cert.Reference9Ideal Cert.Reference9Ideal.Gen Cert.Reference9Ideal.Value

variable (W : Valuation τ sig (Elt Ideal))

theorem ref_member (n : Fin 16896) (e : Fin 32) : res_main_v77 W (ix2 n e) = member (given W n) 4 e := by
  unfold res_main_v77 res_main_v4
  simp only [id_eq]
  pointwise
  rw [ref_pick0, ref_pick1, ref_pick2, ref_pick3]
  simp only [member]

/-- Whether a row chose an expert, as one or zero, for every row number. -/
def ref_taken (p : ℕ) (e : Fin 32) : EReal := if h : p < 16896 then member (given W ⟨p, h⟩) 4 e else 0

theorem sum_ahead (U : FVec Ideal S16896x32 .f32) (n : Fin 16896) (e : Fin 32) : Host.dotGeneral dot_S16896x16896_S16896x32_S16896x32_1_0_0_1_n_n (some .fp32) (select (cmpi .slt (broadcastInDim S16896x16896 ![0, 1] bcast_S1x16896_S16896x16896_0_1 (broadcastInDim S1x16896 ![1] bcast_S16896_S1x16896_1 (iotaInDim S16896 32 0))) (broadcastInDim S16896x16896 ![0, 1] bcast_S16896x1_S16896x16896_0_1 (broadcastInDim S16896x1 ![0] bcast_S16896_S16896x1_0 (iotaInDim S16896 32 0)))) (broadcastInDim S16896x16896 ![] bcast_S_S16896x16896 (constant S_ .f32 0x3F800000#32)) (broadcastInDim S16896x16896 ![] bcast_S_S16896x16896 (constant S_ .f32 0x00000000#32))) U (ix2 n e)
    = ∑ k : Fin 16896, if k.val < n.val then U (ix2 k e) else 0 := by
  simp only [id_eq]
  pointwise
  refine Finset.sum_congr rfl fun k _ => ?_
  rw [row_lt _ _ k.isLt n.isLt]
  split <;> simp [Scalar.select]

theorem ref_ahead (n : Fin 16896) (e : Fin 32) : res_main_v96 W (ix2 n e) = upto (ref_taken W) n.val e := by
  refine (sum_ahead _ n e).trans (Eq.trans (Finset.sum_congr rfl fun k _ => ?_) (sum_first 16896 n.val n.isLt.le fun k => ref_taken W k e))
  rw [ref_member]
  unfold ref_taken
  rw [dif_pos k.isLt]

theorem ref_count (e : Fin 32) (l : Fin 128) : broadcastInDim S32x128 ![0, 1] bcast_S32x1_S32x128_0_1 (broadcastInDim S32x1 ![0] bcast_S32_S32x1_0 (fptosi 32 (Host.reduceAdd (res_main_v77 W) (constant S_ .f32 0x00000000#32) reducesTo_S16896x32_S32_d0 h_S_))) (ix2 e l)
    = FloatOps.fptosi (F := Ideal) (φ := .f32) 32 (upto (ref_taken W) 16896 e) := by
  pointwise
  refine congrArg _ ?_
  unfold upto
  rw [Finset.sum_range]
  refine Finset.sum_congr rfl fun k _ => ?_
  rw [ref_member]
  unfold ref_taken
  rw [dif_pos k.isLt]

/-- The reference's rank of a round. -/
theorem ref_rank (Y : IVec S16896 32) (n : Fin 16896) (r : ℕ) (hy : Y (ix1 n) = pick (left (given W n) r)) :
    fptosi 32 (Host.reduceAdd (select (cmpi .eq (broadcastInDim S16896x32 ![0, 1] bcast_S1x32_S16896x32_0_1 (broadcastInDim S1x32 ![1] bcast_S32_S1x32_1 (res_main_v4 W))) (broadcastInDim S16896x32 ![0, 1] bcast_S16896x1_S16896x32_0_1 (broadcastInDim S16896x1 ![0] bcast_S16896_S16896x1_0 Y))) (res_main_v96 W) (broadcastInDim S16896x32 ![] bcast_S_S16896x32 (id (constant S_ .f32 0x00000000#32)))) (constant S_ .f32 0x00000000#32) reducesTo_S16896x32_S16896_d1 h_S_) (ix1 n)
      = rankOf (given W n) r (upto (ref_taken W) n.val) := by
  unfold rankOf res_main_v4
  simp only [id_eq]
  pointwise
  refine congrArg _ (Finset.sum_congr rfl fun e _ => ?_)
  rw [hy, ref_ahead]

/-- Four rows of words under each other. -/
theorem stacked (R0 R1 R2 R3 : IVec S16896 32) (r : Fin 4) (n : Fin 16896) :
    concatenate S4x16896 0 [⟨S1x16896, ((broadcastInDim S1x16896 ![1] bcast_S16896_S1x16896_1 R0) : IVec S1x16896 32)⟩, ⟨S1x16896, ((broadcastInDim S1x16896 ![1] bcast_S16896_S1x16896_1 R1) : IVec S1x16896 32)⟩, ⟨S1x16896, ((broadcastInDim S1x16896 ![1] bcast_S16896_S1x16896_1 R2) : IVec S1x16896 32)⟩, ⟨S1x16896, ((broadcastInDim S1x16896 ![1] bcast_S16896_S1x16896_1 R3) : IVec S1x16896 32)⟩] concatenates_S1x16896_S1x16896_S1x16896_S1x16896_S4x16896_d0 (ix2 r n)
      = (![R0 (ix1 n), R1 (ix1 n), R2 (ix1 n), R3 (ix1 n)] : Fin 4 → BitVec 32) r := by
  fin_cases r
  all_goals pointwise
  all_goals rfl

/-- The reference's ranks, a row for each round. -/
theorem ref_ranks (r : Fin 4) (n : Fin 16896) :
    concatenate S4x16896 0 [⟨S1x16896, ((broadcastInDim S1x16896 ![1] bcast_S16896_S1x16896_1 (fptosi 32 (Host.reduceAdd (select (cmpi .eq (broadcastInDim S16896x32 ![0, 1] bcast_S1x32_S16896x32_0_1 (broadcastInDim S1x32 ![1] bcast_S32_S1x32_1 (res_main_v4 W))) (broadcastInDim S16896x32 ![0, 1] bcast_S16896x1_S16896x32_0_1 (broadcastInDim S16896x1 ![0] bcast_S16896_S16896x1_0 (res_main_v11 W)))) (res_main_v96 W) (broadcastInDim S16896x32 ![] bcast_S_S16896x32 (id (constant S_ .f32 0x00000000#32)))) (constant S_ .f32 0x00000000#32) reducesTo_S16896x32_S16896_d1 h_S_))) : IVec S1x16896 32)⟩, ⟨S1x16896, ((broadcastInDim S1x16896 ![1] bcast_S16896_S1x16896_1 (fptosi 32 (Host.reduceAdd (select (cmpi .eq (broadcastInDim S16896x32 ![0, 1] bcast_S1x32_S16896x32_0_1 (broadcastInDim S1x32 ![1] bcast_S32_S1x32_1 (res_main_v4 W))) (broadcastInDim S16896x32 ![0, 1] bcast_S16896x1_S16896x32_0_1 (broadcastInDim S16896x1 ![0] bcast_S16896_S16896x1_0 (res_main_v29 W)))) (res_main_v96 W) (broadcastInDim S16896x32 ![] bcast_S_S16896x32 (id (constant S_ .f32 0x00000000#32)))) (constant S_ .f32 0x00000000#32) reducesTo_S16896x32_S16896_d1 h_S_))) : IVec S1x16896 32)⟩, ⟨S1x16896, ((broadcastInDim S1x16896 ![1] bcast_S16896_S1x16896_1 (fptosi 32 (Host.reduceAdd (select (cmpi .eq (broadcastInDim S16896x32 ![0, 1] bcast_S1x32_S16896x32_0_1 (broadcastInDim S1x32 ![1] bcast_S32_S1x32_1 (res_main_v4 W))) (broadcastInDim S16896x32 ![0, 1] bcast_S16896x1_S16896x32_0_1 (broadcastInDim S16896x1 ![0] bcast_S16896_S16896x1_0 (res_main_v47 W)))) (res_main_v96 W) (broadcastInDim S16896x32 ![] bcast_S_S16896x32 (id (constant S_ .f32 0x00000000#32)))) (constant S_ .f32 0x00000000#32) reducesTo_S16896x32_S16896_d1 h_S_))) : IVec S1x16896 32)⟩, ⟨S1x16896, ((broadcastInDim S1x16896 ![1] bcast_S16896_S1x16896_1 (fptosi 32 (Host.reduceAdd (select (cmpi .eq (broadcastInDim S16896x32 ![0, 1] bcast_S1x32_S16896x32_0_1 (broadcastInDim S1x32 ![1] bcast_S32_S1x32_1 (res_main_v4 W))) (broadcastInDim S16896x32 ![0, 1] bcast_S16896x1_S16896x32_0_1 (broadcastInDim S16896x1 ![0] bcast_S16896_S16896x1_0 (res_main_v65 W)))) (res_main_v96 W) (broadcastInDim S16896x32 ![] bcast_S_S16896x32 (id (constant S_ .f32 0x00000000#32)))) (constant S_ .f32 0x00000000#32) reducesTo_S16896x32_S16896_d1 h_S_))) : IVec S1x16896 32)⟩] concatenates_S1x16896_S1x16896_S1x16896_S1x16896_S4x16896_d0 (ix2 r n)
      = rankOf (given W n) r.val (upto (ref_taken W) n.val) := by
  refine (stacked _ _ _ _ r n).trans ?_
  fin_cases r
  · exact ref_rank W _ n 0 (ref_pick0 W n)
  · exact ref_rank W _ n 1 (ref_pick1 W n)
  · exact ref_rank W _ n 2 (ref_pick2 W n)
  · exact ref_rank W _ n 3 (ref_pick3 W n)

end Cert.RouterProof

end
-- ==== Proof.RouterClaims.lean ====
module

public import proofs.«01_k».proof.Defs
public import proofs.«01_k».proof.Proof.Gen.Kernel9.Frame
public import proofs.«01_k».proof.Proof.RouterRef
public import proofs.«01_k».proof.Proof.RouterRanks
public import proofs.«01_k».proof.Proof.RouterRankRef

@[expose] public section

set_option maxRecDepth 16384

noncomputable section

namespace Cert.RouterProof

open Idealize.ShloMosaic Idealize.ShloMosaic.TcCoe Idealize.ShloMosaic.ValueKit Idealize.SL.Sem

/-- With the machine's floats, and with exact arithmetic, the run is covered and keeps its arguments. -/
theorem frame_rounded : Cert.quiescent_Kernel9 := fun m ρ _ => Cert.Kernel9.Gen.frame m ρ

theorem frame_exact : Cert.quiescent_Kernel9Ideal := fun m ρ _ => Cert.Kernel9Ideal.Gen.frame m ρ

theorem frame_ref : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- With exact arithmetic every row's experts, gates and ranks and the experts' counts are the reference's. -/
theorem value : Cert.algebraic_Kernel9Ideal_Reference9Ideal := by
  intro m ρ m' ρ' hpre hag
  refine ⟨fun c => picks m c, fun c => gates m c, fun c => ranks m c, fun c => counts m c, ?_, ?_⟩
  · exact (θ_run Cert.Kernel9Ideal.defs _ _).mono (fun r h c => ⟨(h c).1.trans (array3 m c), (h c).2.1.trans (array4 m c), (h c).2.2.1.trans (array5 m c), (h c).2.2.2.1.trans (array6 m c), (h c).2.2.2.2⟩)
      (Cert.Kernel9Ideal.Value.run_blocks (F := Ideal) m ρ)
  · refine (θ_run Cert.Reference9Ideal.defs _ _).mono (fun r h c => ?_) (Cert.Reference9Ideal.Value.run (F := Ideal) m' ρ')
    obtain ⟨h0, h1, h2⟩ := hag c
    have e : ∀ n, given (Idealize.ShloMosaic.StableHlo.launchContents m' c) n = asked m c n := by
      intro n
      unfold asked
      rw [← h0, ← h1, ← h2]
    have g : ref_taken (Idealize.ShloMosaic.StableHlo.launchContents m' c) = taken m c := by
      funext p k
      unfold ref_taken taken
      simp only [e]
    refine ⟨(h c).1.trans ?_, (h c).2.1.trans ?_, (h c).2.2.1.trans ?_, (h c).2.2.2.1.trans ?_, (h c).2.2.2.2⟩
    · funext i
      idx_vars i
      refine (ref_picks _ i0 i1).trans ?_
      rw [e]
      rfl
    · funext i
      idx_vars i
      refine (ref_gates _ i0 i1).trans ?_
      rw [e]
      rfl
    · funext i
      idx_vars i
      refine (ref_ranks _ i0 i1).trans ?_
      rw [e, g]
      rfl
    · funext i
      idx_vars i
      refine (ref_count _ i0 i1).trans ?_
      rw [g]
      rfl

end Cert.RouterProof

end
-- ==== Proof.lean ====
module

public import proofs.«01_k».proof.Defs
public import proofs.«01_k».proof.Proof.ExpertsClaims
public import proofs.«01_k».proof.Proof.ProjClaims
public import proofs.«01_k».proof.Proof.SampleClaims
public import proofs.«01_k».proof.Proof.MemKv
public import proofs.«01_k».proof.Proof.Gen.Kernel5.Frame
public import proofs.«01_k».proof.Proof.PostClaims
public import proofs.«01_k».proof.Proof.AttnClaims
public import proofs.«01_k».proof.Proof.PostSamplesClaims
public import proofs.«01_k».proof.Proof.RouterClaims

@[expose] public section

namespace Cert.Proof

/-- The certificate's claim: the experts, the prompt's and the samples' projections, the memory's keys and values, and the prompt's and the samples' output projection with its attention to the memory; the router's experts, gates, ranks and counts; the frames of the prompt's attention. -/
theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_names_experts.Gen.facts, Cert.Pre_table_of_blocks.Gen.facts,
    Cert.ExpertsProof.frame_rounded, Cert.ExpertsProof.frame_exact, Cert.ExpertsProof.frame_ref,
    Cert.ProjProof.frame_rounded, Cert.ProjProof.frame_exact, Cert.ProjProof.frame_ref,
    Cert.SampleProof.frame_rounded, Cert.SampleProof.frame_exact, Cert.SampleProof.frame_ref,
    Cert.MemKvProof.frame_rounded, Cert.MemKvProof.frame_exact, Cert.MemKvProof.frame_ref,
    Cert.PostProof.frame_rounded, Cert.PostProof.frame_exact, Cert.PostProof.frame_ref,
    Cert.AttnProof.frame_rounded, Cert.AttnProof.frame_exact, Cert.AttnProof.frame_ref,
    Cert.PostSamplesProof.frame_rounded, Cert.PostSamplesProof.frame_exact, Cert.PostSamplesProof.frame_ref,
    Cert.RouterProof.frame_rounded, Cert.RouterProof.frame_exact, Cert.RouterProof.frame_ref,
    trivial, Cert.ExpertsProof.value, trivial, Cert.ProjProof.value, trivial, Cert.SampleProof.value, trivial, Cert.MemKvProof.value, trivial, Cert.PostProof.value, Cert.AttnProof.named, trivial, Cert.PostSamplesProof.value, trivial, Cert.RouterProof.value⟩

end Cert.Proof

end
